-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_to_argmax_KernelIdeal [hPre_routed_to_argmax_KernelIdeal : Cert.Pre_routed_to_argmax_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_to_argmax_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_to_argmax_ReferenceIdeal [hPre_routed_to_argmax_ReferenceIdeal : Cert.Pre_routed_to_argmax_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_to_argmax_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_to_argmax_KernelIdeal [hKernelIdeal : Cert.KernelIdeal.Facts] [hPre_routed_to_argmax_KernelIdeal : Cert.Pre_routed_to_argmax_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_to_argmax_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_to_argmax_ReferenceIdeal [hReferenceIdeal : Cert.ReferenceIdeal.Facts] [hPre_routed_to_argmax_ReferenceIdeal : Cert.Pre_routed_to_argmax_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_to_argmax_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_to_argmax_KernelIdeal [hKernelIdeal : Cert.KernelIdeal.Facts] [hReferenceIdeal : Cert.ReferenceIdeal.Facts] [hPre_routed_to_argmax_KernelIdeal : Cert.Pre_routed_to_argmax_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_to_argmax_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_to_argmax_KernelIdeal : Cert.Pre_routed_to_argmax_KernelIdeal.Facts) (hPre_routed_to_argmax_ReferenceIdeal : Cert.Pre_routed_to_argmax_ReferenceIdeal.Facts),
    quiescent_Kernel (hKernel := hKernel)
    ∧ quiescent_KernelIdeal (hKernelIdeal := hKernelIdeal)
    ∧ quiescent_KernelIdeal_pre_routed_to_argmax_KernelIdeal (hKernelIdeal := hKernelIdeal) (hPre_routed_to_argmax_KernelIdeal := hPre_routed_to_argmax_KernelIdeal)
    ∧ quiescent_ReferenceIdeal (hReferenceIdeal := hReferenceIdeal)
    ∧ quiescent_ReferenceIdeal_pre_routed_to_argmax_ReferenceIdeal (hReferenceIdeal := hReferenceIdeal) (hPre_routed_to_argmax_ReferenceIdeal := hPre_routed_to_argmax_ReferenceIdeal)
    ∧ preserves_Kernel_KernelIdeal
    ∧ algebraic_KernelIdeal_ReferenceIdeal_pre_routed_to_argmax_KernelIdeal (hKernelIdeal := hKernelIdeal) (hReferenceIdeal := hReferenceIdeal) (hPre_routed_to_argmax_KernelIdeal := hPre_routed_to_argmax_KernelIdeal)
-- ==== Pre_routed_to_argmax_KernelIdeal.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S1024x1024 : Shape := ⟨2, ![1024, 1024]⟩
abbrev S2048x32 : Shape := ⟨2, ![2048, 32]⟩
abbrev S_ : Shape := ⟨0, ![]⟩
abbrev S2048 : Shape := ⟨1, ![2048]⟩
abbrev S32 : Shape := ⟨1, ![32]⟩
abbrev S1x32 : Shape := ⟨2, ![1, 32]⟩

class Facts : Prop where
  reducesTo_S2048x32_S2048_d1 : S2048x32.ReducesTo [1] S2048
  h_S_ : 0 < S_.numel
  bcast_S2048_S2048x1_0 : S2048.BroadcastsInDim S2048x1 (![0] : Fin 1 → Fin S2048x1.rank)
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  bcast_S_S2048x1 : S_.BroadcastsInDim S2048x1 (![] : Fin 0 → Fin S2048x1.rank)
  reducesTo_S2048x1_S_d0_1 : S2048x1.ReducesTo [0, 1] S_
  reducesTo_S2048x32_S_d0_1 : S2048x32.ReducesTo [0, 1] S_
  natLt_1_32 : 1 < 32
  reducesTo_S2048x32_S32_d0 : S2048x32.ReducesTo [0] S32
  bcast_S_S32 : S_.BroadcastsInDim S32 (![] : Fin 0 → Fin S32.rank)
  reducesTo_S32_S_d0 : S32.ReducesTo [0] S_
  dot_S2048x1024_S1024x32_S2048x32_1_0_0_1_n_n_wf : DotDims.WF S2048x1024 S1024x32 S2048x32 [1] [0] [0] [1] [] []

variable [Facts]

def dot_S2048x1024_S1024x32_S2048x32_1_0_0_1_n_n : DotDims S2048x1024 S1024x32 S2048x32 where
  lhsContracting := [1]
  rhsContracting := [0]
  lhsNonContracting := [0]
  rhsNonContracting := [1]
  lhsBatch := []
  rhsBatch := []
  wf := dot_S2048x1024_S1024x32_S2048x32_1_0_0_1_n_n_wf
def fn_part1 {F : FTy → Type} [FloatOps F] (main_v2 : FVec F S2048x1 .f32) (main_v7 : IVec S2048x32 1) (main_v13 : IVec S_ 1) (main_v18 : IVec S_ 1) : IVec S_ 1 :=
  let main_v19 : FVec F S2048x1 .f32 := Host.absf main_v2
  let main_cst_3 : FVec F S_ .f32 := constant S_ .f32 0x7F800000#32
  let main_v20 : FVec F S2048x1 .f32 := broadcastInDim S2048x1 ![] bcast_S_S2048x1 main_cst_3
  let main_v21 : IVec S2048x1 1 := cmpf .olt main_v19 main_v20
  let main_c_4 : IVec S_ 1 := constantI S_ 1 1#1
  let main_v22 : IVec S_ 1 := (fun x v => Host.reduce IntOp.andi x v reducesTo_S2048x1_S_d0_1 h_S_) main_v21 main_c_4
  let main_v23 : IVec S2048x32 32 := (extui 32 · natLt_1_32) main_v7
  let main_c_5 : IVec S_ 32 := constantI S_ 32 0#32
  let main_v24 : IVec S32 32 := (fun x v => Host.reduce IntOp.addi x v reducesTo_S2048x32_S32_d0 h_S_) main_v23 main_c_5
  let main_c_6 : IVec S_ 32 := constantI S_ 32 128#32
  let main_v25 : IVec S32 32 := broadcastInDim S32 ![] bcast_S_S32 main_c_6
  let main_v26 : IVec S32 1 := cmpi .sle main_v24 main_v25
  let main_c_7 : IVec S_ 1 := constantI S_ 1 1#1
  let main_v27 : IVec S_ 1 := (fun x v => Host.reduce IntOp.andi x v reducesTo_S32_S_d0 h_S_) main_v26 main_c_7
  let main_v28 : IVec S_ 1 := andi main_v13 main_v18
  let main_v29 : IVec S_ 1 := andi main_v28 main_v22
  let main_v30 : IVec S_ 1 := andi main_v29 main_v27
  main_v30

def fn {F : FTy → Type} [FloatOps F] (main_arg0 : FVec F S2048x1024 .f32) (main_arg1 : FVec F S1024x32 .f32) (main_arg2 : IVec S2048x1 32) (main_arg3 : FVec F S8x1024x1024 .f32) (main_arg4 : FVec F S1024x1024 .f32) : IVec S_ 1 :=
  let main_v0 : FVec F S2048x32 .f32 := (fun l r => Host.dotGeneral dot_S2048x1024_S1024x32_S2048x32_1_0_0_1_n_n none l r) main_arg0 main_arg1
  let main_cst : FVec F S_ .f32 := constant S_ .f32 0xFF800000#32
  let main_v1 : FVec F S2048 .f32 := (fun x v => Host.reduce FloatOps.maximumf x v reducesTo_S2048x32_S2048_d1 h_S_) main_v0 main_cst
  let main_v2 : FVec F S2048x1 .f32 := broadcastInDim S2048x1 ![0] bcast_S2048_S2048x1_0 main_v1
  let main_v3 : IVec S32 32 := iotaInDim S32 32 0
  let main_v4 : IVec S1x32 32 := broadcastInDim S1x32 ![1] bcast_S32_S1x32_1 main_v3
  let main_v5 : IVec S2048x32 32 := broadcastInDim S2048x32 ![0, 1] bcast_S2048x1_S2048x32_0_1 main_arg2
  let main_v6 : IVec S2048x32 32 := broadcastInDim S2048x32 ![0, 1] bcast_S1x32_S2048x32_0_1 main_v4
  let main_v7 : IVec S2048x32 1 := cmpi .eq main_v5 main_v6
  let main_c : IVec S_ 32 := constantI S_ 32 0#32
  let main_v8 : IVec S2048x1 32 := broadcastInDim S2048x1 ![] bcast_S_S2048x1 main_c
  let main_v9 : IVec S2048x1 1 := cmpi .sge main_arg2 main_v8
  let main_c_0 : IVec S_ 32 := constantI S_ 32 32#32
  let main_v10 : IVec S2048x1 32 := broadcastInDim S2048x1 ![] bcast_S_S2048x1 main_c_0
  let main_v11 : IVec S2048x1 1 := cmpi .slt main_arg2 main_v10
  let main_v12 : IVec S2048x1 1 := andi main_v9 main_v11
  let main_c_1 : IVec S_ 1 := constantI S_ 1 1#1
  let main_v13 : IVec S_ 1 := (fun x v => Host.reduce IntOp.andi x v reducesTo_S2048x1_S_d0_1 h_S_) main_v12 main_c_1
  let main_v14 : IVec S2048x32 1 := noti main_v7
  let main_v15 : FVec F S2048x32 .f32 := broadcastInDim S2048x32 ![0, 1] bcast_S2048x1_S2048x32_0_1 main_v2
  let main_v16 : IVec S2048x32 1 := cmpf .oeq main_v0 main_v15
  let main_v17 : IVec S2048x32 1 := ori main_v14 main_v16
  let main_c_2 : IVec S_ 1 := constantI S_ 1 1#1
  let main_v18 : IVec S_ 1 := (fun x v => Host.reduce IntOp.andi x v reducesTo_S2048x32_S_d0_1 h_S_) main_v17 main_c_2
  fn_part1 (F := F) main_v2 main_v7 main_v13 main_v18
-- ==== Pre_routed_to_argmax_ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S1024x1024 : Shape := ⟨2, ![1024, 1024]⟩
abbrev S2048x32 : Shape := ⟨2, ![2048, 32]⟩
abbrev S_ : Shape := ⟨0, ![]⟩
abbrev S2048 : Shape := ⟨1, ![2048]⟩
abbrev S32 : Shape := ⟨1, ![32]⟩
abbrev S1x32 : Shape := ⟨2, ![1, 32]⟩

class Facts : Prop where
  reducesTo_S2048x32_S2048_d1 : S2048x32.ReducesTo [1] S2048
  h_S_ : 0 < S_.numel
  bcast_S2048_S2048x1_0 : S2048.BroadcastsInDim S2048x1 (![0] : Fin 1 → Fin S2048x1.rank)
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  bcast_S_S2048x1 : S_.BroadcastsInDim S2048x1 (![] : Fin 0 → Fin S2048x1.rank)
  reducesTo_S2048x1_S_d0_1 : S2048x1.ReducesTo [0, 1] S_
  reducesTo_S2048x32_S_d0_1 : S2048x32.ReducesTo [0, 1] S_
  natLt_1_32 : 1 < 32
  reducesTo_S2048x32_S32_d0 : S2048x32.ReducesTo [0] S32
  bcast_S_S32 : S_.BroadcastsInDim S32 (![] : Fin 0 → Fin S32.rank)
  reducesTo_S32_S_d0 : S32.ReducesTo [0] S_
  dot_S2048x1024_S1024x32_S2048x32_1_0_0_1_n_n_wf : DotDims.WF S2048x1024 S1024x32 S2048x32 [1] [0] [0] [1] [] []

variable [Facts]

def dot_S2048x1024_S1024x32_S2048x32_1_0_0_1_n_n : DotDims S2048x1024 S1024x32 S2048x32 where
  lhsContracting := [1]
  rhsContracting := [0]
  lhsNonContracting := [0]
  rhsNonContracting := [1]
  lhsBatch := []
  rhsBatch := []
  wf := dot_S2048x1024_S1024x32_S2048x32_1_0_0_1_n_n_wf
def fn_part1 {F : FTy → Type} [FloatOps F] (main_v2 : FVec F S2048x1 .f32) (main_v7 : IVec S2048x32 1) (main_v13 : IVec S_ 1) (main_v18 : IVec S_ 1) : IVec S_ 1 :=
  let main_v19 : FVec F S2048x1 .f32 := Host.absf main_v2
  let main_cst_3 : FVec F S_ .f32 := constant S_ .f32 0x7F800000#32
  let main_v20 : FVec F S2048x1 .f32 := broadcastInDim S2048x1 ![] bcast_S_S2048x1 main_cst_3
  let main_v21 : IVec S2048x1 1 := cmpf .olt main_v19 main_v20
  let main_c_4 : IVec S_ 1 := constantI S_ 1 1#1
  let main_v22 : IVec S_ 1 := (fun x v => Host.reduce IntOp.andi x v reducesTo_S2048x1_S_d0_1 h_S_) main_v21 main_c_4
  let main_v23 : IVec S2048x32 32 := (extui 32 · natLt_1_32) main_v7
  let main_c_5 : IVec S_ 32 := constantI S_ 32 0#32
  let main_v24 : IVec S32 32 := (fun x v => Host.reduce IntOp.addi x v reducesTo_S2048x32_S32_d0 h_S_) main_v23 main_c_5
  let main_c_6 : IVec S_ 32 := constantI S_ 32 128#32
  let main_v25 : IVec S32 32 := broadcastInDim S32 ![] bcast_S_S32 main_c_6
  let main_v26 : IVec S32 1 := cmpi .sle main_v24 main_v25
  let main_c_7 : IVec S_ 1 := constantI S_ 1 1#1
  let main_v27 : IVec S_ 1 := (fun x v => Host.reduce IntOp.andi x v reducesTo_S32_S_d0 h_S_) main_v26 main_c_7
  let main_v28 : IVec S_ 1 := andi main_v13 main_v18
  let main_v29 : IVec S_ 1 := andi main_v28 main_v22
  let main_v30 : IVec S_ 1 := andi main_v29 main_v27
  main_v30

def fn {F : FTy → Type} [FloatOps F] (main_arg0 : FVec F S2048x1024 .f32) (main_arg1 : FVec F S1024x32 .f32) (main_arg2 : IVec S2048x1 32) (main_arg3 : FVec F S32x1024x1024 .f32) (main_arg4 : FVec F S1024x1024 .f32) : IVec S_ 1 :=
  let main_v0 : FVec F S2048x32 .f32 := (fun l r => Host.dotGeneral dot_S2048x1024_S1024x32_S2048x32_1_0_0_1_n_n none l r) main_arg0 main_arg1
  let main_cst : FVec F S_ .f32 := constant S_ .f32 0xFF800000#32
  let main_v1 : FVec F S2048 .f32 := (fun x v => Host.reduce FloatOps.maximumf x v reducesTo_S2048x32_S2048_d1 h_S_) main_v0 main_cst
  let main_v2 : FVec F S2048x1 .f32 := broadcastInDim S2048x1 ![0] bcast_S2048_S2048x1_0 main_v1
  let main_v3 : IVec S32 32 := iotaInDim S32 32 0
  let main_v4 : IVec S1x32 32 := broadcastInDim S1x32 ![1] bcast_S32_S1x32_1 main_v3
  let main_v5 : IVec S2048x32 32 := broadcastInDim S2048x32 ![0, 1] bcast_S2048x1_S2048x32_0_1 main_arg2
  let main_v6 : IVec S2048x32 32 := broadcastInDim S2048x32 ![0, 1] bcast_S1x32_S2048x32_0_1 main_v4
  let main_v7 : IVec S2048x32 1 := cmpi .eq main_v5 main_v6
  let main_c : IVec S_ 32 := constantI S_ 32 0#32
  let main_v8 : IVec S2048x1 32 := broadcastInDim S2048x1 ![] bcast_S_S2048x1 main_c
  let main_v9 : IVec S2048x1 1 := cmpi .sge main_arg2 main_v8
  let main_c_0 : IVec S_ 32 := constantI S_ 32 32#32
  let main_v10 : IVec S2048x1 32 := broadcastInDim S2048x1 ![] bcast_S_S2048x1 main_c_0
  let main_v11 : IVec S2048x1 1 := cmpi .slt main_arg2 main_v10
  let main_v12 : IVec S2048x1 1 := andi main_v9 main_v11
  let main_c_1 : IVec S_ 1 := constantI S_ 1 1#1
  let main_v13 : IVec S_ 1 := (fun x v => Host.reduce IntOp.andi x v reducesTo_S2048x1_S_d0_1 h_S_) main_v12 main_c_1
  let main_v14 : IVec S2048x32 1 := noti main_v7
  let main_v15 : FVec F S2048x32 .f32 := broadcastInDim S2048x32 ![0, 1] bcast_S2048x1_S2048x32_0_1 main_v2
  let main_v16 : IVec S2048x32 1 := cmpf .oeq main_v0 main_v15
  let main_v17 : IVec S2048x32 1 := ori main_v14 main_v16
  let main_c_2 : IVec S_ 1 := constantI S_ 1 1#1
  let main_v18 : IVec S_ 1 := (fun x v => Host.reduce IntOp.andi x v reducesTo_S2048x32_S_d0_1 h_S_) main_v17 main_c_2
  fn_part1 (F := F) main_v2 main_v7 main_v13 main_v18
-- ==== Kernel.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S1024x1024 : Shape := ⟨2, ![1024, 1024]⟩
abbrev S_ : Shape := ⟨0, ![]⟩
abbrev S2048x32 : Shape := ⟨2, ![2048, 32]⟩
abbrev S2048 : Shape := ⟨1, ![2048]⟩
abbrev S8 : Shape := ⟨1, ![8]⟩
abbrev S1x8 : Shape := ⟨2, ![1, 8]⟩
abbrev S2048x8 : Shape := ⟨2, ![2048, 8]⟩
abbrev S1x2048 : Shape := ⟨2, ![1, 2048]⟩
abbrev S2x1024x1024 : Shape := ⟨3, ![2, 1024, 1024]⟩
abbrev S3x512x512 : Shape := ⟨3, ![3, 512, 512]⟩
abbrev S4x512x512 : Shape := ⟨3, ![4, 512, 512]⟩
abbrev S2 : Shape := ⟨1, ![2]⟩
abbrev S12 : Shape := ⟨1, ![12]⟩
abbrev S1 : Shape := ⟨1, ![1]⟩
abbrev S1x1024x1024 : Shape := ⟨3, ![1, 1024, 1024]⟩
abbrev S1024x2048 : Shape := ⟨2, ![1024, 2048]⟩
abbrev S128x1024 : Shape := ⟨2, ![128, 1024]⟩
abbrev S512x1024 : Shape := ⟨2, ![512, 1024]⟩
abbrev S512x1 : Shape := ⟨2, ![512, 1]⟩
abbrev S512x512 : Shape := ⟨2, ![512, 512]⟩
abbrev S1x512x512 : Shape := ⟨3, ![1, 512, 512]⟩
abbrev S1024x512 : Shape := ⟨2, ![1024, 512]⟩

abbrev nBuf : Space → Nat
  | .hbm => 70
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x1, .i32⟩
  | .hbm, ⟨3, _⟩ => ⟨S8x1024x1024, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S2048x32, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S_, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S2048, .i1⟩
  | .hbm, ⟨35, _⟩ => ⟨S2048x1, .i32⟩
  | .hbm, ⟨36, _⟩ => ⟨S8, .i32⟩
  | .hbm, ⟨37, _⟩ => ⟨S1x8, .i32⟩
  | .hbm, ⟨38, _⟩ => ⟨S2048x8, .i32⟩
  | .hbm, ⟨39, _⟩ => ⟨S2048x8, .i32⟩
  | .hbm, ⟨40, _⟩ => ⟨S2048x8, .i1⟩
  | .hbm, ⟨41, _⟩ => ⟨S2048x8, .i32⟩
  | .hbm, ⟨42, _⟩ => ⟨S_, .i32⟩
  | .hbm, ⟨43, _⟩ => ⟨S_, .i32⟩
  | .hbm, ⟨44, _⟩ => ⟨S2048x8, .i32⟩
  | .hbm, ⟨45, _⟩ => ⟨S_, .i32⟩
  | .hbm, ⟨46, _⟩ => ⟨S2048x8, .i32⟩
  | .hbm, ⟨47, _⟩ => ⟨S2048x8, .i32⟩
  | .hbm, ⟨48, _⟩ => ⟨S_, .i32⟩
  | .hbm, ⟨49, _⟩ => ⟨S_, .i32⟩
  | .hbm, ⟨50, _⟩ => ⟨S2048x8, .i32⟩
  | .hbm, ⟨51, _⟩ => ⟨S2048x8, .i32⟩
  | .hbm, ⟨52, _⟩ => ⟨S_, .i32⟩
  | .hbm, ⟨53, _⟩ => ⟨S2048, .i32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S_, .i32⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048x1, .i32⟩
  | .hbm, ⟨67, _⟩ => ⟨S1x2048, .i32⟩
  | .hbm, ⟨68, _⟩ => ⟨S2048x1, .f32⟩
  | .hbm, ⟨69, _⟩ => ⟨S2048x1024, .f32⟩
  | .local _ .vmem, ⟨0, _⟩ => ⟨S2048x1024, .f32⟩
  | .local _ .vmem, ⟨1, _⟩ => ⟨S2048x1, .i32⟩
  | .local _ .vmem, ⟨2, _⟩ => ⟨S1x2048, .i32⟩
  | .local _ .vmem, ⟨3, _⟩ => ⟨S2048x1, .f32⟩
  | .local _ .vmem, ⟨4, _⟩ => ⟨S1024x1024, .f32⟩
  | .local _ .vmem, ⟨5, _⟩ => ⟨S2048x1024, .f32⟩
  | .local _ .vmem, ⟨6, _⟩ => ⟨S2x1024x1024, .f32⟩
  | .local _ .vmem, ⟨7, _⟩ => ⟨S1024x1024, .bf16⟩
  | .local _ .vmem, ⟨8, _⟩ => ⟨S3x512x512, .bf16⟩
  | .local _ .vmem, ⟨9, _⟩ => ⟨S3x512x512, .bf16⟩
  | .local _ .vmem, ⟨10, _⟩ => ⟨S3x512x512, .bf16⟩
  | .local _ .vmem, ⟨11, _⟩ => ⟨S3x512x512, .bf16⟩
  | .local _ .vmem, ⟨12, _⟩ => ⟨S4x512x512, .bf16⟩
  | .local _ .vmem, ⟨13, _⟩ => ⟨S4x512x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_call0_c : Ref sig .tc := ⟨.hbm, 42, rfl⟩
abbrev main_call0_call0_v0 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_call1_v0 : Ref sig .tc := ⟨.hbm, 49, rfl⟩
abbrev main_call1_v1 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_call2_v0 : Ref sig .tc := ⟨.hbm, 63, rfl⟩
abbrev main_call2_v1 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v202 : BitVec 32 := Scalar.muli v2 c512_i32
  let v204 : Index := Scalar.indexCast v202
  let c0_170 : Index := 0#32
  ![v204.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v202 : BitVec 32 := Scalar.muli v2 c512_i32
  let v218 : Index := Scalar.indexCast v202
  let c0_174 : Index := 0#32
  ![v218.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_179 : BitVec 32 := 512#32
  let v229 : BitVec 32 := Scalar.muli v2 c512_i32_179
  let v230 : Index := Scalar.indexCast v229
  let c0_180 : Index := 0#32
  ![v230.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_184 : BitVec 32 := 512#32
  let v237 : BitVec 32 := Scalar.muli v2 c512_i32_184
  let v238 : Index := Scalar.indexCast v237
  let c512_185 : Index := 512#32
  ![v238.toNat, 512]
def k0_dev3 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_193 : BitVec 32 := 1#32
  let v245 : BitVec 32 := Scalar.muli v7 c1_i32_193
  let v246 : BitVec 32 := Scalar.addi c0_i32_194 v245
  v246.toNat
def k0_dev4 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_203 : BitVec 32 := 1#32
  let v255 : BitVec 32 := Scalar.muli v5 c1_i32_203
  let v256 : BitVec 32 := Scalar.addi c0_i32_204 v255
  v256.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_163 : BitVec 32 := 1#32
  let v195 : BitVec 32 := Scalar.subi v2 c1_i32_163
  let c4_i32_164 : BitVec 32 := 4#32
  let v196 : BitVec 32 := Scalar.addi v195 c4_i32_164
  let c4_i32_165 : BitVec 32 := 4#32
  let v197 : BitVec 32 := Scalar.remsi v196 c4_i32_165
  let c512_i32_209 : BitVec 32 := 512#32
  let v265 : BitVec 32 := Scalar.muli v197 c512_i32_209
  let v267 : Index := Scalar.indexCast v265
  let c0_210 : Index := 0#32
  ![v267.toNat, 0]
def k0_off6 (d0 : Dev nD) (c1_i32_163 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v195 : BitVec 32 := Scalar.subi v2 c1_i32_163
  let c4_i32_164 : BitVec 32 := 4#32
  let v196 : BitVec 32 := Scalar.addi v195 c4_i32_164
  let c4_i32_165 : BitVec 32 := 4#32
  let v197 : BitVec 32 := Scalar.remsi v196 c4_i32_165
  let c512_i32_209 : BitVec 32 := 512#32
  let v265 : BitVec 32 := Scalar.muli v197 c512_i32_209
  let v282 : Index := Scalar.indexCast v265
  let c0_214 : Index := 0#32
  ![v282.toNat, 0]
def k0_off7 (d0 : Dev nD) (c1_i32_166 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v198 : BitVec 32 := Scalar.addi v2 c1_i32_166
  let c4_i32_167 : BitVec 32 := 4#32
  let v199 : BitVec 32 := Scalar.remsi v198 c4_i32_167
  let c512_i32_215 : BitVec 32 := 512#32
  let v284 : BitVec 32 := Scalar.muli v199 c512_i32_215
  let v286 : Index := Scalar.indexCast v284
  let c0_216 : Index := 0#32
  ![v286.toNat, 0]
def k0_off8 (d0 : Dev nD) (c1_i32_166 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v198 : BitVec 32 := Scalar.addi v2 c1_i32_166
  let c4_i32_167 : BitVec 32 := 4#32
  let v199 : BitVec 32 := Scalar.remsi v198 c4_i32_167
  let c512_i32_215 : BitVec 32 := 512#32
  let v284 : BitVec 32 := Scalar.muli v199 c512_i32_215
  let v301 : Index := Scalar.indexCast v284
  let c512_220 : Index := 512#32
  ![v301.toNat, 512]
def k0_dev5 (d0 : Dev nD) : Nat :=
  let c0_i32_286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_285 : BitVec 32 := 1#32
  let v367 : BitVec 32 := Scalar.muli v7 c1_i32_285
  let v368 : BitVec 32 := Scalar.addi c0_i32_286 v367
  v368.toNat
def k0_dev6 (d0 : Dev nD) : Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_295 : BitVec 32 := 1#32
  let v377 : BitVec 32 := Scalar.muli v5 c1_i32_295
  let v378 : BitVec 32 := Scalar.addi c0_i32_296 v377
  v378.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_168 : BitVec 32 := 2#32
  let v200 : BitVec 32 := Scalar.addi v2 c2_i32_168
  let c4_i32_169 : BitVec 32 := 4#32
  let v201 : BitVec 32 := Scalar.remsi v200 c4_i32_169
  let c512_i32_301 : BitVec 32 := 512#32
  let v387 : BitVec 32 := Scalar.muli v201 c512_i32_301
  let v403 : Index := Scalar.indexCast v387
  let c0_306 : Index := 0#32
  ![v403.toNat, 0]
def k0_off10 (d0 : Dev nD) (c2_i32_168 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v200 : BitVec 32 := Scalar.addi v2 c2_i32_168
  let c4_i32_169 : BitVec 32 := 4#32
  let v201 : BitVec 32 := Scalar.remsi v200 c4_i32_169
  let c512_i32_345 : BitVec 32 := 512#32
  let v433 : BitVec 32 := Scalar.muli v201 c512_i32_345
  let v434 : Index := Scalar.indexCast v433
  let c0_346 : Index := 0#32
  ![v434.toNat, 0]
def k0_dev7 (d0 : Dev nD) : Nat :=
  let c0_i32_371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_370 : BitVec 32 := 1#32
  let v469 : BitVec 32 := Scalar.muli v7 c1_i32_370
  let v470 : BitVec 32 := Scalar.addi c0_i32_371 v469
  v470.toNat
def k0_dev8 (d0 : Dev nD) : Nat :=
  let c0_i32_381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_380 : BitVec 32 := 1#32
  let v479 : BitVec 32 := Scalar.muli v5 c1_i32_380
  let v480 : BitVec 32 := Scalar.addi c0_i32_381 v479
  v480.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_163 : BitVec 32 := 1#32
  let v195 : BitVec 32 := Scalar.subi v2 c1_i32_163
  let c4_i32_164 : BitVec 32 := 4#32
  let v196 : BitVec 32 := Scalar.addi v195 c4_i32_164
  let c4_i32_165 : BitVec 32 := 4#32
  let v197 : BitVec 32 := Scalar.remsi v196 c4_i32_165
  let c512_i32_392 : BitVec 32 := 512#32
  let v508 : BitVec 32 := Scalar.muli v197 c512_i32_392
  let v525 : Index := Scalar.indexCast v508
  let c512_397 : Index := 512#32
  ![v525.toNat, 512]
def k0_dev9 (d0 : Dev nD) : Nat :=
  let c0_i32_467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_466 : BitVec 32 := 1#32
  let v596 : BitVec 32 := Scalar.muli v7 c1_i32_466
  let v597 : BitVec 32 := Scalar.addi c0_i32_467 v596
  v597.toNat
def k0_dev10 (d0 : Dev nD) : Nat :=
  let c0_i32_476 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_475 : BitVec 32 := 1#32
  let v606 : BitVec 32 := Scalar.muli v5 c1_i32_475
  let v607 : BitVec 32 := Scalar.addi c0_i32_476 v606
  v607.toNat
def k0_dev11 (d0 : Dev nD) : Nat :=
  let c0_i32_539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_538 : BitVec 32 := 1#32
  let v661 : BitVec 32 := Scalar.muli v7 c1_i32_538
  let v662 : BitVec 32 := Scalar.addi c0_i32_539 v661
  v662.toNat
def k0_dev12 (d0 : Dev nD) : Nat :=
  let c0_i32_548 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_547 : BitVec 32 := 1#32
  let v671 : BitVec 32 := Scalar.muli v5 c1_i32_547
  let v672 : BitVec 32 := Scalar.addi c0_i32_548 v671
  v672.toNat
def k0_dev13 (d0 : Dev nD) : Nat :=
  let c0_i32_610 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_609 : BitVec 32 := 1#32
  let v726 : BitVec 32 := Scalar.muli v7 c1_i32_609
  let v727 : BitVec 32 := Scalar.addi c0_i32_610 v726
  v727.toNat
def k0_dev14 (d0 : Dev nD) : Nat :=
  let c0_i32_619 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_618 : BitVec 32 := 1#32
  let v736 : BitVec 32 := Scalar.muli v5 c1_i32_618
  let v737 : BitVec 32 := Scalar.addi c0_i32_619 v736
  v737.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S1024x1024 : Shape := ⟨2, ![1024, 1024]⟩
abbrev S2048x32 : Shape := ⟨2, ![2048, 32]⟩
abbrev S_ : Shape := ⟨0, ![]⟩
abbrev S2048 : Shape := ⟨1, ![2048]⟩
abbrev S2048x1x1 : Shape := ⟨3, ![2048, 1, 1]⟩
abbrev S1 : Shape := ⟨1, ![1]⟩
abbrev S1x1x1 : Shape := ⟨3, ![1, 1, 1]⟩
abbrev S2048x1024x1024 : Shape := ⟨3, ![2048, 1024, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x1, .i32⟩
  | .hbm, ⟨3, _⟩ => ⟨S32x1024x1024, .f32⟩
  | .hbm, ⟨4, _⟩ => ⟨S1024x1024, .f32⟩
  | .hbm, ⟨5, _⟩ => ⟨S2048x32, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x32, .f32⟩
  | .hbm, ⟨10, _⟩ => ⟨S2048x32, .f32⟩
  | .hbm, ⟨11, _⟩ => ⟨S2048x32, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x32, .f32⟩
  | .hbm, ⟨16, _⟩ => ⟨S2048x32, .f32⟩
  | .hbm, ⟨17, _⟩ => ⟨S2048x1024, .f32⟩
  | .hbm, ⟨18, _⟩ => ⟨S_, .i32⟩
  | .hbm, ⟨19, _⟩ => ⟨S2048x1, .i32⟩
  | .hbm, ⟨20, _⟩ => ⟨S2048x1, .i1⟩
  | .hbm, ⟨21, _⟩ => ⟨S_, .i32⟩
  | .hbm, ⟨22, _⟩ => ⟨S2048x1, .i32⟩
  | .hbm, ⟨23, _⟩ => ⟨S2048x1, .i32⟩
  | .hbm, ⟨24, _⟩ => ⟨S2048x1, .i32⟩
  | .hbm, ⟨25, _⟩ => ⟨S2048x1x1, .i32⟩
  | .hbm, ⟨26, _⟩ => ⟨S1, .i32⟩
  | .hbm, ⟨27, _⟩ => ⟨S_, .i32⟩
  | .hbm, ⟨28, _⟩ => ⟨S2048x1x1, .i32⟩
  | .hbm, ⟨29, _⟩ => ⟨S2048x1x1, .i1⟩
  | .hbm, ⟨30, _⟩ => ⟨S1x1x1, .i32⟩
  | .hbm, ⟨31, _⟩ => ⟨S2048x1x1, .i32⟩
  | .hbm, ⟨32, _⟩ => ⟨S2048x1x1, .i1⟩
  | .hbm, ⟨33, _⟩ => ⟨S2048x1x1, .i1⟩
  | .hbm, ⟨34, _⟩ => ⟨S_, .i1⟩
  | .hbm, ⟨35, _⟩ => ⟨S2048x1, .i1⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048x1, .i32⟩
  | .hbm, ⟨49, _⟩ => ⟨S2048x1024x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Proof.Base.lean ====
/-
The vocabulary of the kernel's proof: the ring of four devices, the resource algebra, and rules for single loads and
stores through a rectangle of a buffer, stated over what the rectangle READS.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Ring
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's algebra: cells are semaphores of a device, duties are named by a Boolean. -/
abbrev UB : Type := URounds (GSem nD τ sig) Bool
/-- Beside the pipeline library's own copy. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The ring -/

set_option backward.proofsInPublic true in
/-- The right neighbour. -/
def rt (c : Dev nD) : Dev nD := ⟨(c.val + 1) % 4, Nat.mod_lt _ (by decide)⟩
set_option backward.proofsInPublic true in
/-- The left neighbour. -/
def lf (c : Dev nD) : Dev nD := ⟨(c.val + 3) % 4, Nat.mod_lt _ (by decide)⟩
theorem lf_rt (c : Dev nD) : lf (rt c) = c := by revert c; decide
theorem rt_lf (c : Dev nD) : rt (lf c) = c := by revert c; decide
theorem lf_ne_rt (c : Dev nD) : lf c ≠ rt c := by revert c; decide
/-- The ring's rotation. -/
def ring : Dev nD ≃ Dev nD := ⟨rt, lf, lf_rt, rt_lf⟩

/-! ## What a view reads, and whole buffers in tiles -/

/-- The view's elements on device `c`, held whole, reading `v`. -/
def sl {sp : Space} {s : Shape} {e : EltTy} (V : View sig .tc sp s e) (c : Dev nD) (v : s.Idx → Elt F e) : sProp 𝕄 :=
  iprop(∃ f : Buf (Elt F) (V.loc (c : Thread nD τ)), ⌜V.read (Elt F) f = v⌝ ∗ (V.loc (c : Thread nD τ) ↦[V.set]{fullShare} f))

instance sl_storable {sp : Space} {s : Shape} {e : EltTy} (V : View sig .tc sp s e) (c : Dev nD) (v : s.Idx → Elt F e) :
    BI.Storable (upEmb : UEmb _ 𝕄) (sl V c v) := by unfold sl; infer_instance

/-- The view's elements on device `c` at contents not chosen. -/
def slAny {sp : Space} {s : Shape} {e : EltTy} (V : View sig .tc sp s e) (c : Dev nD) : sProp 𝕄 :=
  iprop(∃ f : Buf (Elt F) (V.loc (c : Thread nD τ)), (V.loc (c : Thread nD τ) ↦[V.set]{fullShare} f))

instance slAny_storable {sp : Space} {s : Shape} {e : EltTy} (V : View sig .tc sp s e) (c : Dev nD) :
    BI.Storable (upEmb : UEmb _ 𝕄) (slAny (F := F) V c) := by unfold slAny; infer_instance

theorem sl_any {sp : Space} {s : Shape} {e : EltTy} (V : View sig .tc sp s e) (c : Dev nD) (v : s.Idx → Elt F e) :
    (sl V c v : sProp 𝕄) ⊢ slAny V c := by
  unfold sl slAny
  iintro ⟨%f, -, H⟩
  iexists f; iexact H

variable {α : Type}

/-- A load through a rectangle whose elements are held returns what they read. -/
theorem wp_load_sl {Q : α → sProp (MT nD τ sig Unit (Elt F) ℕ UU ℕ)} {S : Shape} {e : EltTy} {M : Memref sig .tc .vmem S e} {r : Rect S} {hl : M.view.LoadsAt r.toLoadRect}
    {k : (r.shape.Idx → Elt F e) → Prog (TpuEff nD τ sig (Elt F) Λ₀ .tc) α} {c : Dev nD} {v : r.shape.Idx → Elt F e} :
    (sl (M.view.slice r) c v : sProp 𝕄)
      ⊢ iprop((sl (M.view.slice r) c v -∗ wp frame (wpE (defs₀ (F := F)) 𝒱₀ c none) Set.univ (k v) Q)
        -∗ wp frame (wpE (defs₀ (F := F)) 𝒱₀ c none) Set.univ (.op (.load M r.toLoadRect hl) k) Q) := by
  unfold sl
  iintro ⟨%f, %hf, H⟩ Hk
  subst hf
  iapply (wp_load_rect (defs := defs₀ (F := F)) 𝒱₀ (c : Thread nD τ) none Set.univ (m := M) (r := r) (hl := hl) (S := (M.view.slice r).set) (q := fullShare) (f := f) (Finset.Subset.refl _)) $$ H
  iintro H
  iapply Hk
  iexists f
  isplitr; · ipureintro; rfl
  iexact H

/-- A load whose value is not used. -/
theorem wp_load_any {Q : α → sProp (MT nD τ sig Unit (Elt F) ℕ UU ℕ)} {S : Shape} {e : EltTy} {M : Memref sig .tc .vmem S e} {r : Rect S} {hl : M.view.LoadsAt r.toLoadRect}
    {p : Prog (TpuEff nD τ sig (Elt F) Λ₀ .tc) α} {c : Dev nD} :
    (slAny (M.view.slice r) c : sProp 𝕄)
      ⊢ iprop((slAny (M.view.slice r) c -∗ wp frame (wpE (defs₀ (F := F)) 𝒱₀ c none) Set.univ p Q)
        -∗ wp frame (wpE (defs₀ (F := F)) 𝒱₀ c none) Set.univ (.op (.load M r.toLoadRect hl) fun _ => p) Q) := by
  unfold slAny
  iintro ⟨%f, H⟩ Hk
  iapply (wp_load_rect (defs := defs₀ (F := F)) 𝒱₀ (c : Thread nD τ) none Set.univ (m := M) (r := r) (hl := hl) (S := (M.view.slice r).set) (q := fullShare) (f := f) (Finset.Subset.refl _)) $$ H
  iintro H
  iapply Hk
  iexists f; iexact H

/-- A full store through a rectangle whose elements are held: they read what was stored. -/
theorem wp_store_any {Q : α → sProp (MT nD τ sig Unit (Elt F) ℕ UU ℕ)} {S : Shape} {e : EltTy} {M : Memref sig .tc .vmem S e} {r : Rect S} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {c : Dev nD} :
    (slAny (M.view.slice r) c : sProp 𝕄)
      ⊢ iprop((sl (M.view.slice r) c w -∗ wp frame (wpE (defs₀ (F := F)) 𝒱₀ c none) Set.univ (k ⟨⟩) Q)
        -∗ wp frame (wpE (defs₀ (F := F)) 𝒱₀ c none) Set.univ (.op (.store M r w Finset.univ hx hm) k) Q) := by
  unfold sl slAny
  iintro ⟨%f, H⟩ Hk
  iapply (wp_store (defs := defs₀ (F := F)) 𝒱₀ (c : Thread nD τ) none Set.univ (m := M) (r := r) (w := w) (Mk := Finset.univ) (hx := hx) (hm := hm) (S := (M.view.slice r).set) (f := f) (Finset.Subset.refl _)) $$ H
  iintro H
  iapply Hk
  iexists ((M.view.slice r).write (Elt F) f w Finset.univ)
  isplitr
  · ipureintro; exact View.read_write_univ _ _
  iexact H

/-- A whole buffer that is only read. -/
def inp {S : Shape} {e : EltTy} (M : Memref sig .tc .vmem S e) (c : Dev nD) (X : M.view.ty.Contents (Elt F)) : sProp 𝕄 :=
  (M.view.loc (c : Thread nD τ) ↦{fullShare} X)

/-- A load from a read-only buffer through any rectangle. -/
theorem wp_load_in {Q : α → sProp (MT nD τ sig Unit (Elt F) ℕ UU ℕ)} {S : Shape} {e : EltTy} {M : Memref sig .tc .vmem S e} {r : Rect S} {hl : M.view.LoadsAt r.toLoadRect}
    {k : (r.shape.Idx → Elt F e) → Prog (TpuEff nD τ sig (Elt F) Λ₀ .tc) α} {c : Dev nD}
    {X : M.view.ty.Contents (Elt F)} :
    (inp M c X : sProp 𝕄)
      ⊢ iprop((inp M c X -∗ wp frame (wpE (defs₀ (F := F)) 𝒱₀ c none) Set.univ (k ((M.view.slice r).read (Elt F) X)) Q)
        -∗ wp frame (wpE (defs₀ (F := F)) 𝒱₀ c none) Set.univ (.op (.load M r.toLoadRect hl) k) Q) := by
  unfold inp
  exact wp_load_rect (defs := defs₀ (F := F)) 𝒱₀ (c : Thread nD τ) none Set.univ (m := M) (r := r) (hl := hl) (S := Finset.univ) (Finset.subset_univ _)

/-! ### Tiled buffers -/

section Tiled

variable {S : Shape} {e : EltTy} (M : Memref sig .tc .vmem S e) {ι : Type} (sz : Fin S.rank → ℕ)
  (off : ι → Fin S.rank → ℕ) (inb : ∀ i a, off i a + sz a ≤ S.size a)

/-- A buffer held whole whose tile `i` reads `b i`. -/
def tiled (c : Dev nD) (b : ι → (⟨S.rank, sz⟩ : Shape).Idx → Elt F e) : sProp 𝕄 :=
  iprop(∃ f : Buf (Elt F) (M.view.loc (c : Thread nD τ)), ⌜∀ i, (M.view.slice (Rect.unit (off i) sz (inb i))).read (Elt F) f = b i⌝
    ∗ (M.view.loc (c : Thread nD τ) ↦{fullShare} f))

/-- Loading a tile. -/
theorem wp_load_tile {Q : α → sProp (MT nD τ sig Unit (Elt F) ℕ UU ℕ)} {c : Dev nD} {b : ι → (⟨S.rank, sz⟩ : Shape).Idx → Elt F e} (i : ι) {off' : Fin S.rank → ℕ} {inb' : ∀ a, off' a + sz a ≤ S.size a}
    (h : off' = off i) {hl : M.view.LoadsAt (Rect.unit off' sz inb').toLoadRect}
    {k : ((⟨S.rank, sz⟩ : Shape).Idx → Elt F e) → Prog (TpuEff nD τ sig (Elt F) Λ₀ .tc) α} :
    (tiled M sz off inb c b : sProp 𝕄)
      ⊢ iprop((tiled M sz off inb c b -∗ wp frame (wpE (defs₀ (F := F)) 𝒱₀ c none) Set.univ (k (b i)) Q)
        -∗ wp frame (wpE (defs₀ (F := F)) 𝒱₀ c none) Set.univ (.op (.load M (Rect.unit off' sz inb').toLoadRect hl) k) Q) := by
  subst h
  unfold tiled
  iintro ⟨%f, %hf, H⟩ Hk
  rw [← hf i]
  iapply (wp_load_rect (defs := defs₀ (F := F)) 𝒱₀ (c : Thread nD τ) none Set.univ (m := M) (r := Rect.unit (off i) sz inb') (hl := hl) (S := Finset.univ) (q := fullShare) (f := f) (Finset.subset_univ _)) $$ H
  iintro H
  iapply Hk
  iexists f
  isplitr; · ipureintro; exact hf
  iexact H

/-- Storing a tile: it reads what was stored, the others what they read. -/
theorem wp_store_tile {Q : α → sProp (MT nD τ sig Unit (Elt F) ℕ UU ℕ)} [DecidableEq ι] (hd : ∀ i j, i ≠ j → ∃ a, off i a + sz a ≤ off j a ∨ off j a + sz a ≤ off i a)
    {c : Dev nD} {b : ι → (⟨S.rank, sz⟩ : Shape).Idx → Elt F e} (i : ι) {off' : Fin S.rank → ℕ} {inb' : ∀ a, off' a + sz a ≤ S.size a}
    (h : off' = off i) {w : (⟨S.rank, sz⟩ : Shape).Idx → Elt F e}
    {hx : (M.access (Rect.unit off' sz inb')).Stores Finset.univ} {hm : (Finset.univ : Finset (Rect.unit off' sz inb').shape.Idx) = Finset.univ ∨ ∀ a, (Rect.unit off' sz inb').stride a = 1}
    {k : PUnit → Prog (TpuEff nD τ sig (Elt F) Λ₀ .tc) α} :
    (tiled M sz off inb c b : sProp 𝕄)
      ⊢ iprop((tiled M sz off inb c (Function.update b i w) -∗ wp frame (wpE (defs₀ (F := F)) 𝒱₀ c none) Set.univ (k ⟨⟩) Q)
        -∗ wp frame (wpE (defs₀ (F := F)) 𝒱₀ c none) Set.univ (.op (.store M (Rect.unit off' sz inb') w Finset.univ hx hm) k) Q) := by
  subst h
  unfold tiled
  iintro ⟨%f, %hf, H⟩ Hk
  iapply (wp_store (defs := defs₀ (F := F)) 𝒱₀ (c : Thread nD τ) none Set.univ (m := M) (r := Rect.unit (off i) sz inb') (w := w) (Mk := Finset.univ) (hx := hx) (hm := hm) (S := Finset.univ) (f := f) (Finset.subset_univ _)) $$ H
  iintro H
  iapply Hk
  iexists ((M.view.slice (Rect.unit (off i) sz inb')).write (Elt F) f w Finset.univ)
  isplitr
  · ipureintro
    intro j
    by_cases hj : j = i
    · subst hj
      rw [Function.update_self]
      exact View.read_write_univ _ _
    · rw [Function.update_of_ne hj, ← hf j]
      refine View.read_slice_write_slice_of_disjoint _ _ _ _ _ ?_
      rw [View.setOn_univ, View.set_slice, View.set_slice, Finset.disjoint_map]
      obtain ⟨a, ha⟩ := hd j i hj
      exact Rect.unit_disjoint a ha
  iexact H

end Tiled

end Cert.KernelIdeal.Moe

end
-- ==== Proof.Values.lean ====
/-
What the kernel's buffers hold: the slots the transfers read and write, and every value the run makes, as a function of
the six operands of the devices.
-/
module

public import proofs.«01_k».proof.Proof.Base

@[expose] public section

noncomputable section

namespace Cert.KernelIdeal.Moe

open Cert.KernelIdeal Cert.KernelIdeal.Gen
open Idealize.ShloMosaic
open Idealize.ShloMosaic.TcCoe

variable {F : FTy → Type} [FloatOps F]

/-! ## The slots -/

/-- Where transfer `k` lands: the receive slots of the two reduce rings, then the first three slots of the two gather buffers. -/
abbrev dstV : Fin 12 → View sig .tc .vmem S1x512x512 .bf16
  | 0 => (Memref.whole cc0_scratch4).view.slice (Rect.unit (s := S3x512x512) ![0, 0, 0] S1x512x512.size inb_S3x512x512_S1x512x512_0_0_0)
  | 1 => (Memref.whole cc0_scratch4).view.slice (Rect.unit (s := S3x512x512) ![1, 0, 0] S1x512x512.size inb_S3x512x512_S1x512x512_1_0_0)
  | 2 => (Memref.whole cc0_scratch4).view.slice (Rect.unit (s := S3x512x512) ![2, 0, 0] S1x512x512.size inb_S3x512x512_S1x512x512_2_0_0)
  | 3 => (Memref.whole cc0_scratch5).view.slice (Rect.unit (s := S3x512x512) ![0, 0, 0] S1x512x512.size inb_S3x512x512_S1x512x512_0_0_0)
  | 4 => (Memref.whole cc0_scratch5).view.slice (Rect.unit (s := S3x512x512) ![1, 0, 0] S1x512x512.size inb_S3x512x512_S1x512x512_1_0_0)
  | 5 => (Memref.whole cc0_scratch5).view.slice (Rect.unit (s := S3x512x512) ![2, 0, 0] S1x512x512.size inb_S3x512x512_S1x512x512_2_0_0)
  | 6 => (Memref.whole cc0_scratch6).view.slice (Rect.unit (s := S4x512x512) ![0, 0, 0] S1x512x512.size inb_S4x512x512_S1x512x512_0_0_0)
  | 7 => (Memref.whole cc0_scratch6).view.slice (Rect.unit (s := S4x512x512) ![1, 0, 0] S1x512x512.size inb_S4x512x512_S1x512x512_1_0_0)
  | 8 => (Memref.whole cc0_scratch6).view.slice (Rect.unit (s := S4x512x512) ![2, 0, 0] S1x512x512.size inb_S4x512x512_S1x512x512_2_0_0)
  | 9 => (Memref.whole cc0_scratch7).view.slice (Rect.unit (s := S4x512x512) ![0, 0, 0] S1x512x512.size inb_S4x512x512_S1x512x512_0_0_0)
  | 10 => (Memref.whole cc0_scratch7).view.slice (Rect.unit (s := S4x512x512) ![1, 0, 0] S1x512x512.size inb_S4x512x512_S1x512x512_1_0_0)
  | 11 => (Memref.whole cc0_scratch7).view.slice (Rect.unit (s := S4x512x512) ![2, 0, 0] S1x512x512.size inb_S4x512x512_S1x512x512_2_0_0)

/-- What transfer `k` reads: the send slots of the two reduce rings, then in each gather buffer slot 3, 0, 1. -/
abbrev srcV : Fin 12 → View sig .tc .vmem S1x512x512 .bf16
  | 0 => (Memref.whole cc0_scratch2).view.slice (Rect.unit (s := S3x512x512) ![0, 0, 0] S1x512x512.size inb_S3x512x512_S1x512x512_0_0_0)
  | 1 => (Memref.whole cc0_scratch2).view.slice (Rect.unit (s := S3x512x512) ![1, 0, 0] S1x512x512.size inb_S3x512x512_S1x512x512_1_0_0)
  | 2 => (Memref.whole cc0_scratch2).view.slice (Rect.unit (s := S3x512x512) ![2, 0, 0] S1x512x512.size inb_S3x512x512_S1x512x512_2_0_0)
  | 3 => (Memref.whole cc0_scratch3).view.slice (Rect.unit (s := S3x512x512) ![0, 0, 0] S1x512x512.size inb_S3x512x512_S1x512x512_0_0_0)
  | 4 => (Memref.whole cc0_scratch3).view.slice (Rect.unit (s := S3x512x512) ![1, 0, 0] S1x512x512.size inb_S3x512x512_S1x512x512_1_0_0)
  | 5 => (Memref.whole cc0_scratch3).view.slice (Rect.unit (s := S3x512x512) ![2, 0, 0] S1x512x512.size inb_S3x512x512_S1x512x512_2_0_0)
  | 6 => (Memref.whole cc0_scratch6).view.slice (Rect.unit (s := S4x512x512) ![3, 0, 0] S1x512x512.size inb_S4x512x512_S1x512x512_3_0_0)
  | 7 => (Memref.whole cc0_scratch6).view.slice (Rect.unit (s := S4x512x512) ![0, 0, 0] S1x512x512.size inb_S4x512x512_S1x512x512_0_0_0)
  | 8 => (Memref.whole cc0_scratch6).view.slice (Rect.unit (s := S4x512x512) ![1, 0, 0] S1x512x512.size inb_S4x512x512_S1x512x512_1_0_0)
  | 9 => (Memref.whole cc0_scratch7).view.slice (Rect.unit (s := S4x512x512) ![3, 0, 0] S1x512x512.size inb_S4x512x512_S1x512x512_3_0_0)
  | 10 => (Memref.whole cc0_scratch7).view.slice (Rect.unit (s := S4x512x512) ![0, 0, 0] S1x512x512.size inb_S4x512x512_S1x512x512_0_0_0)
  | 11 => (Memref.whole cc0_scratch7).view.slice (Rect.unit (s := S4x512x512) ![1, 0, 0] S1x512x512.size inb_S4x512x512_S1x512x512_1_0_0)

/-- The two slots the expert matrices are copied into. -/
abbrev wbV : Fin 2 → View sig .tc .vmem S1x1024x1024 .f32
  | 0 => (Memref.whole cc0_scratch0).view.slice (Rect.unit (s := S2x1024x1024) ![0, 0, 0] S1x1024x1024.size inb_S2x1024x1024_S1x1024x1024_0_0_0)
  | 1 => (Memref.whole cc0_scratch0).view.slice (Rect.unit (s := S2x1024x1024) ![1, 0, 0] S1x1024x1024.size inb_S2x1024x1024_S1x1024x1024_1_0_0)

/-! ## The operands of one device -/

/-- The operands of the kernel on one device: tokens, destination columns as a column and as a row, weights, the
    device's experts, the shared matrix. -/
structure Ins (F : FTy → Type) where
  x : Vec F S2048x1024 .f32
  col : Vec F S2048x1 .i32
  crow : Vec F S1x2048 .i32
  pw : Vec F S2048x1 .f32
  ew : Vec F S8x1024x1024 .f32
  sw : Vec F S1024x1024 .f32

theorem inb_col (j : Fin 4) : ∀ a, (![512 * j.val, 0] : Fin 2 → ℕ) a + S512x1.size a ≤ S2048x1.size a := by revert j; decide
theorem inb_wide (j : Fin 4) : ∀ a, (![512 * j.val, 0] : Fin 2 → ℕ) a + S512x1024.size a ≤ S2048x1024.size a := by revert j; decide
theorem inb_half (h : Fin 2) : ∀ a, (![0, 512 * h.val] : Fin 2 → ℕ) a + S512x512.size a ≤ S512x1024.size a := by revert h; decide

theorem inb_ew (e : Fin 8) : ∀ a, (![e.val, 0, 0] : Fin 3 → ℕ) a + S1x1024x1024.size a ≤ S8x1024x1024.size a := by revert e; decide

/-- Destination columns of the tokens of chunk `j`. -/
def colAt (I : Ins F) (j : Fin 4) : Vec F S512x1 .i32 := fun i => I.col ((Rect.unit (s := S2048x1) ![512 * j.val, 0] S512x1.size (inb_col j)).emb i)
/-- Weights of the tokens of chunk `j`. -/
def pwAt (I : Ins F) (j : Fin 4) : Vec F S512x1 .f32 := fun i => I.pw ((Rect.unit (s := S2048x1) ![512 * j.val, 0] S512x1.size (inb_col j)).emb i)
/-- Tokens of chunk `j`. -/
def xAt (I : Ins F) (j : Fin 4) : Vec F S512x1024 .f32 := fun i => I.x ((Rect.unit (s := S2048x1024) ![512 * j.val, 0] S512x1024.size (inb_wide j)).emb i)
/-- The elements of expert matrix `e`. -/
abbrev ewV (e : Fin 8) : View sig .tc .hbm S1x1024x1024 .f32 :=
  (Memref.whole main_arg3).view.slice (Rect.unit (s := S8x1024x1024) ![e.val, 0, 0] S1x1024x1024.size (inb_ew e))
/-- Expert `e` of the device. -/
def ewAt (I : Ins F) (e : Fin 8) : Vec F S1x1024x1024 .f32 := fun i => I.ew ((Rect.unit (s := S8x1024x1024) ![e.val, 0, 0] S1x1024x1024.size (inb_ew e)).emb i)
/-- The left or right half of a chunk's rows. -/
def half (h : Fin 2) (v : Vec F S512x1024 .f32) : Vec F S512x512 .f32 := fun i => v ((Rect.unit (s := S512x1024) ![0, 512 * h.val] S512x512.size (inb_half h)).emb i)

/-! ## The expert products -/

theorem inb_ys (e : Fin 8) : ∀ a, (![128 * e.val, 0] : Fin 2 → ℕ) a + S128x1024.size a ≤ S1024x1024.size a := by revert e; decide

/-- The gathered tokens, one row per destination column. -/
def xg (I : Ins F) : FVec F S1024x1024 .bf16 := k0_pay4 (k0_pay2 I.x) (k0_pay3 I.crow)

/-- The eight blocks of expert products. -/
def ysB (I : Ins F) : Fin 8 → FVec F S128x1024 .bf16
  | 0 => k0_pay5 (k0_pay2 I.x) (k0_pay3 I.crow) (ewAt I 0)
  | 1 => k0_pay6 (xg I) (ewAt I 1)
  | 2 => k0_pay7 (xg I) (ewAt I 2)
  | 3 => k0_pay8 (xg I) (ewAt I 3)
  | 4 => k0_pay9 (xg I) (ewAt I 4)
  | 5 => k0_pay10 (xg I) (ewAt I 5)
  | 6 => k0_pay12 (k0_pay11 (xg I)) (ewAt I 6)
  | 7 => k0_pay13 (xg I) (ewAt I 7)

set_option backward.proofsInPublic true in
/-- The eight blocks one under another. -/
def glue (b : Fin 8 → FVec F S128x1024 .bf16) : FVec F S1024x1024 .bf16 := fun i =>
  b ⟨(i 0).val / 128, Nat.div_lt_of_lt_mul (i 0).isLt⟩
    (fun a => match a with | ⟨0, _⟩ => ⟨(i 0).val % 128, Nat.mod_lt _ (by decide)⟩ | ⟨1, _⟩ => ⟨(i 1).val, (i 1).isLt⟩)

/-- The expert products of a device. -/
def ysAll (I : Ins F) : FVec F S1024x1024 .bf16 := glue (ysB I)

/-! ## The ring -/

/-- The operands of all devices. -/
abbrev Fam (F : FTy → Type) : Type := Dev nD → Ins F

variable (I : Fam F)

/-- The chunk two places away. -/
abbrev opp (c : Dev nD) : Dev nD := rt (rt c)

/-- A device's contribution to its own chunk, with the shared product. -/
def own0 (c : Dev nD) : FVec F S512x1024 .f32 := k0_pay14 (ysAll (I c)) (colAt (I c) c) (pwAt (I c) c) (xAt (I c) c) (I c).sw
def sR0 (c : Dev nD) : FVec F S1x512x512 .bf16 := k0_pay15 (half 0 (own0 I c))
def sL0 (c : Dev nD) : FVec F S1x512x512 .bf16 := k0_pay17 (k0_pay16 (half 1 (own0 I c)))

/-- Contributions to the neighbouring chunks, half of the columns each. -/
def own1R (c : Dev nD) : FVec F S512x512 .f32 := k0_pay20 (ysAll (I c)) (k0_pay18 (colAt (I c) (lf c))) (k0_pay19 (pwAt (I c) (lf c)))
def own1L (c : Dev nD) : FVec F S512x512 .f32 := k0_pay21 (ysAll (I c)) (colAt (I c) (rt c)) (pwAt (I c) (rt c))
def acc1R (c : Dev nD) : FVec F S512x512 .f32 := k0_pay24 (k0_pay22 (own1R I c)) (k0_pay23 (sR0 I (lf c)))
def acc1L (c : Dev nD) : FVec F S512x512 .f32 := k0_pay25 (own1L I c) (sL0 I (rt c))
def sR1 (c : Dev nD) : FVec F S1x512x512 .bf16 := k0_pay26 (acc1R I c)
def sL1 (c : Dev nD) : FVec F S1x512x512 .bf16 := k0_pay27 (acc1L I c)

/-- Contribution to the opposite chunk. -/
def own2 (c : Dev nD) : FVec F S512x1024 .f32 := k0_pay28 (ysAll (I c)) (colAt (I c) (opp c)) (pwAt (I c) (opp c))
def acc2R (c : Dev nD) : FVec F S512x512 .f32 := k0_pay29 (half 0 (own2 I c)) (sR1 I (lf c))
def acc2L (c : Dev nD) : FVec F S512x512 .f32 := k0_pay30 (half 1 (own2 I c)) (sL1 I (rt c))
def sR2 (c : Dev nD) : FVec F S1x512x512 .bf16 := k0_pay31 (acc2R I c)
def sL2 (c : Dev nD) : FVec F S1x512x512 .bf16 := k0_pay32 (acc2L I c)

/-- The last contributions, to the other halves of the neighbouring chunks. -/
def own3R (c : Dev nD) : FVec F S512x512 .f32 := k0_pay34 (ysAll (I c)) (iota .tc S512x1024 32 [1] iota_S512x1024_d1_w32) (k0_pay33 (colAt (I c) (rt c))) (pwAt (I c) (rt c))
def own3L (c : Dev nD) : FVec F S512x512 .f32 := k0_pay35 (ysAll (I c)) (colAt (I c) (lf c)) (pwAt (I c) (lf c))
/-- The two finished half chunks. -/
def acc3R (c : Dev nD) : FVec F S512x512 .f32 := k0_pay37 (k0_pay36 (own3R I c)) (sR2 I (lf c))
def acc3L (c : Dev nD) : FVec F S512x512 .f32 := k0_pay38 (own3L I c) (sL2 I (rt c))
def gR (c : Dev nD) : FVec F S1x512x512 .bf16 := k0_pay39 (acc3R I c)
def gL (c : Dev nD) : FVec F S1x512x512 .bf16 := k0_pay40 (acc3L I c)

/-- What transfer `k` of device `c` carries. -/
def sval : Fin 12 → Dev nD → Vec F S1x512x512 .bf16
  | 0, c => sR0 I c
  | 1, c => sR1 I c
  | 2, c => sR2 I c
  | 3, c => sL0 I c
  | 4, c => sL1 I c
  | 5, c => sL2 I c
  | 6, c => gR I c
  | 7, c => gR I (lf c)
  | 8, c => gR I (lf (lf c))
  | 9, c => gL I c
  | 10, c => gL I (rt c)
  | 11, c => gL I (rt (rt c))

/-- Whom transfer `k` of device `c` goes to, -/
def peer : Fin 12 → Dev nD → Dev nD
  | 0, c => rt c | 1, c => rt c | 2, c => rt c
  | 3, c => lf c | 4, c => lf c | 5, c => lf c
  | 6, c => rt c | 7, c => rt c | 8, c => rt c
  | 9, c => lf c | 10, c => lf c | 11, c => lf c
/-- and whom device `c` gets transfer `k` from. -/
def frm : Fin 12 → Dev nD → Dev nD
  | 0, c => lf c | 1, c => lf c | 2, c => lf c
  | 3, c => rt c | 4, c => rt c | 5, c => rt c
  | 6, c => lf c | 7, c => lf c | 8, c => lf c
  | 9, c => rt c | 10, c => rt c | 11, c => rt c
theorem frm_peer (k : Fin 12) (c : Dev nD) : frm k (peer k c) = c := by revert k c; decide
theorem peer_frm (k : Fin 12) (c : Dev nD) : peer k (frm k c) = c := by revert k c; decide

/-! ## The result -/

/-- Half chunks of the result by the chunk's place after `c` and the half. -/
def outB (c : Dev nD) : Fin 8 → Vec F S512x512 .f32
  | 0 => k0_pay41 (sval I 6 (lf c))
  | 1 => k0_pay42 (sval I 9 (rt c))
  | 2 => acc3R I c
  | 3 => k0_pay44 (sval I 10 (rt c))
  | 4 => k0_pay45 (sval I 8 (lf c))
  | 5 => k0_pay1 (sval I 11 (rt c))
  | 6 => k0_pay43 (sval I 7 (lf c))
  | 7 => acc3L I c

/-- Where half chunk `i`, counted from chunk `c`, lies. -/
def outOff (c : Dev nD) (i : Fin 8) : Fin 2 → ℕ := ![512 * ((c.val + i.val / 2) % 4), 512 * (i.val % 2)]
theorem inb_out (c : Dev nD) (i : Fin 8) : ∀ a, outOff c i a + S512x512.size a ≤ S2048x1024.size a := by revert c i; decide

end Cert.KernelIdeal.Moe

end
-- ==== Proof.Tiles.lean ====
/-
The two buffers the kernel fills tile by tile: the result, in half chunks, and the expert products, in blocks of 128 rows.
Also the loads of pieces of the operands.
-/
module

public import proofs.«01_k».proof.Proof.Values

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {α : Type}

/-! ## Loads from operands -/

/-- A load of a known piece of a read-only buffer. -/
theorem wp_load_eq {Q : α → sProp (MT nD τ sig Unit (Elt F) ℕ UU ℕ)} {S : Shape} {e : EltTy} {M : Memref sig .tc .vmem S e} {r : Rect S} {hl : M.view.LoadsAt r.toLoadRect}
    {k : (r.shape.Idx → Elt F e) → Prog (TpuEff nD τ sig (Elt F) Λ₀ .tc) α} {c : Dev nD}
    {X : M.view.ty.Contents (Elt F)} (v : r.shape.Idx → Elt F e) (hv : (M.view.slice r).read (Elt F) X = v) :
    (inp M c X : sProp 𝕄)
      ⊢ iprop((inp M c X -∗ wp frame (wpE (defs₀ (F := F)) 𝒱₀ c none) Set.univ (k v) Q)
        -∗ wp frame (wpE (defs₀ (F := F)) 𝒱₀ c none) Set.univ (.op (.load M r.toLoadRect hl) k) Q) := by
  subst hv; exact wp_load_in

abbrev xM : Memref sig .tc .vmem S2048x1024 .f32 := Memref.whole cc0_stg0_0
abbrev colM : Memref sig .tc .vmem S2048x1 .i32 := Memref.whole cc0_stg1_0
abbrev crowM : Memref sig .tc .vmem S1x2048 .i32 := Memref.whole cc0_stg2_0
abbrev pwM : Memref sig .tc .vmem S2048x1 .f32 := Memref.whole cc0_stg3_0
abbrev swM : Memref sig .tc .vmem S1024x1024 .f32 := Memref.whole cc0_stg4_0
abbrev outM : Memref sig .tc .vmem S2048x1024 .f32 := Memref.whole cc0_stg5_0
abbrev ysM : Memref sig .tc .vmem S1024x1024 .bf16 := Memref.whole cc0_scratch1

theorem read_col (I : Ins F) (j : Fin 4) {off : Fin 2 → ℕ} {inb : ∀ a, off a + S512x1.size a ≤ S2048x1.size a} (h : off = ![512 * j.val, 0]) :
    (colM.view.slice (Rect.unit (s := S2048x1) off S512x1.size inb)).read (Elt F) I.col = colAt I j := by subst h; rfl
theorem read_pw (I : Ins F) (j : Fin 4) {off : Fin 2 → ℕ} {inb : ∀ a, off a + S512x1.size a ≤ S2048x1.size a} (h : off = ![512 * j.val, 0]) :
    (pwM.view.slice (Rect.unit (s := S2048x1) off S512x1.size inb)).read (Elt F) I.pw = pwAt I j := by subst h; rfl
theorem read_x (I : Ins F) (j : Fin 4) {off : Fin 2 → ℕ} {inb : ∀ a, off a + S512x1024.size a ≤ S2048x1024.size a} (h : off = ![512 * j.val, 0]) :
    (xM.view.slice (Rect.unit (s := S2048x1024) off S512x1024.size inb)).read (Elt F) I.x = xAt I j := by subst h; rfl

theorem emb_zero {s : Shape} (inb : ∀ a, (fun _ => 0 : Fin s.rank → ℕ) a + s.size a ≤ s.size a) (i : s.Idx) :
    (Rect.unit (s := s) (fun _ => 0) s.size inb).emb i = i := by
  funext a; apply Fin.ext; simp [Rect.emb, Rect.unit]

theorem read_all {S : Shape} {e : EltTy} {M : Memref sig .tc .vmem S e} {off : Fin S.rank → ℕ} {inb : ∀ a, off a + S.size a ≤ S.size a} (h : off = fun _ => 0)
    (X : M.view.ty.Contents (Elt F)) : (M.view.slice (Rect.unit (s := S) off S.size inb)).read (Elt F) X = M.view.read (Elt F) X := by
  subst h
  funext i
  show M.view.read (Elt F) X ((Rect.unit (s := S) (fun _ => 0) S.size inb).emb i) = _
  rw [emb_zero]

theorem zero2 : (![0, 0] : Fin 2 → ℕ) = fun _ => 0 := by decide

/-! ## Tiles -/

section Tiled

variable {S : Shape} {e : EltTy} (M : Memref sig .tc .vmem S e) {ι : Type} (sz : Fin S.rank → ℕ)
  (off : ι → Fin S.rank → ℕ) (inb : ∀ i a, off i a + sz a ≤ S.size a)

/-- A load whose value is not used. -/
theorem wp_load_tiled_any {Q : α → sProp (MT nD τ sig Unit (Elt F) ℕ UU ℕ)} {c : Dev nD} {b : ι → (⟨S.rank, sz⟩ : Shape).Idx → Elt F e} {r : Rect S} {hl : M.view.LoadsAt r.toLoadRect}
    {p : Prog (TpuEff nD τ sig (Elt F) Λ₀ .tc) α} :
    (tiled M sz off inb c b : sProp 𝕄)
      ⊢ iprop((tiled M sz off inb c b -∗ wp frame (wpE (defs₀ (F := F)) 𝒱₀ c none) Set.univ p Q)
        -∗ wp frame (wpE (defs₀ (F := F)) 𝒱₀ c none) Set.univ (.op (.load M r.toLoadRect hl) fun _ => p) Q) := by
  unfold tiled
  iintro ⟨%f, %hf, H⟩ Hk
  iapply (wp_load_rect (defs := defs₀ (F := F)) 𝒱₀ (c : Thread nD τ) none Set.univ (m := M) (r := r) (hl := hl) (S := Finset.univ) (q := fullShare) (f := f) (Finset.subset_univ _)) $$ H
  iintro H
  iapply Hk
  iexists f
  isplitr; · ipureintro; exact hf
  iexact H

/-- A buffer held whole is held in tiles. -/
theorem tiled_intro (c : Dev nD) (f : Buf (Elt F) (M.view.loc (c : Thread nD τ))) :
    ((M.view.loc (c : Thread nD τ) ↦{fullShare} f) : sProp 𝕄)
      ⊢ tiled M sz off inb c (fun i => (M.view.slice (Rect.unit (off i) sz (inb i))).read (Elt F) f) := by
  unfold tiled
  iintro H
  iexists f
  isplitr; · ipureintro; exact fun _ => rfl
  iexact H

end Tiled

/-- The result buffer, in half chunks. -/
def outT (c : Dev nD) (b : Fin 8 → Vec F S512x512 .f32) : sProp 𝕄 := tiled outM S512x512.size (outOff c) (inb_out c) c b

def ysOff (e : Fin 8) : Fin 2 → ℕ := ![128 * e.val, 0]
/-- The expert products, in blocks. -/
def ysT (c : Dev nD) (b : Fin 8 → FVec F S128x1024 .bf16) : sProp 𝕄 := tiled ysM S128x1024.size ysOff inb_ys c b

theorem out_disj (c : Dev nD) : ∀ i j, i ≠ j → ∃ a, outOff c i a + S512x512.size a ≤ outOff c j a ∨ outOff c j a + S512x512.size a ≤ outOff c i a := by
  revert c; decide
theorem ys_disj : ∀ i j, i ≠ j → ∃ a, ysOff i a + S128x1024.size a ≤ ysOff j a ∨ ysOff j a + S128x1024.size a ≤ ysOff i a := by
  decide

theorem wp_out_load {Q : α → sProp (MT nD τ sig Unit (Elt F) ℕ UU ℕ)} {c : Dev nD} {b : Fin 8 → Vec F S512x512 .f32} (i : Fin 8) (v : Vec F S512x512 .f32) (hv : b i = v) {off' : Fin 2 → ℕ} {inb' : ∀ a, off' a + S512x512.size a ≤ S2048x1024.size a}
    (h : off' = outOff c i) {hl : outM.view.LoadsAt (Rect.unit (s := S2048x1024) off' S512x512.size inb').toLoadRect}
    {k : (S512x512.Idx → Elt F .f32) → Prog (TpuEff nD τ sig (Elt F) Λ₀ .tc) α} :
    (outT c b : sProp 𝕄)
      ⊢ iprop((outT c b -∗ wp frame (wpE (defs₀ (F := F)) 𝒱₀ c none) Set.univ (k v) Q)
        -∗ wp frame (wpE (defs₀ (F := F)) 𝒱₀ c none) Set.univ (.op (.load outM (Rect.unit (s := S2048x1024) off' S512x512.size inb').toLoadRect hl) k) Q) := by
  subst hv
  exact wp_load_tile outM S512x512.size (outOff c) (inb_out c) i h

theorem wp_out_any {Q : α → sProp (MT nD τ sig Unit (Elt F) ℕ UU ℕ)} {c : Dev nD} {b : Fin 8 → Vec F S512x512 .f32} {r : Rect S2048x1024} {hl : outM.view.LoadsAt r.toLoadRect}
    {p : Prog (TpuEff nD τ sig (Elt F) Λ₀ .tc) α} :
    (outT c b : sProp 𝕄)
      ⊢ iprop((outT c b -∗ wp frame (wpE (defs₀ (F := F)) 𝒱₀ c none) Set.univ p Q)
        -∗ wp frame (wpE (defs₀ (F := F)) 𝒱₀ c none) Set.univ (.op (.load outM r.toLoadRect hl) fun _ => p) Q) :=
  wp_load_tiled_any outM S512x512.size (outOff c) (inb_out c)

theorem wp_out_store {Q : α → sProp (MT nD τ sig Unit (Elt F) ℕ UU ℕ)} {c : Dev nD} {b : Fin 8 → Vec F S512x512 .f32} (i : Fin 8) {off' : Fin 2 → ℕ} {inb' : ∀ a, off' a + S512x512.size a ≤ S2048x1024.size a}
    (h : off' = outOff c i) {w : Vec F S512x512 .f32}
    {hx : (outM.access (Rect.unit (s := S2048x1024) off' S512x512.size inb')).Stores Finset.univ} {hm : (Finset.univ : Finset (Rect.unit (s := S2048x1024) off' S512x512.size inb').shape.Idx) = Finset.univ ∨ ∀ a, (Rect.unit (s := S2048x1024) off' S512x512.size inb').stride a = 1}
    {k : PUnit → Prog (TpuEff nD τ sig (Elt F) Λ₀ .tc) α} :
    (outT c b : sProp 𝕄)
      ⊢ iprop((outT c (Function.update b i w) -∗ wp frame (wpE (defs₀ (F := F)) 𝒱₀ c none) Set.univ (k ⟨⟩) Q)
        -∗ wp frame (wpE (defs₀ (F := F)) 𝒱₀ c none) Set.univ (.op (.store outM (Rect.unit (s := S2048x1024) off' S512x512.size inb') w Finset.univ hx hm) k) Q) :=
  wp_store_tile outM S512x512.size (outOff c) (inb_out c) (out_disj c) i h

/-- The two half chunks of place `r`. -/
def tl (r : Fin 4) (h : Fin 2) : Fin 8 := ⟨2 * r.val + h.val, by omega⟩

theorem tl_cases (r : Fin 4) (i : Fin 8) : i = tl r 0 ∨ i = tl r 1 ∨ i.val / 2 ≠ r.val := by revert r i; decide

theorem tl_ne (r : Fin 4) : tl r 0 ≠ tl r 1 := by revert r; decide
theorem tl_div (r : Fin 4) (h : Fin 2) : (tl r h).val / 2 = r.val := by revert r h; decide
theorem tl_mod (r : Fin 4) (h : Fin 2) : (tl r h).val % 2 = h.val := by revert r h; decide
theorem tl_ne_of {r : Fin 4} {i : Fin 8} (hi : i.val / 2 ≠ r.val) (h : Fin 2) : i ≠ tl r h := by rintro rfl; exact hi (tl_div r h)
theorem tl_disj (c : Dev nD) (r : Fin 4) (i : Fin 8) (hi : i.val / 2 ≠ r.val) :
    512 * ((c.val + i.val / 2) % 4) + 512 ≤ 512 * ((c.val + r.val) % 4) ∨ 512 * ((c.val + r.val) % 4) + 512 ≤ 512 * ((c.val + i.val / 2) % 4) := by
  have := c.isLt; have : i.val < 8 := i.isLt; have := r.isLt
  omega

/-- A place in a half chunk is the place in the chunk. -/
theorem half_emb (c : Dev nD) (r : Fin 4) (h : Fin 2) (inb' : ∀ a, (![512 * ((c.val + r.val) % 4), 0] : Fin 2 → ℕ) a + S512x1024.size a ≤ S2048x1024.size a) (i : S512x512.Idx) :
    (Rect.unit (s := S2048x1024) (outOff c (tl r h)) S512x512.size (inb_out c (tl r h))).emb i
      = (Rect.unit (s := S2048x1024) ![512 * ((c.val + r.val) % 4), 0] S512x1024.size inb').emb ((Rect.unit (s := S512x1024) ![0, 512 * h.val] S512x512.size (inb_half h)).emb i) := by
  have hr := And.intro (tl_div r h) (tl_mod r h)
  have h0 : (outOff c (tl r h)) = ![512 * ((c.val + r.val) % 4), 512 * h.val] := by
    unfold outOff; rw [hr.1, hr.2]
  funext a; apply Fin.ext
  rw [Rect.emb_apply, Rect.emb_apply, Rect.emb_apply]
  simp only [Rect.unit, h0]
  match a with
  | ⟨0, _⟩ => simp
  | ⟨1, _⟩ => simp

theorem glue_emb (i : S1024x1024.Idx) (h : (i 0).val / 128 < 8) (j : S128x1024.Idx) (h0 : (j 0).val = (i 0).val % 128) (h1 : (j 1).val = (i 1).val) :
    i = (Rect.unit (s := S1024x1024) (ysOff ⟨(i 0).val / 128, h⟩) S128x1024.size (inb_ys ⟨(i 0).val / 128, h⟩)).emb j := by
  funext a; apply Fin.ext
  rw [Rect.emb_apply]
  match a with
  | ⟨0, _⟩ => simp only [Rect.unit, ysOff]; show (i 0).val = 128 * ((i 0).val / 128) + 1 * (j 0).val; omega
  | ⟨1, _⟩ => simp only [Rect.unit, ysOff]; show (i 1).val = 0 + 1 * (j 1).val; omega

/-- Storing a whole chunk: both of its halves read their part. -/
theorem wp_out_store_wide {Q : α → sProp (MT nD τ sig Unit (Elt F) ℕ UU ℕ)} {c : Dev nD} {b : Fin 8 → Vec F S512x512 .f32} (r : Fin 4) {off' : Fin 2 → ℕ} {inb' : ∀ a, off' a + S512x1024.size a ≤ S2048x1024.size a}
    (h : off' = ![512 * ((c.val + r.val) % 4), 0]) {w : Vec F S512x1024 .f32}
    {hx : (outM.access (Rect.unit (s := S2048x1024) off' S512x1024.size inb')).Stores Finset.univ} {hm : (Finset.univ : Finset (Rect.unit (s := S2048x1024) off' S512x1024.size inb').shape.Idx) = Finset.univ ∨ ∀ a, (Rect.unit (s := S2048x1024) off' S512x1024.size inb').stride a = 1}
    {k : PUnit → Prog (TpuEff nD τ sig (Elt F) Λ₀ .tc) α} :
    (outT c b : sProp 𝕄)
      ⊢ iprop((outT c (Function.update (Function.update b (tl r 0) (half 0 w)) (tl r 1) (half 1 w)) -∗ wp frame (wpE (defs₀ (F := F)) 𝒱₀ c none) Set.univ (k ⟨⟩) Q)
        -∗ wp frame (wpE (defs₀ (F := F)) 𝒱₀ c none) Set.univ (.op (.store outM (Rect.unit (s := S2048x1024) off' S512x1024.size inb') w Finset.univ hx hm) k) Q) := by
  subst h
  have hhalf (h : Fin 2) (f : outM.view.ty.Contents (Elt F)) :
      (outM.view.slice (Rect.unit (outOff c (tl r h)) S512x512.size (inb_out c (tl r h)))).read (Elt F)
        ((outM.view.slice (Rect.unit (s := S2048x1024) ![512 * ((c.val + r.val) % 4), 0] S512x1024.size inb')).write (Elt F) f w Finset.univ) = half h w := by
    have e := View.read_write_univ (Val := Elt F) (v := outM.view.slice (Rect.unit (s := S2048x1024) ![512 * ((c.val + r.val) % 4), 0] S512x1024.size inb')) f w
    funext i
    have e' := congrFun e ((Rect.unit (s := S512x1024) ![0, 512 * h.val] S512x512.size (inb_half h)).emb i)
    refine Eq.trans (congrArg (outM.view.read (Elt F) _) (half_emb c r h inb' i)) e'
  unfold outT tiled
  iintro ⟨%f, %hf, H⟩ Hk
  iapply (wp_store (defs := defs₀ (F := F)) 𝒱₀ (c : Thread nD τ) none Set.univ (m := outM) (r := Rect.unit (s := S2048x1024) ![512 * ((c.val + r.val) % 4), 0] S512x1024.size inb') (w := w) (Mk := Finset.univ) (hx := hx) (hm := hm) (S := Finset.univ) (f := f) (Finset.subset_univ _)) $$ H
  iintro H
  iapply Hk
  iexists ((outM.view.slice (Rect.unit (s := S2048x1024) ![512 * ((c.val + r.val) % 4), 0] S512x1024.size inb')).write (Elt F) f w Finset.univ)
  isplitr
  · ipureintro
    intro i
    rcases tl_cases r i with rfl | rfl | hi
    · rw [Function.update_of_ne (tl_ne r), Function.update_self]; exact hhalf 0 f
    · rw [Function.update_self]; exact hhalf 1 f
    · rw [Function.update_of_ne (tl_ne_of hi 1), Function.update_of_ne (tl_ne_of hi 0), ← hf i]
      refine View.read_slice_write_slice_of_disjoint _ _ _ _ _ ?_
      rw [View.setOn_univ, View.set_slice, View.set_slice, Finset.disjoint_map]
      exact Rect.unit_disjoint (0 : Fin 2) (tl_disj c r i hi)
  iexact H

theorem wp_ys_any {Q : α → sProp (MT nD τ sig Unit (Elt F) ℕ UU ℕ)} {c : Dev nD} {b : Fin 8 → FVec F S128x1024 .bf16} {r : Rect S1024x1024} {hl : ysM.view.LoadsAt r.toLoadRect}
    {p : Prog (TpuEff nD τ sig (Elt F) Λ₀ .tc) α} :
    (ysT c b : sProp 𝕄)
      ⊢ iprop((ysT c b -∗ wp frame (wpE (defs₀ (F := F)) 𝒱₀ c none) Set.univ p Q)
        -∗ wp frame (wpE (defs₀ (F := F)) 𝒱₀ c none) Set.univ (.op (.load ysM r.toLoadRect hl) fun _ => p) Q) :=
  wp_load_tiled_any ysM S128x1024.size ysOff inb_ys

theorem wp_ys_store {Q : α → sProp (MT nD τ sig Unit (Elt F) ℕ UU ℕ)} {c : Dev nD} {b : Fin 8 → FVec F S128x1024 .bf16} (i : Fin 8) {off' : Fin 2 → ℕ} {inb' : ∀ a, off' a + S128x1024.size a ≤ S1024x1024.size a}
    (h : off' = ysOff i) {w : FVec F S128x1024 .bf16}
    {hx : (ysM.access (Rect.unit (s := S1024x1024) off' S128x1024.size inb')).Stores Finset.univ} {hm : (Finset.univ : Finset (Rect.unit (s := S1024x1024) off' S128x1024.size inb').shape.Idx) = Finset.univ ∨ ∀ a, (Rect.unit (s := S1024x1024) off' S128x1024.size inb').stride a = 1}
    {k : PUnit → Prog (TpuEff nD τ sig (Elt F) Λ₀ .tc) α} :
    (ysT c b : sProp 𝕄)
      ⊢ iprop((ysT c (Function.update b i w) -∗ wp frame (wpE (defs₀ (F := F)) 𝒱₀ c none) Set.univ (k ⟨⟩) Q)
        -∗ wp frame (wpE (defs₀ (F := F)) 𝒱₀ c none) Set.univ (.op (.store ysM (Rect.unit (s := S1024x1024) off' S128x1024.size inb') w Finset.univ hx hm) k) Q) :=
  wp_store_tile ysM S128x1024.size ysOff inb_ys ys_disj i h

/-- Loading all expert products. -/
theorem wp_ys_load {Q : α → sProp (MT nD τ sig Unit (Elt F) ℕ UU ℕ)} {c : Dev nD} {b : Fin 8 → FVec F S128x1024 .bf16} {off' : Fin 2 → ℕ} {inb' : ∀ a, off' a + S1024x1024.size a ≤ S1024x1024.size a}
    (h : off' = fun _ => 0) {hl : ysM.view.LoadsAt (Rect.unit (s := S1024x1024) off' S1024x1024.size inb').toLoadRect}
    {k : (S1024x1024.Idx → Elt F .bf16) → Prog (TpuEff nD τ sig (Elt F) Λ₀ .tc) α} :
    (ysT c b : sProp 𝕄)
      ⊢ iprop((ysT c b -∗ wp frame (wpE (defs₀ (F := F)) 𝒱₀ c none) Set.univ (k (glue b)) Q)
        -∗ wp frame (wpE (defs₀ (F := F)) 𝒱₀ c none) Set.univ (.op (.load ysM (Rect.unit (s := S1024x1024) off' S1024x1024.size inb').toLoadRect hl) k) Q) := by
  unfold ysT tiled
  iintro ⟨%f, %hf, H⟩ Hk
  have e : (ysM.view.slice (Rect.unit (s := S1024x1024) off' S1024x1024.size inb')).read (Elt F) f = glue b := by
    rw [read_all (M := ysM) h]
    funext i
    unfold glue
    rw [← hf]
    exact congrArg (ysM.view.read (Elt F) f) (glue_emb i _ _ rfl rfl)
  rw [← e]
  iapply (wp_load_rect (defs := defs₀ (F := F)) 𝒱₀ (c : Thread nD τ) none Set.univ (m := ysM) (r := Rect.unit (s := S1024x1024) off' S1024x1024.size inb') (hl := hl) (S := Finset.univ) (q := fullShare) (f := f) (Finset.subset_univ _)) $$ H
  iintro H
  iapply Hk
  iexists f
  isplitr; · ipureintro; exact hf
  iexact H

/-- Eight stores name all blocks. -/
theorem update_eight {β : Type} (b : Fin 8 → β) (w : Fin 8 → β) :
    Function.update (Function.update (Function.update (Function.update (Function.update (Function.update (Function.update (Function.update b 0 (w 0)) 1 (w 1)) 2 (w 2)) 3 (w 3)) 4 (w 4)) 5 (w 5)) 6 (w 6)) 7 (w 7) = w := by
  funext i
  fin_cases i <;> rfl

/-! ## Where the half chunks lie -/

theorem off_own (c : Dev nD) (o : Fin 2 → ℕ) (h : o = ![512 * c.val, 0]) : o = ![512 * ((c.val + (0 : Fin 4).val) % 4), 0] := by
  subst h; revert c; decide
theorem off_opp (c : Dev nD) : (![512 * ((c.val + (1 : Fin 2).val + 1) % 4), 0] : Fin 2 → ℕ) = ![512 * (opp c).val, 0] := by revert c; decide
theorem outOff_own0 (c : Dev nD) : (![512 * c.val, 0] : Fin 2 → ℕ) = outOff c 0 := by revert c; decide
theorem outOff_own1 (c : Dev nD) : (![512 * c.val, 512] : Fin 2 → ℕ) = outOff c 1 := by revert c; decide
theorem outOff_6_0 (c : Dev nD) : (![512 * ((c.val + 4 - (0 : Fin 3).val) % 4), 0] : Fin 2 → ℕ) = outOff c 0 := by revert c; decide
theorem outOff_6_1 (c : Dev nD) : (![512 * ((c.val + 4 - (1 : Fin 3).val) % 4), 0] : Fin 2 → ℕ) = outOff c 6 := by revert c; decide
theorem outOff_6_2 (c : Dev nD) : (![512 * ((c.val + 4 - (2 : Fin 3).val) % 4), 0] : Fin 2 → ℕ) = outOff c 4 := by revert c; decide
theorem outOff_8_0 (c : Dev nD) : (![512 * ((c.val + (0 : Fin 3).val) % 4), 512] : Fin 2 → ℕ) = outOff c 1 := by revert c; decide
theorem outOff_8_1 (c : Dev nD) : (![512 * ((c.val + (1 : Fin 3).val) % 4), 512] : Fin 2 → ℕ) = outOff c 3 := by revert c; decide
theorem outOff_8_2 (c : Dev nD) : (![512 * ((c.val + (2 : Fin 3).val) % 4), 512] : Fin 2 → ℕ) = outOff c 5 := by revert c; decide
theorem outOff_10_1 (c : Dev nD) : (![512 * ((c.val + (0 : Fin 2).val + 1) % 4), 0] : Fin 2 → ℕ) = outOff c 2 := by revert c; decide
theorem outOff_10_2 (c : Dev nD) : (![512 * ((c.val + (1 : Fin 2).val + 1) % 4), 0] : Fin 2 → ℕ) = outOff c 4 := by revert c; decide
theorem outOff_11 (c : Dev nD) : (![512 * ((c.val + 3) % 4), 512] : Fin 2 → ℕ) = outOff c 7 := by revert c; decide

/-! ## A landing slot is the source of the next transfer -/

theorem slot_7 (I : Fam F) (c : Dev nD) : (sl (dstV 6) c (sval I 6 (frm 6 c)) : sProp 𝕄) = sl (srcV 7) c (sval I 7 c) := rfl
theorem slot_8 (I : Fam F) (c : Dev nD) : (sl (dstV 7) c (sval I 7 (frm 7 c)) : sProp 𝕄) = sl (srcV 8) c (sval I 8 c) := rfl
theorem slot_10 (I : Fam F) (c : Dev nD) : (sl (dstV 9) c (sval I 9 (frm 9 c)) : sProp 𝕄) = sl (srcV 10) c (sval I 10 c) := rfl
theorem slot_11 (I : Fam F) (c : Dev nD) : (sl (dstV 10) c (sval I 10 (frm 10 c)) : sProp 𝕄) = sl (srcV 11) c (sval I 11 c) := rfl

end Cert.KernelIdeal.Moe

end
-- ==== Proof.Protocol.lean ====
/-
The protocol of the kernel's run, as a schedule of its semaphores.

Write `lf c` and `rt c` for the ring neighbours of device `c`. Per device there are

* the barrier counter, raised once by each neighbour and awaited for both units. The neighbour's unit hands over the landing
  slots, on that neighbour, of the transfers this device is going to send to it;
* twelve send counters and twelve receive counters, one pair per transfer. Transfer `k` of device `c` goes to `peer k c`. Its
  send counter, on `c`, is raised when the source slot has been read and hands that slot back; its receive counter, on
  `peer k c`, is raised when the data has landed and hands over the landing slot holding `sval k c`. Transfers 0, 1, 2 go round
  to the right and 3, 4, 5 to the left with partial sums, 6, 7, 8 to the right and 9, 10, 11 to the left with finished halves;
  each is awaited at both ends before the next stage is sent;
* two counters of the local copies that fetch the expert matrices. Copy `j` uses counter `j % 2` in its round `j / 2` and hands
  over the fetched matrix in slot `j % 2` and the matrix it was read from.
-/
module

public import proofs.«01_k».proof.Proof.Values

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The counters -/

set_option backward.proofsInPublic true in
/-- The send counter of transfer `k`. -/
def sS (k : Fin 12) : Fin 32 := ⟨8 + k.val, by omega⟩
set_option backward.proofsInPublic true in
/-- The receive counter of transfer `k`. -/
def sR (k : Fin 12) : Fin 32 := ⟨20 + k.val, by omega⟩
set_option backward.proofsInPublic true in
/-- The counters of the local copies. -/
def sL (s : Fin 2) : Fin 32 := ⟨6 + s.val, by omega⟩

abbrev semS (k : Fin 12) : SemLoc sig := .dma (sS k)
abbrev semR (k : Fin 12) : SemLoc sig := .dma (sR k)
abbrev semL (s : Fin 2) : SemLoc sig := .dma (sL s)
abbrev semB : SemLoc sig := .reg barrier0

abbrev barCell (c : Dev nD) : GSem nD τ sig := ((c : Thread nD τ), semB)
abbrev sendCell (k : Fin 12) (c : Dev nD) : GSem nD τ sig := ((c : Thread nD τ), semS k)
abbrev recvCell (k : Fin 12) (c : Dev nD) : GSem nD τ sig := ((c : Thread nD τ), semR k)
abbrev locCell (s : Fin 2) (c : Dev nD) : GSem nD τ sig := ((c : Thread nD τ), semL s)

/-- What a counter is for. -/
inductive Role where
  | bar | snd (k : Fin 12) | rcv (k : Fin 12) | loc (s : Fin 2) | other
  deriving DecidableEq

set_option backward.proofsInPublic true in
def role : SemLoc sig → Role
  | .reg _ => .bar
  | .dma q =>
    if q.val < 6 then .other
    else if h : q.val < 8 then .loc ⟨q.val - 6, by omega⟩
    else if h : q.val < 20 then .snd ⟨q.val - 8, by omega⟩
    else .rcv ⟨q.val - 20, by have : q.val < 32 := q.isLt; omega⟩

theorem role_bar : role semB = .bar := rfl
theorem role_snd (k : Fin 12) : role (semS k) = .snd k := by revert k; decide
theorem role_rcv (k : Fin 12) : role (semR k) = .rcv k := by revert k; decide
theorem role_loc (s : Fin 2) : role (semL s) = .loc s := by revert s; decide

/-! ## Amounts -/

theorem numel_slot : S512x512.numel = S1x512x512.numel := by decide
theorem numel_ew : S1024x1024.numel = S1x1024x1024.numel := by decide

/-- What one transfer credits. -/
def N : ℕ := ((dstV 0).reshape S512x512 numel_slot).dmaCredit
/-- What one local copy credits. -/
def NL : ℕ := ((wbV 0).reshape S1024x1024 numel_ew).dmaCredit
theorem N_pos : 0 < N := View.dmaCredit_pos _ (by decide)
theorem NL_pos : 0 < NL := View.dmaCredit_pos _ (by decide)

/-! ## What the counters hand over -/

variable (I : Fam F)

/-- The landing slot of transfer `k` on device `n`, ready. -/
def land (k : Fin 12) (n : Dev nD) : sProp 𝕄 := iprop(slAny (F := F) (dstV k) n ∗ reached ER (recvCell k n) 0)

/-- Landing slots on `n` of what the device at its right sends. -/
def landL (n : Dev nD) : sProp 𝕄 :=
  iprop(land (F := F) 3 n ∗ land (F := F) 4 n ∗ land (F := F) 5 n ∗ land (F := F) 9 n ∗ land (F := F) 10 n ∗ land (F := F) 11 n)
/-- Landing slots on `n` of what the device at its left sends. -/
def landR (n : Dev nD) : sProp 𝕄 :=
  iprop(land (F := F) 0 n ∗ land (F := F) 1 n ∗ land (F := F) 2 n ∗ land (F := F) 6 n ∗ land (F := F) 7 n ∗ land (F := F) 8 n)

/-- With the unit of its left (`true`) or right (`false`) neighbour, device `c` gets that neighbour's landing slots. -/
def barPay (c : Dev nD) : Bool → sProp 𝕄
  | true => landL (F := F) (lf c)
  | false => landR (F := F) (rt c)

def sendPay (k : Fin 12) (c : Dev nD) : sProp 𝕄 := sl (srcV k) c (sval I k c)
def recvPay (k : Fin 12) (c : Dev nD) : sProp 𝕄 := sl (dstV k) c (sval I k (frm k c))

/-- Expert matrix `j` of the device, held whole at its contents. -/
def ewPt (I : Fam F) (j : Fin 8) (c : Dev nD) : sProp 𝕄 :=
  ((ewV j).loc (c : Thread nD τ) ↦[(ewV j).set]{fullShare} ((I c).ew : Buf (Elt F) ((Memref.whole main_arg3).view.loc (c : Thread nD τ))))

set_option backward.proofsInPublic true in
/-- The copy that uses counter `s` in round `r`. -/
def copyIx (s : Fin 2) (r : ℕ) : Fin 8 := ⟨(2 * r + s.val) % 8, Nat.mod_lt _ (by decide)⟩

def locPay (s : Fin 2) (r : ℕ) (c : Dev nD) : sProp 𝕄 := iprop(sl (wbV s) c (ewAt (I c) (copyIx s r)) ∗ ewPt I (copyIx s r) c)

/-! ## The schedule -/

def rd : Rounds.Schedule (GSem nD τ sig) Bool 𝕄 where
  duties g r := if g.1.2 = .tc then
      match role g.2 with
      | .bar => if r = 0 then {true, false} else ∅
      | .snd _ => if r = 0 then {true} else ∅
      | .rcv _ => if r = 0 then {true} else ∅
      | .loc _ => if r < 4 then {true} else ∅
      | .other => ∅
    else ∅
  unitless _ := False
  amount g _ _ := match role g.2 with
    | .bar => 1
    | .loc _ => NL
    | _ => N
  payload g r d := match role g.2 with
    | .bar => barPay (F := F) g.1.1 d
    | .snd k => sendPay I k g.1.1
    | .rcv k => recvPay I k g.1.1
    | .loc s => locPay I s r g.1.1
    | .other => iprop(emp)
  amount_pos g _ _ _ := by
    split
    · exact Nat.one_pos
    · exact NL_pos
    · exact N_pos

instance rd_payload_storable (g : GSem nD τ sig) (r : ℕ) (d : Bool) : BI.Storable (upEmb : UEmb _ 𝕄) ((rd I).payload g r d) := by
  show BI.Storable upEmb (match role g.2 with
    | .bar => barPay (F := F) g.1.1 d
    | .snd k => sendPay I k g.1.1
    | .rcv k => recvPay I k g.1.1
    | .loc s => locPay I s r g.1.1
    | .other => iprop(emp))
  split
  · cases d
    · show BI.Storable upEmb (landR (F := F) _)
      unfold landR land; infer_instance
    · show BI.Storable upEmb (landL (F := F) _)
      unfold landL land; infer_instance
  · unfold sendPay; infer_instance
  · unfold recvPay; infer_instance
  · unfold locPay ewPt; infer_instance
  · infer_instance

section Sched

variable (c : Dev nD) (k : Fin 12) (s : Fin 2) (d : Bool)

theorem duties_bar : (rd I).duties (barCell c) 0 = {true, false} := by dsimp only [rd]; rw [if_pos rfl, role_bar]; exact if_pos rfl
theorem duties_snd : (rd I).duties (sendCell k c) 0 = {true} := by dsimp only [rd]; rw [if_pos rfl, role_snd]; exact if_pos rfl
theorem duties_rcv : (rd I).duties (recvCell k c) 0 = {true} := by dsimp only [rd]; rw [if_pos rfl, role_rcv]; exact if_pos rfl
theorem duties_loc (r : ℕ) (hr : r < 4) : (rd I).duties (locCell s c) r = {true} := by dsimp only [rd]; rw [if_pos rfl, role_loc]; exact if_pos hr
theorem later_bar : ∀ r, 1 ≤ r → (rd I).duties (barCell c) r = ∅ := fun r hr => by
  dsimp only [rd]; rw [if_pos rfl, role_bar]; exact if_neg (by omega)
theorem later_snd : ∀ r, 1 ≤ r → (rd I).duties (sendCell k c) r = ∅ := fun r hr => by
  dsimp only [rd]; rw [if_pos rfl, role_snd]; exact if_neg (by omega)
theorem later_rcv : ∀ r, 1 ≤ r → (rd I).duties (recvCell k c) r = ∅ := fun r hr => by
  dsimp only [rd]; rw [if_pos rfl, role_rcv]; exact if_neg (by omega)
theorem later_loc : ∀ r, 4 ≤ r → (rd I).duties (locCell s c) r = ∅ := fun r hr => by
  dsimp only [rd]; rw [if_pos rfl, role_loc]; exact if_neg (by omega)

theorem amount_bar (r : ℕ) : (rd I).amount (barCell c) r d = 1 := by dsimp only [rd]; rw [role_bar]
theorem amount_snd (r : ℕ) : (rd I).amount (sendCell k c) r d = N := by dsimp only [rd]; rw [role_snd]
theorem amount_rcv (r : ℕ) : (rd I).amount (recvCell k c) r d = N := by dsimp only [rd]; rw [role_rcv]
theorem amount_loc (r : ℕ) : (rd I).amount (locCell s c) r d = NL := by dsimp only [rd]; rw [role_loc]

theorem expect_bar : (rd I).expect (barCell c) 0 = 2 := by
  unfold Schedule.expect Schedule.amountOf; rw [duties_bar, Finset.sum_pair (by decide), amount_bar, amount_bar]
theorem expect_snd : (rd I).expect (sendCell k c) 0 = N := by
  unfold Schedule.expect Schedule.amountOf; rw [duties_snd, Finset.sum_singleton, amount_snd]
theorem expect_rcv : (rd I).expect (recvCell k c) 0 = N := by
  unfold Schedule.expect Schedule.amountOf; rw [duties_rcv, Finset.sum_singleton, amount_rcv]
theorem expect_loc (r : ℕ) (hr : r < 4) : (rd I).expect (locCell s c) r = NL := by
  unfold Schedule.expect Schedule.amountOf; rw [duties_loc I c s r hr, Finset.sum_singleton, amount_loc]

theorem payload_bar (r : ℕ) : (rd I).payload (barCell c) r d = barPay (F := F) c d := by dsimp only [rd]; rw [role_bar]
theorem payload_snd (r : ℕ) : (rd I).payload (sendCell k c) r d = sendPay I k c := by dsimp only [rd]; rw [role_snd]
theorem payload_rcv (r : ℕ) : (rd I).payload (recvCell k c) r d = recvPay I k c := by dsimp only [rd]; rw [role_rcv]
theorem payload_loc (r : ℕ) : (rd I).payload (locCell s c) r d = locPay I s r c := by dsimp only [rd]; rw [role_loc]

theorem rest_bar : bigSep ((rd I).duties (barCell c) 0 \ ∅) (fun u => (rd I).payload (barCell c) 0 u) = iprop(landL (F := F) (lf c) ∗ landR (F := F) (rt c)) := by
  rw [Finset.sdiff_empty, duties_bar, bigSep_insert (by decide), bigSep_singleton, payload_bar, payload_bar]; rfl
theorem rest_snd : bigSep ((rd I).duties (sendCell k c) 0 \ ∅) (fun u => (rd I).payload (sendCell k c) 0 u) = sendPay I k c := by
  rw [Finset.sdiff_empty, duties_snd, bigSep_singleton, payload_snd]
theorem rest_rcv : bigSep ((rd I).duties (recvCell k c) 0 \ ∅) (fun u => (rd I).payload (recvCell k c) 0 u) = recvPay I k c := by
  rw [Finset.sdiff_empty, duties_rcv, bigSep_singleton, payload_rcv]
theorem rest_loc (r : ℕ) (hr : r < 4) : bigSep ((rd I).duties (locCell s c) r \ ∅) (fun u => (rd I).payload (locCell s c) r u) = locPay I s r c := by
  rw [Finset.sdiff_empty, duties_loc I c s r hr, bigSep_singleton, payload_loc]

end Sched

/-! ## What a device owes, and the levels -/

/-- The credits of the transfers `l`, still to be sent by device `c`. -/
def tallies (c : Dev nD) : List (Fin 12) → CellTallies nD τ sig Unit
  | [] => 0
  | k :: l => tallies c l + tallyAt (recvCell k (peer k c)) () N

theorem tallies_pos {c : Dev nD} {l : List (Fin 12)} {g : GSem nD τ sig} {u : Unit} (h : 0 < tallies c l g u) :
    ∃ k ∈ l, g = recvCell k (peer k c) := by
  induction l with
  | nil => exact absurd h (Nat.lt_irrefl 0)
  | cons k l ih =>
    unfold tallies at h
    rw [Pi.add_apply, Finsupp.add_apply] at h
    rcases Nat.add_pos_iff_pos_or_pos.mp h with h | h
    · obtain ⟨k', hk, e⟩ := ih h; exact ⟨k', List.mem_cons_of_mem _ hk, e⟩
    · rw [tallyAt_apply] at h
      split at h
      · next hg => exact ⟨k, List.mem_cons_self, hg.1⟩
      · exact absurd h (Nat.lt_irrefl 0)

/-- The order in which a device sends. -/
abbrev order : List (Fin 12) := [0, 3, 1, 4, 2, 5, 6, 9, 7, 10, 8, 11]

/-- At launch: all transfers, and the barrier units of both neighbours. -/
def O₀ (c : Dev nD) : CellTallies nD τ sig Unit :=
  tallies c order + tallyAt (barCell (rt c)) () 1 + tallyAt (barCell (lf c)) () 1

def L (g : GSem nD τ sig) : Finset Unit := if g.1.2 = .tc then {()} else ∅
set_option backward.proofsInPublic true in
/-- The stage a transfer belongs to. -/
def stage (k : Fin 12) : ℕ := if k.val < 6 then k.val % 3 else 3 + k.val % 3
def lv (g : GSem nD τ sig) (_ : Unit) : ℕ := match role g.2 with
  | .bar => 1
  | .rcv k => 2 + stage k
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_rcv (k : Fin 12) (c : Dev nD) : lv (recvCell k c) () = 2 + stage k := by unfold lv; rw [role_rcv]
theorem lv_snd (k : Fin 12) (c : Dev nD) : lv (sendCell k c) () = 0 := by unfold lv; rw [role_snd]
theorem lv_loc (s : Fin 2) (c : Dev nD) : lv (locCell s c) () = 0 := by unfold lv; rw [role_loc]

/-- A device that still owes the transfers `l` may wait on a counter below all their stages. -/
theorem mayWait (c : Dev nD) (sm : SemLoc sig) (l : List (Fin 12)) (n : ℕ) (hn : lv ((c : Thread nD τ), sm) () ≤ n) (hl : ∀ k ∈ l, n < 2 + stage k) :
    (levAts L lv : sProp 𝕄) ⊢ MayWait (c : Thread nD τ) sm () (tallies c l) :=
  MayOwe.of_cut (L := L) (lev := lv) n (fun p hp => by rw [Finset.mem_singleton.mp hp, L_tc]; exact Finset.mem_singleton_self _)
    (fun g u hg => by obtain ⟨k, _, rfl⟩ := tallies_pos hg; rw [L_tc]; exact Finset.mem_singleton_self _)
    (fun p hp => by rw [Finset.mem_singleton.mp hp]; exact hn)
    (fun g u hg => by obtain ⟨k, hk, rfl⟩ := tallies_pos hg; cases u; rw [lv_rcv]; exact hl k hk)

/-! ## The counters' invariants -/

set_option backward.proofsInPublic true in
/-- The kernel's own counters: two of local copies, twelve of departures, twelve of arrivals. -/
abbrev osem0 : Fin 26 → SemLoc sig := fun k => .dma (⟨6 + k.val, by omega⟩ : Fin 32)
theorem osem0_inj : Function.Injective osem0 := by decide
theorem osem0_ne_bar : ∀ k : Fin 26, osem0 k ≠ semB := by decide

def barEmb : Dev nD ↪ GSem nD τ sig := ⟨fun c => barCell c, fun _ _ h => congrArg (fun g : GSem nD τ sig => g.1.1) h⟩
def scEmb : Dev nD × Fin 26 ↪ GSem nD τ sig :=
  ⟨fun ck => ((ck.1 : Thread nD τ), osem0 ck.2), fun _ _ h =>
    Prod.ext (congrArg (fun g : GSem nD τ sig => g.1.1) h) (osem0_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem sc_mem (c : Dev nD) (sm : SemLoc sig) (j : Fin 26) (h : osem0 j = sm) : ((c : Thread nD τ), sm) ∈ (barCells ∪ scCells : Finset (GSem nD τ sig)) := by
  subst h; exact Finset.mem_union_right _ (Finset.mem_map_of_mem scEmb (Finset.mem_univ (c, j)))
theorem send_mem (k : Fin 12) (c : Dev nD) : sendCell k c ∈ (barCells ∪ scCells : Finset (GSem nD τ sig)) :=
  sc_mem c _ ⟨2 + k.val, by omega⟩ (by revert k; decide)
theorem recv_mem (k : Fin 12) (c : Dev nD) : recvCell k c ∈ (barCells ∪ scCells : Finset (GSem nD τ sig)) :=
  sc_mem c _ ⟨14 + k.val, by omega⟩ (by revert k; decide)
theorem loc_mem (s : Fin 2) (c : Dev nD) : locCell s c ∈ (barCells ∪ scCells : Finset (GSem nD τ sig)) :=
  sc_mem c _ ⟨s.val, by omega⟩ (by revert s; decide)

/-- What every device may consult: the counters' invariants under the names `K`, and the levels. -/
def ctx (K : GSem nD τ sig → ℕ) : sProp 𝕄 :=
  iprop((bigSep (barCells ∪ scCells) fun g => cellInv ER (rd I) (K g) g) ∗ levAts L lv)
instance ctx_persistent (K : GSem nD τ sig → ℕ) : BI.Persistent (ctx I K) := by unfold ctx; infer_instance

theorem ctx_inv (K : GSem nD τ sig → ℕ) {g : GSem nD τ sig} (hg : g ∈ (barCells ∪ scCells : Finset (GSem nD τ sig))) :
    ctx I K ⊢ cellInv ER (rd I) (K g) g := by
  unfold ctx
  iintro ⟨#H, -⟩
  iapply (show (bigSep (barCells ∪ scCells) fun g => (cellInv ER (rd I) (K g) g : sProp 𝕄)) ⊢ cellInv ER (rd I) (K g) g from bigSep_elim hg) $$ H
theorem ctx_lev (K : GSem nD τ sig → ℕ) : ctx I K ⊢ levAts L lv := by
  unfold ctx; iintro ⟨-, #H⟩; iexact H

/-- Owing, whatever the waits made so far. -/
def owing (c : Dev nD) (O : CellTallies nD τ sig Unit) : sProp 𝕄 := iprop(∃ W, owes (c : Thread nD τ) O W)

/-- What sending transfer `k` spends. -/
def toSend (k : Fin 12) (c : Dev nD) : sProp 𝕄 :=
  iprop(dutyTok ER (sendCell k c) 0 true ∗ reached ER (sendCell k c) 0 ∗ dutyTok ER (recvCell k (peer k c)) 0 true ∗ atPos ER (sendCell k c) 0 ∅ 0)
/-- Transfer `k` under way. -/
def sent (k : Fin 12) (c : Dev nD) : sProp 𝕄 := iprop(cred (tallyAt (sendCell k c) () N) ∗ atPos ER (sendCell k c) 0 ∅ 0)
/-- Transfer `k` expected. -/
def toRecv (k : Fin 12) (c : Dev nD) : sProp 𝕄 := iprop(cred (tallyAt (recvCell k c) () N) ∗ atPos ER (recvCell k c) 0 ∅ 0)
def sentDone (k : Fin 12) (c : Dev nD) : sProp 𝕄 := atPos ER (sendCell k c) 1 ∅ 0
def recvDone (k : Fin 12) (c : Dev nD) : sProp 𝕄 := atPos ER (recvCell k c) 1 ∅ 0

/-- Local copies on counter `s` before the one of round `r`: the tokens still to spend. -/
def locAt (s : Fin 2) (r : ℕ) (c : Dev nD) : sProp 𝕄 :=
  iprop(atPos ER (locCell s c) r ∅ 0 ∗ reached ER (locCell s c) r)
def locTok (s : Fin 2) (r : ℕ) (c : Dev nD) : sProp 𝕄 := dutyTok ER (locCell s c) r true

end Cert.KernelIdeal.Moe

end
-- ==== Proof.Slots.lean ====
/-
Buffers held whole and held slot by slot: the scratch buffers of the kernel, the device's experts, the expert products and the
result.
-/
module

public import proofs.«01_k».proof.Proof.Tiles
public import proofs.«01_k».proof.Proof.Protocol

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Buffer `b` of device `c`, whole, at contents not chosen. -/
abbrev bufAny (b : Ref sig .tc) (c : Dev nD) : sProp 𝕄 :=
  iprop(∃ f : Buf (Elt F) ((c : Thread nD τ).loc b), ((c : Thread nD τ).loc b) ↦{fullShare} f)

/-- Elements held at some contents. -/
theorem slAny_intro {sp : Space} {s : Shape} {e : EltTy} (V : View sig .tc sp s e) (c : Dev nD) (f : Buf (Elt F) (V.loc (c : Thread nD τ))) :
    ((V.loc (c : Thread nD τ) ↦[V.set]{fullShare} f) : sProp 𝕄) ⊢ slAny V c := by
  unfold slAny
  iintro H
  iexists f; iexact H

/-! ### `cc0_scratch0` -/

theorem inb_slW (i : Fin 2) : ∀ a, (![i.val, 0, 0] : Fin 3 → ℕ) a + S1x1024x1024.size a ≤ S2x1024x1024.size a := by revert i; decide
abbrev slW (i : Fin 2) : View sig .tc .vmem S1x1024x1024 .f32 :=
  (Memref.whole cc0_scratch0).view.slice (Rect.unit (s := S2x1024x1024) ![i.val, 0, 0] S1x1024x1024.size (inb_slW i))

theorem slW_disjoint (b b' : Fin 2) (h : b ≠ b') : Disjoint (slW b).set (slW b').set := by
  rw [View.set_slice_whole, View.set_slice_whole]
  exact Ring.lead_disjoint (s := S2x1024x1024) (NB := 2) (0 : Fin 3) 1 (fun i => ![i.val, 0, 0]) S1x1024x1024.size inb_slW (fun b => (Nat.one_mul _).symm) rfl b b' h
theorem slW_cover : Finset.biUnion (β := Idx (((0 : Dev nD) : Thread nD τ).loc cc0_scratch0)) Finset.univ (fun b : Fin 2 => (slW b).set) = Finset.univ := by
  refine (congrArg (Finset.biUnion Finset.univ) (funext fun b => View.set_slice_whole _ _)).trans ?_
  exact Ring.lead_cover (s := S2x1024x1024) (NB := 2) (0 : Fin 3) 1 (fun i => ![i.val, 0, 0]) S1x1024x1024.size inb_slW (fun b => (Nat.one_mul _).symm) (by decide) rfl (by decide) rfl

theorem slW_eq (c : Dev nD) : bigSep Finset.univ (fun i => (slAny (F := F) (slW i) c : sProp 𝕄)) = iprop(slAny (wbV 0) c ∗ slAny (wbV 1) c) :=
  bigSep_univ_eq_bigSepL [0, 1] (by decide) (by decide) _
theorem slW_split (c : Dev nD) : (bufAny (F := F) cc0_scratch0 c : sProp 𝕄) ⊢ iprop(slAny (wbV 0) c ∗ slAny (wbV 1) c) := by
  rw [← slW_eq]
  iintro ⟨%f, H⟩
  ihave H' := (Entails.of_eq (Ring.pointsTo_blocks (fun i => (slW i).set) slW_disjoint slW_cover f)) $$ H
  iapply (show (bigSep Finset.univ fun i => (((c : Thread nD τ).loc cc0_scratch0) ↦[(slW i).set]{fullShare} f : sProp 𝕄)) ⊢ bigSep Finset.univ (fun i => slAny (F := F) (slW i) c) from
    bigSep_mono fun i _ => slAny_intro (slW i) c f)
  iexact H'
theorem slW_join (c : Dev nD) : (iprop(slAny (wbV 0) c ∗ slAny (wbV 1) c) : sProp 𝕄) ⊢ bufAny (F := F) cc0_scratch0 c := by
  rw [← slW_eq]
  iintro H
  iapply (Ring.pointsTo_blocks_join_exists (ℓ := (c : Thread nD τ).loc cc0_scratch0) (q := fullShare) (fun i => (slW i).set) slW_disjoint slW_cover (fun _ => Classical.arbitrary _))
  iexact H

/-! ### `cc0_scratch2` -/

theorem inb_slA (i : Fin 3) : ∀ a, (![i.val, 0, 0] : Fin 3 → ℕ) a + S1x512x512.size a ≤ S3x512x512.size a := by revert i; decide
abbrev slA (i : Fin 3) : View sig .tc .vmem S1x512x512 .bf16 :=
  (Memref.whole cc0_scratch2).view.slice (Rect.unit (s := S3x512x512) ![i.val, 0, 0] S1x512x512.size (inb_slA i))

theorem slA_disjoint (b b' : Fin 3) (h : b ≠ b') : Disjoint (slA b).set (slA b').set := by
  rw [View.set_slice_whole, View.set_slice_whole]
  exact Ring.lead_disjoint (s := S3x512x512) (NB := 3) (0 : Fin 3) 1 (fun i => ![i.val, 0, 0]) S1x512x512.size inb_slA (fun b => (Nat.one_mul _).symm) rfl b b' h
theorem slA_cover : Finset.biUnion (β := Idx (((0 : Dev nD) : Thread nD τ).loc cc0_scratch2)) Finset.univ (fun b : Fin 3 => (slA b).set) = Finset.univ := by
  refine (congrArg (Finset.biUnion Finset.univ) (funext fun b => View.set_slice_whole _ _)).trans ?_
  exact Ring.lead_cover (s := S3x512x512) (NB := 3) (0 : Fin 3) 1 (fun i => ![i.val, 0, 0]) S1x512x512.size inb_slA (fun b => (Nat.one_mul _).symm) (by decide) rfl (by decide) rfl

theorem slA_eq (c : Dev nD) : bigSep Finset.univ (fun i => (slAny (F := F) (slA i) c : sProp 𝕄)) = iprop(slAny (srcV 0) c ∗ slAny (srcV 1) c ∗ slAny (srcV 2) c) :=
  bigSep_univ_eq_bigSepL [0, 1, 2] (by decide) (by decide) _
theorem slA_split (c : Dev nD) : (bufAny (F := F) cc0_scratch2 c : sProp 𝕄) ⊢ iprop(slAny (srcV 0) c ∗ slAny (srcV 1) c ∗ slAny (srcV 2) c) := by
  rw [← slA_eq]
  iintro ⟨%f, H⟩
  ihave H' := (Entails.of_eq (Ring.pointsTo_blocks (fun i => (slA i).set) slA_disjoint slA_cover f)) $$ H
  iapply (show (bigSep Finset.univ fun i => (((c : Thread nD τ).loc cc0_scratch2) ↦[(slA i).set]{fullShare} f : sProp 𝕄)) ⊢ bigSep Finset.univ (fun i => slAny (F := F) (slA i) c) from
    bigSep_mono fun i _ => slAny_intro (slA i) c f)
  iexact H'
theorem slA_join (c : Dev nD) : (iprop(slAny (srcV 0) c ∗ slAny (srcV 1) c ∗ slAny (srcV 2) c) : sProp 𝕄) ⊢ bufAny (F := F) cc0_scratch2 c := by
  rw [← slA_eq]
  iintro H
  iapply (Ring.pointsTo_blocks_join_exists (ℓ := (c : Thread nD τ).loc cc0_scratch2) (q := fullShare) (fun i => (slA i).set) slA_disjoint slA_cover (fun _ => Classical.arbitrary _))
  iexact H

/-! ### `cc0_scratch3` -/

theorem inb_slB (i : Fin 3) : ∀ a, (![i.val, 0, 0] : Fin 3 → ℕ) a + S1x512x512.size a ≤ S3x512x512.size a := by revert i; decide
abbrev slB (i : Fin 3) : View sig .tc .vmem S1x512x512 .bf16 :=
  (Memref.whole cc0_scratch3).view.slice (Rect.unit (s := S3x512x512) ![i.val, 0, 0] S1x512x512.size (inb_slB i))

theorem slB_disjoint (b b' : Fin 3) (h : b ≠ b') : Disjoint (slB b).set (slB b').set := by
  rw [View.set_slice_whole, View.set_slice_whole]
  exact Ring.lead_disjoint (s := S3x512x512) (NB := 3) (0 : Fin 3) 1 (fun i => ![i.val, 0, 0]) S1x512x512.size inb_slB (fun b => (Nat.one_mul _).symm) rfl b b' h
theorem slB_cover : Finset.biUnion (β := Idx (((0 : Dev nD) : Thread nD τ).loc cc0_scratch3)) Finset.univ (fun b : Fin 3 => (slB b).set) = Finset.univ := by
  refine (congrArg (Finset.biUnion Finset.univ) (funext fun b => View.set_slice_whole _ _)).trans ?_
  exact Ring.lead_cover (s := S3x512x512) (NB := 3) (0 : Fin 3) 1 (fun i => ![i.val, 0, 0]) S1x512x512.size inb_slB (fun b => (Nat.one_mul _).symm) (by decide) rfl (by decide) rfl

theorem slB_eq (c : Dev nD) : bigSep Finset.univ (fun i => (slAny (F := F) (slB i) c : sProp 𝕄)) = iprop(slAny (srcV 3) c ∗ slAny (srcV 4) c ∗ slAny (srcV 5) c) :=
  bigSep_univ_eq_bigSepL [0, 1, 2] (by decide) (by decide) _
theorem slB_split (c : Dev nD) : (bufAny (F := F) cc0_scratch3 c : sProp 𝕄) ⊢ iprop(slAny (srcV 3) c ∗ slAny (srcV 4) c ∗ slAny (srcV 5) c) := by
  rw [← slB_eq]
  iintro ⟨%f, H⟩
  ihave H' := (Entails.of_eq (Ring.pointsTo_blocks (fun i => (slB i).set) slB_disjoint slB_cover f)) $$ H
  iapply (show (bigSep Finset.univ fun i => (((c : Thread nD τ).loc cc0_scratch3) ↦[(slB i).set]{fullShare} f : sProp 𝕄)) ⊢ bigSep Finset.univ (fun i => slAny (F := F) (slB i) c) from
    bigSep_mono fun i _ => slAny_intro (slB i) c f)
  iexact H'
theorem slB_join (c : Dev nD) : (iprop(slAny (srcV 3) c ∗ slAny (srcV 4) c ∗ slAny (srcV 5) c) : sProp 𝕄) ⊢ bufAny (F := F) cc0_scratch3 c := by
  rw [← slB_eq]
  iintro H
  iapply (Ring.pointsTo_blocks_join_exists (ℓ := (c : Thread nD τ).loc cc0_scratch3) (q := fullShare) (fun i => (slB i).set) slB_disjoint slB_cover (fun _ => Classical.arbitrary _))
  iexact H

/-! ### `cc0_scratch4` -/

theorem inb_slC (i : Fin 3) : ∀ a, (![i.val, 0, 0] : Fin 3 → ℕ) a + S1x512x512.size a ≤ S3x512x512.size a := by revert i; decide
abbrev slC (i : Fin 3) : View sig .tc .vmem S1x512x512 .bf16 :=
  (Memref.whole cc0_scratch4).view.slice (Rect.unit (s := S3x512x512) ![i.val, 0, 0] S1x512x512.size (inb_slC i))

theorem slC_disjoint (b b' : Fin 3) (h : b ≠ b') : Disjoint (slC b).set (slC b').set := by
  rw [View.set_slice_whole, View.set_slice_whole]
  exact Ring.lead_disjoint (s := S3x512x512) (NB := 3) (0 : Fin 3) 1 (fun i => ![i.val, 0, 0]) S1x512x512.size inb_slC (fun b => (Nat.one_mul _).symm) rfl b b' h
theorem slC_cover : Finset.biUnion (β := Idx (((0 : Dev nD) : Thread nD τ).loc cc0_scratch4)) Finset.univ (fun b : Fin 3 => (slC b).set) = Finset.univ := by
  refine (congrArg (Finset.biUnion Finset.univ) (funext fun b => View.set_slice_whole _ _)).trans ?_
  exact Ring.lead_cover (s := S3x512x512) (NB := 3) (0 : Fin 3) 1 (fun i => ![i.val, 0, 0]) S1x512x512.size inb_slC (fun b => (Nat.one_mul _).symm) (by decide) rfl (by decide) rfl

theorem slC_eq (c : Dev nD) : bigSep Finset.univ (fun i => (slAny (F := F) (slC i) c : sProp 𝕄)) = iprop(slAny (dstV 0) c ∗ slAny (dstV 1) c ∗ slAny (dstV 2) c) :=
  bigSep_univ_eq_bigSepL [0, 1, 2] (by decide) (by decide) _
theorem slC_split (c : Dev nD) : (bufAny (F := F) cc0_scratch4 c : sProp 𝕄) ⊢ iprop(slAny (dstV 0) c ∗ slAny (dstV 1) c ∗ slAny (dstV 2) c) := by
  rw [← slC_eq]
  iintro ⟨%f, H⟩
  ihave H' := (Entails.of_eq (Ring.pointsTo_blocks (fun i => (slC i).set) slC_disjoint slC_cover f)) $$ H
  iapply (show (bigSep Finset.univ fun i => (((c : Thread nD τ).loc cc0_scratch4) ↦[(slC i).set]{fullShare} f : sProp 𝕄)) ⊢ bigSep Finset.univ (fun i => slAny (F := F) (slC i) c) from
    bigSep_mono fun i _ => slAny_intro (slC i) c f)
  iexact H'
theorem slC_join (c : Dev nD) : (iprop(slAny (dstV 0) c ∗ slAny (dstV 1) c ∗ slAny (dstV 2) c) : sProp 𝕄) ⊢ bufAny (F := F) cc0_scratch4 c := by
  rw [← slC_eq]
  iintro H
  iapply (Ring.pointsTo_blocks_join_exists (ℓ := (c : Thread nD τ).loc cc0_scratch4) (q := fullShare) (fun i => (slC i).set) slC_disjoint slC_cover (fun _ => Classical.arbitrary _))
  iexact H

/-! ### `cc0_scratch5` -/

theorem inb_slD (i : Fin 3) : ∀ a, (![i.val, 0, 0] : Fin 3 → ℕ) a + S1x512x512.size a ≤ S3x512x512.size a := by revert i; decide
abbrev slD (i : Fin 3) : View sig .tc .vmem S1x512x512 .bf16 :=
  (Memref.whole cc0_scratch5).view.slice (Rect.unit (s := S3x512x512) ![i.val, 0, 0] S1x512x512.size (inb_slD i))

theorem slD_disjoint (b b' : Fin 3) (h : b ≠ b') : Disjoint (slD b).set (slD b').set := by
  rw [View.set_slice_whole, View.set_slice_whole]
  exact Ring.lead_disjoint (s := S3x512x512) (NB := 3) (0 : Fin 3) 1 (fun i => ![i.val, 0, 0]) S1x512x512.size inb_slD (fun b => (Nat.one_mul _).symm) rfl b b' h
theorem slD_cover : Finset.biUnion (β := Idx (((0 : Dev nD) : Thread nD τ).loc cc0_scratch5)) Finset.univ (fun b : Fin 3 => (slD b).set) = Finset.univ := by
  refine (congrArg (Finset.biUnion Finset.univ) (funext fun b => View.set_slice_whole _ _)).trans ?_
  exact Ring.lead_cover (s := S3x512x512) (NB := 3) (0 : Fin 3) 1 (fun i => ![i.val, 0, 0]) S1x512x512.size inb_slD (fun b => (Nat.one_mul _).symm) (by decide) rfl (by decide) rfl

theorem slD_eq (c : Dev nD) : bigSep Finset.univ (fun i => (slAny (F := F) (slD i) c : sProp 𝕄)) = iprop(slAny (dstV 3) c ∗ slAny (dstV 4) c ∗ slAny (dstV 5) c) :=
  bigSep_univ_eq_bigSepL [0, 1, 2] (by decide) (by decide) _
theorem slD_split (c : Dev nD) : (bufAny (F := F) cc0_scratch5 c : sProp 𝕄) ⊢ iprop(slAny (dstV 3) c ∗ slAny (dstV 4) c ∗ slAny (dstV 5) c) := by
  rw [← slD_eq]
  iintro ⟨%f, H⟩
  ihave H' := (Entails.of_eq (Ring.pointsTo_blocks (fun i => (slD i).set) slD_disjoint slD_cover f)) $$ H
  iapply (show (bigSep Finset.univ fun i => (((c : Thread nD τ).loc cc0_scratch5) ↦[(slD i).set]{fullShare} f : sProp 𝕄)) ⊢ bigSep Finset.univ (fun i => slAny (F := F) (slD i) c) from
    bigSep_mono fun i _ => slAny_intro (slD i) c f)
  iexact H'
theorem slD_join (c : Dev nD) : (iprop(slAny (dstV 3) c ∗ slAny (dstV 4) c ∗ slAny (dstV 5) c) : sProp 𝕄) ⊢ bufAny (F := F) cc0_scratch5 c := by
  rw [← slD_eq]
  iintro H
  iapply (Ring.pointsTo_blocks_join_exists (ℓ := (c : Thread nD τ).loc cc0_scratch5) (q := fullShare) (fun i => (slD i).set) slD_disjoint slD_cover (fun _ => Classical.arbitrary _))
  iexact H

/-! ### `cc0_scratch6` -/

theorem inb_slE (i : Fin 4) : ∀ a, (![i.val, 0, 0] : Fin 3 → ℕ) a + S1x512x512.size a ≤ S4x512x512.size a := by revert i; decide
abbrev slE (i : Fin 4) : View sig .tc .vmem S1x512x512 .bf16 :=
  (Memref.whole cc0_scratch6).view.slice (Rect.unit (s := S4x512x512) ![i.val, 0, 0] S1x512x512.size (inb_slE i))

theorem slE_disjoint (b b' : Fin 4) (h : b ≠ b') : Disjoint (slE b).set (slE b').set := by
  rw [View.set_slice_whole, View.set_slice_whole]
  exact Ring.lead_disjoint (s := S4x512x512) (NB := 4) (0 : Fin 3) 1 (fun i => ![i.val, 0, 0]) S1x512x512.size inb_slE (fun b => (Nat.one_mul _).symm) rfl b b' h
theorem slE_cover : Finset.biUnion (β := Idx (((0 : Dev nD) : Thread nD τ).loc cc0_scratch6)) Finset.univ (fun b : Fin 4 => (slE b).set) = Finset.univ := by
  refine (congrArg (Finset.biUnion Finset.univ) (funext fun b => View.set_slice_whole _ _)).trans ?_
  exact Ring.lead_cover (s := S4x512x512) (NB := 4) (0 : Fin 3) 1 (fun i => ![i.val, 0, 0]) S1x512x512.size inb_slE (fun b => (Nat.one_mul _).symm) (by decide) rfl (by decide) rfl

theorem slE_eq (c : Dev nD) : bigSep Finset.univ (fun i => (slAny (F := F) (slE i) c : sProp 𝕄)) = iprop(slAny (dstV 6) c ∗ slAny (dstV 7) c ∗ slAny (dstV 8) c ∗ slAny (srcV 6) c) :=
  bigSep_univ_eq_bigSepL [0, 1, 2, 3] (by decide) (by decide) _
theorem slE_split (c : Dev nD) : (bufAny (F := F) cc0_scratch6 c : sProp 𝕄) ⊢ iprop(slAny (dstV 6) c ∗ slAny (dstV 7) c ∗ slAny (dstV 8) c ∗ slAny (srcV 6) c) := by
  rw [← slE_eq]
  iintro ⟨%f, H⟩
  ihave H' := (Entails.of_eq (Ring.pointsTo_blocks (fun i => (slE i).set) slE_disjoint slE_cover f)) $$ H
  iapply (show (bigSep Finset.univ fun i => (((c : Thread nD τ).loc cc0_scratch6) ↦[(slE i).set]{fullShare} f : sProp 𝕄)) ⊢ bigSep Finset.univ (fun i => slAny (F := F) (slE i) c) from
    bigSep_mono fun i _ => slAny_intro (slE i) c f)
  iexact H'
theorem slE_join (c : Dev nD) : (iprop(slAny (dstV 6) c ∗ slAny (dstV 7) c ∗ slAny (dstV 8) c ∗ slAny (srcV 6) c) : sProp 𝕄) ⊢ bufAny (F := F) cc0_scratch6 c := by
  rw [← slE_eq]
  iintro H
  iapply (Ring.pointsTo_blocks_join_exists (ℓ := (c : Thread nD τ).loc cc0_scratch6) (q := fullShare) (fun i => (slE i).set) slE_disjoint slE_cover (fun _ => Classical.arbitrary _))
  iexact H

/-! ### `cc0_scratch7` -/

theorem inb_slF (i : Fin 4) : ∀ a, (![i.val, 0, 0] : Fin 3 → ℕ) a + S1x512x512.size a ≤ S4x512x512.size a := by revert i; decide
abbrev slF (i : Fin 4) : View sig .tc .vmem S1x512x512 .bf16 :=
  (Memref.whole cc0_scratch7).view.slice (Rect.unit (s := S4x512x512) ![i.val, 0, 0] S1x512x512.size (inb_slF i))

theorem slF_disjoint (b b' : Fin 4) (h : b ≠ b') : Disjoint (slF b).set (slF b').set := by
  rw [View.set_slice_whole, View.set_slice_whole]
  exact Ring.lead_disjoint (s := S4x512x512) (NB := 4) (0 : Fin 3) 1 (fun i => ![i.val, 0, 0]) S1x512x512.size inb_slF (fun b => (Nat.one_mul _).symm) rfl b b' h
theorem slF_cover : Finset.biUnion (β := Idx (((0 : Dev nD) : Thread nD τ).loc cc0_scratch7)) Finset.univ (fun b : Fin 4 => (slF b).set) = Finset.univ := by
  refine (congrArg (Finset.biUnion Finset.univ) (funext fun b => View.set_slice_whole _ _)).trans ?_
  exact Ring.lead_cover (s := S4x512x512) (NB := 4) (0 : Fin 3) 1 (fun i => ![i.val, 0, 0]) S1x512x512.size inb_slF (fun b => (Nat.one_mul _).symm) (by decide) rfl (by decide) rfl

theorem slF_eq (c : Dev nD) : bigSep Finset.univ (fun i => (slAny (F := F) (slF i) c : sProp 𝕄)) = iprop(slAny (dstV 9) c ∗ slAny (dstV 10) c ∗ slAny (dstV 11) c ∗ slAny (srcV 9) c) :=
  bigSep_univ_eq_bigSepL [0, 1, 2, 3] (by decide) (by decide) _
theorem slF_split (c : Dev nD) : (bufAny (F := F) cc0_scratch7 c : sProp 𝕄) ⊢ iprop(slAny (dstV 9) c ∗ slAny (dstV 10) c ∗ slAny (dstV 11) c ∗ slAny (srcV 9) c) := by
  rw [← slF_eq]
  iintro ⟨%f, H⟩
  ihave H' := (Entails.of_eq (Ring.pointsTo_blocks (fun i => (slF i).set) slF_disjoint slF_cover f)) $$ H
  iapply (show (bigSep Finset.univ fun i => (((c : Thread nD τ).loc cc0_scratch7) ↦[(slF i).set]{fullShare} f : sProp 𝕄)) ⊢ bigSep Finset.univ (fun i => slAny (F := F) (slF i) c) from
    bigSep_mono fun i _ => slAny_intro (slF i) c f)
  iexact H'
theorem slF_join (c : Dev nD) : (iprop(slAny (dstV 9) c ∗ slAny (dstV 10) c ∗ slAny (dstV 11) c ∗ slAny (srcV 9) c) : sProp 𝕄) ⊢ bufAny (F := F) cc0_scratch7 c := by
  rw [← slF_eq]
  iintro H
  iapply (Ring.pointsTo_blocks_join_exists (ℓ := (c : Thread nD τ).loc cc0_scratch7) (q := fullShare) (fun i => (slF i).set) slF_disjoint slF_cover (fun _ => Classical.arbitrary _))
  iexact H

/-! ### The experts -/

theorem ewV_disjoint (b b' : Fin 8) (h : b ≠ b') : Disjoint (ewV b).set (ewV b').set := by
  rw [View.set_slice_whole, View.set_slice_whole]
  exact Ring.lead_disjoint (s := S8x1024x1024) (NB := 8) (0 : Fin 3) 1 (fun i => ![i.val, 0, 0]) S1x1024x1024.size inb_ew (fun b => (Nat.one_mul _).symm) rfl b b' h
theorem ewV_cover : Finset.biUnion (β := Idx (((0 : Dev nD) : Thread nD τ).loc main_arg3)) Finset.univ (fun b : Fin 8 => (ewV b).set) = Finset.univ := by
  refine (congrArg (Finset.biUnion Finset.univ) (funext fun b => View.set_slice_whole _ _)).trans ?_
  exact Ring.lead_cover (s := S8x1024x1024) (NB := 8) (0 : Fin 3) 1 (fun i => ![i.val, 0, 0]) S1x1024x1024.size inb_ew (fun b => (Nat.one_mul _).symm) (by decide) rfl (by decide) rfl

/-- The experts of a device, held whole, are its eight matrices. -/
theorem ew_eq (I : Fam F) (c : Dev nD) :
    ((((c : Thread nD τ).loc main_arg3) ↦{fullShare} ((I c).ew : Buf (Elt F) ((c : Thread nD τ).loc main_arg3))) : sProp 𝕄)
      = iprop(ewPt I 0 c ∗ ewPt I 1 c ∗ ewPt I 2 c ∗ ewPt I 3 c ∗ ewPt I 4 c ∗ ewPt I 5 c ∗ ewPt I 6 c ∗ ewPt I 7 c) :=
  (Ring.pointsTo_blocks (ℓ := (c : Thread nD τ).loc main_arg3) (q := fullShare) (fun i => (ewV i).set) ewV_disjoint ewV_cover ((I c).ew : Buf (Elt F) ((c : Thread nD τ).loc main_arg3))).trans
    (bigSep_univ_eq_bigSepL [0, 1, 2, 3, 4, 5, 6, 7] (by decide) (by decide) fun j => ewPt I j c)

/-! ### The expert products and the result -/

theorem ys_enter (c : Dev nD) : (bufAny (F := F) cc0_scratch1 c : sProp 𝕄) ⊢ iprop(∃ y, ysT c y) := by
  iintro ⟨%f, H⟩
  iexists _
  unfold ysT
  iapply (tiled_intro ysM S128x1024.size ysOff inb_ys c f)
  iexact H
theorem ys_leave (c : Dev nD) (y : Fin 8 → FVec F S128x1024 .bf16) : (ysT c y : sProp 𝕄) ⊢ bufAny cc0_scratch1 c := by
  unfold ysT tiled
  iintro ⟨%f, -, H⟩
  iexists f
  iexact H

set_option backward.proofsInPublic true in
/-- The half chunk, counted from chunk `c`, that holds an element. -/
def tileOf (c : Dev nD) (i : S2048x1024.Idx) : Fin 8 :=
  ⟨2 * (((i 0).val / 512 + 4 - c.val) % 4) + (i 1).val / 512, by have h1 : (i 1).val < 1024 := (i 1).isLt; have := Nat.mod_lt ((i 0).val / 512 + 4 - c.val) (show 0 < 4 by decide); omega⟩
set_option backward.proofsInPublic true in
/-- Where in its half chunk an element lies. -/
def posOf (i : S2048x1024.Idx) : S512x512.Idx
  | ⟨0, _⟩ => ⟨(i 0).val % 512, Nat.mod_lt _ (by decide)⟩
  | ⟨1, _⟩ => ⟨(i 1).val % 512, Nat.mod_lt _ (by decide)⟩

/-- The result of device `c`: its half chunks, each in its place. -/
def outAll (I : Fam F) (c : Dev nD) : Vec F S2048x1024 .f32 := fun i => outB I c (tileOf c i) (posOf i)

theorem tile_emb (c : Dev nD) (i : S2048x1024.Idx) :
    (Rect.unit (s := S2048x1024) (outOff c (tileOf c i)) S512x512.size (inb_out c (tileOf c i))).emb (posOf i) = i := by
  have h0 : (i 0).val < 2048 := (i 0).isLt
  have h1 : (i 1).val < 1024 := (i 1).isLt
  have hc : c.val < 4 := c.isLt
  funext a
  apply Fin.ext
  match a with
  | ⟨0, _⟩ =>
    show 512 * ((c.val + (2 * (((i 0).val / 512 + 4 - c.val) % 4) + (i 1).val / 512) / 2) % 4) + 1 * ((i 0).val % 512) = (i 0).val
    omega
  | ⟨1, _⟩ =>
    show 512 * ((2 * (((i 0).val / 512 + 4 - c.val) % 4) + (i 1).val / 512) % 2) + 1 * ((i 1).val % 512) = (i 1).val
    omega

theorem out_leave (I : Fam F) (c : Dev nD) :
    (outT c (outB I c) : sProp 𝕄) ⊢ (((c : Thread nD τ).loc cc0_stg5_0) ↦{fullShare} (outAll I c : Buf (Elt F) ((c : Thread nD τ).loc cc0_stg5_0))) := by
  unfold outT tiled
  iintro ⟨%f, %hf, H⟩
  have h : f = (outAll I c : Buf (Elt F) ((c : Thread nD τ).loc cc0_stg5_0)) := funext fun i => by
    have := congrFun (hf (tileOf c i)) (posOf i)
    unfold outAll
    rw [← this]
    exact (congrArg (fun j => (f : Vec F S2048x1024 .f32) j) (tile_emb c i)).symm
  rw [← h]
  iexact H
theorem out_enter (c : Dev nD) (f : Buf (Elt F) ((c : Thread nD τ).loc cc0_stg5_0)) :
    ((((c : Thread nD τ).loc cc0_stg5_0) ↦{fullShare} f) : sProp 𝕄) ⊢ iprop(∃ b, outT c b) := by
  iintro H
  iexists _
  unfold outT
  iapply (tiled_intro outM S512x512.size (outOff c) (inb_out c) c f)
  iexact H

end Cert.KernelIdeal.Moe

end
-- ==== Proof.Steps.lean ====
/-
One rule per kind of step of the protocol: the barrier's signals and its wait, sending a transfer, awaiting its departure and
its arrival, starting a local copy and awaiting it.
-/
module

public import proofs.«01_k».proof.Proof.Protocol

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A view and the same view re-indexed -/

section Reshape

variable {sp sp' : Space} {s s' : Shape} {e : EltTy}

theorem read_reshape (V : View sig .tc sp s e) (h : s'.numel = s.numel) (f : V.ty.Contents (Elt F)) (i : s'.Idx) :
    (V.reshape s' h).read (Elt F) f i = V.read (Elt F) f (Shape.reshapeEquiv h i) := rfl

theorem read_of_reshape (V : View sig .tc sp s e) (V' : View sig .tc sp' s e) (h : s'.numel = s.numel)
    (f : V.ty.Contents (Elt F)) (f' : V'.ty.Contents (Elt F)) (e : (V.reshape s' h).read (Elt F) f = (V'.reshape s' h).read (Elt F) f') :
    V.read (Elt F) f = V'.read (Elt F) f' := by
  funext i
  have := congrFun e ((Shape.reshapeEquiv h).symm i)
  rw [read_reshape, read_reshape, Equiv.apply_symm_apply] at this
  exact this

end Reshape

variable (I : Fam F) {α : Type}

/-! ## The barrier -/

/-- Signalling the left neighbour hands it this device's slots for what that neighbour sends. -/
theorem wp_sig_left {Q : α → sProp (MT nD τ sig Unit (Elt F) ℕ UU ℕ)} (K : GSem nD τ sig → ℕ) (c d' : Dev nD) (hd' : d' = lf c) (O : CellTallies nD τ sig Unit)
    {v : Int} (hv : v = 1) {sem : Sem sig} (hs : sem = barrier0) {k : PUnit → Prog (TpuEff nD τ sig (Elt F) Λ₀ .tc) α} :
    iprop(ctx I K ∗ owing (F := F) c (O + tallyAt (barCell (lf c)) () 1) ∗ dutyTok ER (barCell (lf c)) 0 false ∗ reached ER (barCell (lf c)) 0 ∗ landR (F := F) c)
      ⊢ iprop((owing (F := F) c O -∗ wp frame (wpE (defs₀ (F := F)) 𝒱₀ c none) Set.univ (k ⟨⟩) Q)
        -∗ wp frame (wpE (defs₀ (F := F)) 𝒱₀ c none) Set.univ (.op (.semSignal (d' : Thread nD τ) sem v) k) Q) := by
  subst hd' hv hs
  unfold owing
  iintro ⟨#Hc, ⟨%W, HO⟩, Ht, #Hr, Hl⟩ Hk
  iapply (Rounds.wp_signal 𝒱₀ ER (rd I) (c : Thread nD τ) none (dst := (lf c : Thread nD τ)) (sem := barrier0) (r := 0) (d := false) (κ := K (barCell (lf c))) (k' := 1)
      (by rw [duties_bar]; decide) (amount_bar I (lf c) false 0) () O rfl) $$ [HO Ht Hl]
  · isplitr; · iapply (ctx_inv I K (bar_mem (lf c))); iexact Hc
    isplitl [HO]; · iexact HO
    isplitl [Ht]; · iexact Ht
    isplitl [Hl]
    · rw [payload_bar]; unfold barPay; rw [rt_lf]; iexact Hl
    iexact Hr
  iintro HO
  iapply Hk
  iexists W; iexact HO

/-- Signalling the right neighbour. -/
theorem wp_sig_right {Q : α → sProp (MT nD τ sig Unit (Elt F) ℕ UU ℕ)} (K : GSem nD τ sig → ℕ) (c d' : Dev nD) (hd' : d' = rt c) (O : CellTallies nD τ sig Unit)
    {v : Int} (hv : v = 1) {sem : Sem sig} (hs : sem = barrier0) {k : PUnit → Prog (TpuEff nD τ sig (Elt F) Λ₀ .tc) α} :
    iprop(ctx I K ∗ owing (F := F) c (O + tallyAt (barCell (rt c)) () 1) ∗ dutyTok ER (barCell (rt c)) 0 true ∗ reached ER (barCell (rt c)) 0 ∗ landL (F := F) c)
      ⊢ iprop((owing (F := F) c O -∗ wp frame (wpE (defs₀ (F := F)) 𝒱₀ c none) Set.univ (k ⟨⟩) Q)
        -∗ wp frame (wpE (defs₀ (F := F)) 𝒱₀ c none) Set.univ (.op (.semSignal (d' : Thread nD τ) sem v) k) Q) := by
  subst hd' hv hs
  unfold owing
  iintro ⟨#Hc, ⟨%W, HO⟩, Ht, #Hr, Hl⟩ Hk
  iapply (Rounds.wp_signal 𝒱₀ ER (rd I) (c : Thread nD τ) none (dst := (rt c : Thread nD τ)) (sem := barrier0) (r := 0) (d := true) (κ := K (barCell (rt c))) (k' := 1)
      (by rw [duties_bar]; decide) (amount_bar I (rt c) true 0) () O rfl) $$ [HO Ht Hl]
  · isplitr; · iapply (ctx_inv I K (bar_mem (rt c))); iexact Hc
    isplitl [HO]; · iexact HO
    isplitl [Ht]; · iexact Ht
    isplitl [Hl]
    · rw [payload_bar]; unfold barPay; rw [lf_rt]; iexact Hl
    iexact Hr
  iintro HO
  iapply Hk
  iexists W; iexact HO

/-- Awaiting both neighbours: their landing slots come with the units. -/
theorem wp_wait_bar {Q : α → sProp (MT nD τ sig Unit (Elt F) ℕ UU ℕ)} (K : GSem nD τ sig → ℕ) (c : Dev nD)
    {v : Int} (hv : v = 2) {sem : Sem sig} (hs : sem = barrier0) {k : PUnit → Prog (TpuEff nD τ sig (Elt F) Λ₀ .tc) α} :
    iprop(ctx I K ∗ owing (F := F) c (tallies c order) ∗ cred (tallyAt (barCell c) () 2) ∗ atPos ER (barCell c) 0 ∅ 0)
      ⊢ iprop(((owing (F := F) c (tallies c order) ∗ atPos ER (barCell c) 1 ∅ 0 ∗ landL (F := F) (lf c) ∗ landR (F := F) (rt c)) -∗ wp frame (wpE (defs₀ (F := F)) 𝒱₀ c none) Set.univ (k ⟨⟩) Q)
        -∗ wp frame (wpE (defs₀ (F := F)) 𝒱₀ c none) Set.univ (.op (.semWait sem v) k) Q) := by
  subst hv hs
  unfold owing
  iintro ⟨#Hc, ⟨%W, HO⟩, Hcr, Hat⟩ Hk
  iapply (Rounds.wp_wait_rest_token 𝒱₀ ER (rd I) (c : Thread nD τ) none (κ := K (barCell c))
      (wpE_semWait_eq 𝒱₀ (c : Thread nD τ) none Set.univ) (Set.mem_univ _) () (O := tallies c order) (W := W) (R := 0) (m := 0) (T := ∅)
      ((Nat.zero_add 2).trans (expect_bar I c).symm)) $$ [Hcr HO Hat]
  · isplitr; · iapply (ctx_inv I K (bar_mem c)); iexact Hc
    isplitl [Hcr]; · iexact Hcr
    isplitl [HO]; · iexact HO
    isplitr; · iapply (mayWait c semB order 1 (le_of_eq (lv_bar c)) (by decide)); iapply (ctx_lev I K); iexact Hc
    iexact Hat
  iintro ⟨HO, Hat, -, Hpay⟩
  iapply Hk
  isplitl [HO]; · iexists (insert (semB, ()) W); iexact HO
  isplitl [Hat]; · iexact Hat
  iapply (Entails.of_eq (rest_bar I c)) $$ Hpay

/-! ## Transfers -/

/-- Sending transfer `k`: it spends the value in the source slot and the landing slot at the peer. -/
theorem wp_send {Q : α → sProp (MT nD τ sig Unit (Elt F) ℕ UU ℕ)} (K : GSem nD τ sig → ℕ) (k : Fin 12) (c d' : Dev nD) (hd' : d' = peer k c)
    {src dst : Memref sig .tc .vmem S512x512 .bf16} (hs : src.view = (srcV k).reshape S512x512 numel_slot) (hd : dst.view = (dstV k).reshape S512x512 numel_slot)
    {s₁ s₂ : Fin 32} (h₁ : s₁ = sS k) (h₂ : s₂ = sR k) (hN : ((dstV k).reshape S512x512 numel_slot).dmaCredit = N) (l : List (Fin 12))
    {hsc : dst.view.ref.isScScratch = false} {hsrc : src.view.WordExact} {hdst : dst.view.WordExact}
    {hsem : DmaTarget.Typed .vmem (.dma s₂ : SemLoc sig) (.remote (Dev.tc d' : Thread nD τ) dst (.dma s₁ : SemLoc sig) hsc)}
    {κ : PUnit → Prog (TpuEff nD τ sig (Elt F) Λ₀ .tc) α} :
    iprop(ctx I K ∗ owing (F := F) c (tallies c (k :: l)) ∗ toSend (F := F) k c ∗ sl (srcV k) c (sval I k c) ∗ land (F := F) k (peer k c))
      ⊢ iprop(((owing (F := F) c (tallies c l) ∗ sent (F := F) k c) -∗ wp frame (wpE (defs₀ (F := F)) 𝒱₀ c none) Set.univ (κ ⟨⟩) Q)
        -∗ wp frame (wpE (defs₀ (F := F)) 𝒱₀ c none) Set.univ (.op (.enqueueDma src (.remote (Dev.tc d' : Thread nD τ) dst (.dma s₁) hsc) (.dma s₂) hsrc hdst hsem) κ) Q) := by
  obtain ⟨vs, rs1⟩ := src
  obtain ⟨vd, rd1⟩ := dst
  dsimp only at hs hd
  subst hd' h₁ h₂ hs hd
  unfold owing toSend sl land slAny sent
  iintro ⟨#Hc, ⟨%W, HO⟩, ⟨Ht, #Hr, Htp, Hat⟩, ⟨%f, %hf, Hs⟩, ⟨%fd, Hd⟩, #Hrp⟩ Hk
  iapply (Rounds.wp_send_pointsTo 𝒱₀ ER (rd I) (c : Thread nD τ) none (c' := (peer k c : Thread nD τ))
      (sS := semS k) (sem := semR k) (q := fullShare) (fs := f) (κ₁ := K (sendCell k c)) (κ₂ := K (recvCell k (peer k c)))
      (r₁ := 0) (r₂ := 0) (d₁ := true) (d₂ := true) (fd := fd)
      (by rw [duties_snd]; exact Finset.mem_singleton_self _) (by rw [duties_rcv]; exact Finset.mem_singleton_self _)
      () () N hN (amount_snd I c k true 0) (amount_rcv I (peer k c) k true 0) (tallies c l) rfl (W := W)
      (by
        rw [payload_snd]; unfold sendPay sl
        rw [View.set_reshape]
        iintro H; iexists f
        isplitr; · ipureintro; exact hf
        iexact H)
      (by
        rw [payload_rcv]; unfold recvPay sl
        rw [View.set_reshape, frm_peer]
        iintro H
        iexists _
        isplitr; swap; · iexact H
        ipureintro
        rw [← hf]
        exact read_of_reshape _ _ numel_slot _ _ (View.read_write_univ _ _))) $$ [HO Ht Htp Hs Hd]
  · isplitr; · iapply (ctx_inv I K (send_mem k c)); iexact Hc
    isplitr; · iapply (ctx_inv I K (recv_mem k (peer k c))); iexact Hc
    isplitl [Hs]; · rw [View.set_reshape]; iexact Hs
    isplitl [Hd]; · rw [View.set_reshape]; iexact Hd
    isplitl [HO]; · iexact HO
    isplitl [Ht]; · iexact Ht
    isplitr; · iexact Hr
    isplitl [Htp]; · iexact Htp
    iexact Hrp
  iintro ⟨Hcr, HO⟩
  iapply Hk
  isplitl [HO]; · iexists W; iexact HO
  isplitl [Hcr] <;> iassumption

/-- Awaiting the departure of transfer `k`: the source slot comes back. -/
theorem wp_wait_sent {Q : α → sProp (MT nD τ sig Unit (Elt F) ℕ UU ℕ)} (K : GSem nD τ sig → ℕ) (k : Fin 12) (c : Dev nD) (l : List (Fin 12))
    {src dst : Memref sig .tc .vmem S512x512 .bf16} {s₁ : Fin 32} (h₁ : s₁ = sS k) (hN : dst.view.dmaCredit = N)
    {hsrc : src.view.WordExact} {hdst : dst.view.WordExact}
    {κ : PUnit → Prog (TpuEff nD τ sig (Elt F) Λ₀ .tc) α} :
    iprop(ctx I K ∗ owing (F := F) c (tallies c l) ∗ sent (F := F) k c)
      ⊢ iprop(((owing (F := F) c (tallies c l) ∗ sentDone (F := F) k c ∗ sl (srcV k) c (sval I k c)) -∗ wp frame (wpE (defs₀ (F := F)) 𝒱₀ c none) Set.univ (κ ⟨⟩) Q)
        -∗ wp frame (wpE (defs₀ (F := F)) 𝒱₀ c none) Set.univ (.op (.waitDma2 s₁ src dst hsrc hdst) κ) Q) := by
  subst h₁
  unfold owing sent sentDone
  iintro ⟨#Hc, ⟨%W, HO⟩, Hcr, Hat⟩ Hk
  iapply (Rounds.wp_wait_rest_token 𝒱₀ ER (rd I) (c : Thread nD τ) none (κ := K (sendCell k c))
      (wpE_waitDma2_eq 𝒱₀ (c : Thread nD τ) none Set.univ) (Set.mem_univ _) () (O := tallies c l) (W := W) (R := 0) (m := 0) (T := ∅)
      ((Nat.zero_add _).trans (hN.trans (expect_snd I c k).symm))) $$ [Hcr HO Hat]
  · isplitr; · iapply (ctx_inv I K (send_mem k c)); iexact Hc
    isplitl [Hcr]; · rw [hN]; iexact Hcr
    isplitl [HO]; · iexact HO
    isplitr
    · iapply (mayWait c (semS k) l 0 (le_of_eq (lv_snd k c)) (fun k' _ => by omega)); iapply (ctx_lev I K); iexact Hc
    iexact Hat
  iintro ⟨HO, Hat, -, Hpay⟩
  iapply Hk
  isplitl [HO]; · iexists (insert (semS k, ()) W); iexact HO
  isplitl [Hat]; · iexact Hat
  ihave Hp := (Entails.of_eq (rest_snd I c k)) $$ Hpay
  unfold sendPay; iexact Hp

/-- Awaiting the arrival of transfer `k`: the landing slot comes with what was sent. -/
theorem wp_wait_rcvd {Q : α → sProp (MT nD τ sig Unit (Elt F) ℕ UU ℕ)} (K : GSem nD τ sig → ℕ) (k : Fin 12) (c : Dev nD) (l : List (Fin 12))
    (hl : ∀ k' ∈ l, 2 + stage k < 2 + stage k')
    {src dst : Memref sig .tc .vmem S512x512 .bf16} {s₁ : Fin 32} (h₁ : s₁ = sR k) (hN : dst.view.dmaCredit = N)
    {hsrc : src.view.WordExact} {hdst : dst.view.WordExact}
    {κ : PUnit → Prog (TpuEff nD τ sig (Elt F) Λ₀ .tc) α} :
    iprop(ctx I K ∗ owing (F := F) c (tallies c l) ∗ toRecv (F := F) k c)
      ⊢ iprop(((owing (F := F) c (tallies c l) ∗ recvDone (F := F) k c ∗ sl (dstV k) c (sval I k (frm k c))) -∗ wp frame (wpE (defs₀ (F := F)) 𝒱₀ c none) Set.univ (κ ⟨⟩) Q)
        -∗ wp frame (wpE (defs₀ (F := F)) 𝒱₀ c none) Set.univ (.op (.waitDma2 s₁ src dst hsrc hdst) κ) Q) := by
  subst h₁
  unfold owing toRecv recvDone
  iintro ⟨#Hc, ⟨%W, HO⟩, Hcr, Hat⟩ Hk
  iapply (Rounds.wp_wait_rest_token 𝒱₀ ER (rd I) (c : Thread nD τ) none (κ := K (recvCell k c))
      (wpE_waitDma2_eq 𝒱₀ (c : Thread nD τ) none Set.univ) (Set.mem_univ _) () (O := tallies c l) (W := W) (R := 0) (m := 0) (T := ∅)
      ((Nat.zero_add _).trans (hN.trans (expect_rcv I c k).symm))) $$ [Hcr HO Hat]
  · isplitr; · iapply (ctx_inv I K (recv_mem k c)); iexact Hc
    isplitl [Hcr]; · rw [hN]; iexact Hcr
    isplitl [HO]; · iexact HO
    isplitr
    · iapply (mayWait c (semR k) l (2 + stage k) (le_of_eq (lv_rcv k c)) hl); iapply (ctx_lev I K); iexact Hc
    iexact Hat
  iintro ⟨HO, Hat, -, Hpay⟩
  iapply Hk
  isplitl [HO]; · iexists (insert (semR k, ()) W); iexact HO
  isplitl [Hat]; · iexact Hat
  ihave Hp := (Entails.of_eq (rest_rcv I c k)) $$ Hpay
  unfold recvPay; iexact Hp

/-! ## Local copies -/

/-- Starting the copy of expert matrix `j` into slot `s`. -/
theorem wp_copy_ew {Q : α → sProp (MT nD τ sig Unit (Elt F) ℕ UU ℕ)} (K : GSem nD τ sig → ℕ) (s : Fin 2) (r : ℕ) (hr : r < 4) (j : Fin 8) (hj : copyIx s r = j) (c : Dev nD)
    {src : Memref sig .tc .hbm S1024x1024 .f32} {dst : Memref sig .tc .vmem S1024x1024 .f32}
    (hs : src.view = (ewV j).reshape S1024x1024 numel_ew) (hd : dst.view = (wbV s).reshape S1024x1024 numel_ew)
    {s₁ : Fin 32} (h₁ : s₁ = sL s) (hN : ((wbV s).reshape S1024x1024 numel_ew).dmaCredit = NL)
    {hsrc : src.view.WordExact} {hdst : dst.view.WordExact}
    {hsem : DmaTarget.Typed (nD := nD) (τ := τ) (p := Proc.tc) .hbm (.dma s₁ : SemLoc sig) (.here dst)}
    {κ : PUnit → Prog (TpuEff nD τ sig (Elt F) Λ₀ .tc) α} :
    iprop(ctx I K ∗ ewPt I j c ∗ slAny (wbV s) c ∗ dutyTok ER (locCell s c) r true ∗ reached ER (locCell s c) r)
      ⊢ iprop((cred (tallyAt (locCell s c) () NL) -∗ wp frame (wpE (defs₀ (F := F)) 𝒱₀ c none) Set.univ (κ ⟨⟩) Q)
        -∗ wp frame (wpE (defs₀ (F := F)) 𝒱₀ c none) Set.univ (.op (.enqueueDma src (.here dst) (.dma s₁) hsrc hdst hsem) κ) Q) := by
  obtain ⟨vs, rs1⟩ := src
  obtain ⟨vd, rd1⟩ := dst
  dsimp only at hs hd
  subst h₁ hs hd hj
  unfold ewPt slAny
  iintro ⟨#Hc, Hs, ⟨%fd, Hd⟩, Ht, #Hr⟩ Hk
  iapply (Rounds.wp_copy_pointsTo 𝒱₀ ER (rd I) (c : Thread nD τ) none
      (sem := semL s) (q := fullShare) (fs := (I c).ew) (fd := fd) (r := r) (d := true) (κ := K (locCell s c))
      (by rw [duties_loc I c s r hr]; exact Finset.mem_singleton_self _) () NL hN (amount_loc I c s true r)
      (by
        rw [payload_loc]; unfold locPay sl ewPt
        rw [View.set_reshape, View.set_reshape]
        iintro ⟨H1, H2⟩
        isplitl [H1]
        · iexists _
          isplitr; swap; · iexact H1
          ipureintro
          exact (read_of_reshape _ (ewV (copyIx s r)) numel_ew _ _ (View.read_write_univ _ _)).trans rfl
        iexact H2)) $$ [Ht Hs Hd]
  · isplitr; · iapply (ctx_inv I K (loc_mem s c)); iexact Hc
    isplitl [Hs]; · rw [View.set_reshape]; iexact Hs
    isplitl [Hd]; · rw [View.set_reshape]; iexact Hd
    isplitl [Ht]; · iexact Ht
    iexact Hr
  iintro Hcr
  iapply Hk
  iexact Hcr

/-- Awaiting it: the slot holds the matrix. -/
theorem wp_wait_ew {Q : α → sProp (MT nD τ sig Unit (Elt F) ℕ UU ℕ)} (K : GSem nD τ sig → ℕ) (s : Fin 2) (r : ℕ) (hr : r < 4) (j : Fin 8) (hj : copyIx s r = j) (c : Dev nD) (l : List (Fin 12))
    {src : Memref sig .tc .hbm S1024x1024 .f32} {dst : Memref sig .tc .vmem S1024x1024 .f32}
    {s₁ : Fin 32} (h₁ : s₁ = sL s) (hN : dst.view.dmaCredit = NL)
    {hsrc : src.view.WordExact} {hdst : dst.view.WordExact}
    {κ : PUnit → Prog (TpuEff nD τ sig (Elt F) Λ₀ .tc) α} :
    iprop(ctx I K ∗ owing (F := F) c (tallies c l) ∗ cred (tallyAt (locCell s c) () NL) ∗ atPos ER (locCell s c) r ∅ 0)
      ⊢ iprop(((owing (F := F) c (tallies c l) ∗ atPos ER (locCell s c) (r + 1) ∅ 0 ∗ reached ER (locCell s c) (r + 1)
            ∗ sl (wbV s) c (ewAt (I c) j) ∗ ewPt I j c) -∗ wp frame (wpE (defs₀ (F := F)) 𝒱₀ c none) Set.univ (κ ⟨⟩) Q)
        -∗ wp frame (wpE (defs₀ (F := F)) 𝒱₀ c none) Set.univ (.op (.waitDma2 s₁ src dst hsrc hdst) κ) Q) := by
  subst h₁ hj
  unfold owing
  iintro ⟨#Hc, ⟨%W, HO⟩, Hcr, Hat⟩ Hk
  iapply (Rounds.wp_wait_rest_token 𝒱₀ ER (rd I) (c : Thread nD τ) none (κ := K (locCell s c))
      (wpE_waitDma2_eq 𝒱₀ (c : Thread nD τ) none Set.univ) (Set.mem_univ _) () (O := tallies c l) (W := W) (R := r) (m := 0) (T := ∅)
      ((Nat.zero_add _).trans (hN.trans (expect_loc I c s r hr).symm))) $$ [Hcr HO Hat]
  · isplitr; · iapply (ctx_inv I K (loc_mem s c)); iexact Hc
    isplitl [Hcr]; · rw [hN]; iexact Hcr
    isplitl [HO]; · iexact HO
    isplitr
    · iapply (mayWait c (semL s) l 0 (le_of_eq (lv_loc s c)) (fun k' _ => by omega)); iapply (ctx_lev I K); iexact Hc
    iexact Hat
  iintro ⟨HO, Hat, #Hr, Hpay⟩
  iapply Hk
  isplitl [HO]; · iexists (insert (semL s, ()) W); iexact HO
  isplitl [Hat]; · iexact Hat
  isplitr; · iexact Hr
  ihave Hp := (Entails.of_eq (rest_loc I c s r hr)) $$ Hpay
  unfold locPay; iexact Hp

end Cert.KernelIdeal.Moe

end
-- ==== Proof.Body1.lean ====
/-
The first part of the body: the barrier and the expert products.
-/
module

public import proofs.«01_k».proof.Proof.Steps
public import proofs.«01_k».proof.Proof.Tiles

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Fam F)

/-- The barrier: both neighbours learn that this device's landing slots are ready, and this device learns the same of theirs. Then the first expert matrix is sent for, and the tokens are read. -/
theorem part1_run {Q : (Σ' (d0 : Dev nD) (v2 : BitVec 32) (v5 : BitVec 32) (v7 : BitVec 32) (v21 : FVec F S2048x1024 .bf16), FVec F S1024x2048 .f32) → sProp (MT nD τ sig Unit (Elt F) ℕ UU ℕ)} (K : GSem nD τ sig → ℕ) (c : Dev nD) :
    iprop(ctx I K ∗ owing (F := F) c (O₀ c)
      ∗ inp xM c (I c).x
      ∗ inp crowM c (I c).crow
      ∗ ewPt I 0 c
      ∗ slAny (wbV 0) c
      ∗ dutyTok ER (locCell 0 c) 0 true
      ∗ reached ER (locCell 0 c) 0
      ∗ dutyTok ER (barCell (lf c)) 0 false
      ∗ reached ER (barCell (lf c)) 0
      ∗ dutyTok ER (barCell (rt c)) 0 true
      ∗ reached ER (barCell (rt c)) 0
      ∗ landR (F := F) c
      ∗ landL (F := F) c
      ∗ cred (tallyAt (barCell c) () 2)
      ∗ atPos ER (barCell c) 0 ∅ 0)
    ⊢ iprop((∀ w2 w5 w7, (owing (F := F) c (tallies c [0, 3, 1, 4, 2, 5, 6, 9, 7, 10, 8, 11])
      ∗ inp xM c (I c).x
      ∗ inp crowM c (I c).crow
      ∗ reached ER (locCell 0 c) 0
      ∗ cred (tallyAt (locCell 0 c) () NL)
      ∗ atPos ER (barCell c) 1 ∅ 0
      ∗ landL (F := F) (lf c)
      ∗ landR (F := F) (rt c)) -∗ Q ⟨c, w2, w5, w7, (k0_pay2 (I c).x), (k0_pay3 (I c).crow)⟩) -∗
      wp frame (wpE (defs₀ (F := F)) 𝒱₀ c none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 ) Q) := by
  simp only [k0_part1_eq_skeleton]
  unfold k0_part1_skel
  simp only [semSignalWord, semWaitWord, Prog.lift, Prog.bind_op, Prog.bind_ret, Prog.pure_eq_ret, Prog.bind_assoc, wp_deviceId]
  iintro ⟨#Hc, HO, X, CROW, E0, Wa0, T0_0, #Rl0_0, BL, #RBL, BR, #RBR, LR, LL, CB, PB⟩ Hk
  unfold O₀
  iapply (wp_sig_left I K c _ (Fin.ext (k0_dev1_eq c)) _ rfl rfl) $$ [HO BL LR]
  · isplitr; · iexact Hc
    isplitl [HO]; · iexact HO
    isplitl [BL]; · iexact BL
    isplitr; · iexact RBL
    iexact LR
  iintro HO
  iapply (wp_sig_right I K c _ (Fin.ext (k0_dev2_eq c)) _ rfl rfl) $$ [HO BR LL]
  · isplitr; · iexact Hc
    isplitl [HO]; · iexact HO
    isplitl [BR]; · iexact BR
    isplitr; · iexact RBR
    iexact LL
  iintro HO
  iapply (wp_wait_bar I K c rfl rfl) $$ [HO CB PB]
  · isplitr; · iexact Hc
    isplitl [HO]; · iexact HO
    isplitl [CB]; · iexact CB
    iexact PB
  iintro ⟨HO, PB, LL, LR⟩
  iapply (wp_copy_ew I K 0 0 (by decide) 0 rfl c rfl rfl rfl rfl) $$ [E0 Wa0 T0_0]
  · isplitr; · iexact Hc
    isplitl [E0]; · iexact E0
    isplitl [Wa0]; · iexact Wa0
    isplitl [T0_0]; · iexact T0_0
    iexact Rl0_0
  iintro Cl0
  iapply (wp_load_eq (M := xM) (X := (I c).x) (I c).x (read_all (M := xM) zero2 (I c).x)) $$ X
  iintro X
  iapply (wp_load_eq (M := crowM) (X := (I c).crow) (I c).crow (read_all (M := crowM) zero2 (I c).crow)) $$ CROW
  iintro CROW
  rw [wp_ret]
  imodintro
  iapply Hk
  isplitl [HO]; · iexact HO
  isplitl [X]; · iexact X
  isplitl [CROW]; · iexact CROW
  isplitr; · iexact Rl0_0
  isplitl [Cl0]; · iexact Cl0
  isplitl [PB]; · iexact PB
  isplitl [LL]; · iexact LL
  iexact LR

/-- The first expert's products. -/
theorem part2_run {Q : (FVec F S1024x1024 .bf16) → sProp (MT nD τ sig Unit (Elt F) ℕ UU ℕ)} (K : GSem nD τ sig → ℕ) (c : Dev nD) (y : Fin 8 → FVec F S128x1024 .bf16) :
    iprop(ctx I K ∗ owing (F := F) c (tallies c [0, 3, 1, 4, 2, 5, 6, 9, 7, 10, 8, 11])
      ∗ ewPt I 1 c
      ∗ slAny (wbV 1) c
      ∗ dutyTok ER (locCell 1 c) 0 true
      ∗ reached ER (locCell 1 c) 0
      ∗ cred (tallyAt (locCell 0 c) () NL)
      ∗ atPos ER (locCell 0 c) 0 ∅ 0
      ∗ ysT c y)
    ⊢ iprop(((reached ER (locCell 1 c) 0
      ∗ ysT c (Function.update y 0 (ysB (I c) 0))
      ∗ cred (tallyAt (locCell 1 c) () NL)
      ∗ owing (F := F) c (tallies c [0, 3, 1, 4, 2, 5, 6, 9, 7, 10, 8, 11])
      ∗ atPos ER (locCell 0 c) 1 ∅ 0
      ∗ reached ER (locCell 0 c) 1
      ∗ ewPt I 0 c
      ∗ slAny (wbV 0) c) -∗ Q (xg (I c))) -∗
      wp frame (wpE (defs₀ (F := F)) 𝒱₀ c none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 (k0_pay2 (I c).x) (k0_pay3 (I c).crow)) Q) := by
  simp only [k0_part2_eq_skeleton]
  unfold k0_part2_skel
  simp only [semSignalWord, semWaitWord, Prog.lift, Prog.bind_op, Prog.bind_ret, Prog.pure_eq_ret, Prog.bind_assoc, wp_deviceId]
  iintro ⟨#Hc, HO, E1, Wa1, T1_0, #Rl1_0, Cl0, P0_0, Y⟩ Hk
  iapply (wp_copy_ew I K 1 0 (by decide) 1 rfl c rfl rfl rfl rfl) $$ [E1 Wa1 T1_0]
  · isplitr; · iexact Hc
    isplitl [E1]; · iexact E1
    isplitl [Wa1]; · iexact Wa1
    isplitl [T1_0]; · iexact T1_0
    iexact Rl1_0
  iintro Cl1
  iapply (wp_wait_ew I K 0 0 (by decide) 0 rfl c [0, 3, 1, 4, 2, 5, 6, 9, 7, 10, 8, 11] rfl rfl) $$ [HO Cl0 P0_0]
  · isplitr; · iexact Hc
    isplitl [HO]; · iexact HO
    isplitl [Cl0]; · iexact Cl0
    iexact P0_0
  iintro ⟨HO, P0_1, #Rl0_1, W0_0, E0⟩
  iapply (wp_load_sl) $$ W0_0
  iintro W0_0
  ihave Wa0 := (sl_any (wbV 0) c (ewAt (I c) 0)) $$ W0_0
  iapply (wp_ys_any) $$ Y
  iintro Y
  iapply (wp_ys_store (b := y) 0 rfl) $$ Y
  iintro Y
  ihave Y : ysT c (Function.update y 0 (ysB (I c) 0)) $$ [Y]
  · iexact Y
  have hx : k0_pay4 (k0_pay2 (I c).x) (k0_pay3 (I c).crow) = xg (I c) := rfl
  rw [hx]
  rw [wp_ret]
  imodintro
  iapply Hk
  isplitr; · iexact Rl1_0
  isplitl [Y]; · iexact Y
  isplitl [Cl1]; · iexact Cl1
  isplitl [HO]; · iexact HO
  isplitl [P0_1]; · iexact P0_1
  isplitr; · iexact Rl0_1
  isplitl [E0]; · iexact E0
  iexact Wa0

/-- The second expert's products. -/
theorem part3_run {Q : PUnit → sProp (MT nD τ sig Unit (Elt F) ℕ UU ℕ)} (K : GSem nD τ sig → ℕ) (c : Dev nD) (y : Fin 8 → FVec F S128x1024 .bf16) :
    iprop(ctx I K ∗ owing (F := F) c (tallies c [0, 3, 1, 4, 2, 5, 6, 9, 7, 10, 8, 11])
      ∗ ewPt I 2 c
      ∗ slAny (wbV 0) c
      ∗ dutyTok ER (locCell 0 c) 1 true
      ∗ reached ER (locCell 0 c) 1
      ∗ cred (tallyAt (locCell 1 c) () NL)
      ∗ atPos ER (locCell 1 c) 0 ∅ 0
      ∗ ysT c y
      ∗ ewPt I 3 c
      ∗ dutyTok ER (locCell 1 c) 1 true
      ∗ atPos ER (locCell 0 c) 1 ∅ 0)
    ⊢ iprop(((reached ER (locCell 0 c) 1
      ∗ ysT c (Function.update y 1 (ysB (I c) 1))
      ∗ atPos ER (locCell 1 c) 1 ∅ 0
      ∗ reached ER (locCell 1 c) 1
      ∗ ewPt I 1 c
      ∗ cred (tallyAt (locCell 1 c) () NL)
      ∗ owing (F := F) c (tallies c [0, 3, 1, 4, 2, 5, 6, 9, 7, 10, 8, 11])
      ∗ atPos ER (locCell 0 c) 2 ∅ 0
      ∗ reached ER (locCell 0 c) 2
      ∗ sl (wbV 0) c (ewAt (I c) 2)
      ∗ ewPt I 2 c) -∗ Q ⟨⟩) -∗
      wp frame (wpE (defs₀ (F := F)) 𝒱₀ c none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 (xg (I c))) Q) := by
  simp only [k0_part3_eq_skeleton]
  unfold k0_part3_skel
  simp only [semSignalWord, semWaitWord, Prog.lift, Prog.bind_op, Prog.bind_ret, Prog.pure_eq_ret, Prog.bind_assoc, wp_deviceId]
  iintro ⟨#Hc, HO, E2, Wa0, T0_1, #Rl0_1, Cl1, P1_0, Y, E3, T1_1, P0_1⟩ Hk
  iapply (wp_copy_ew I K 0 1 (by decide) 2 rfl c rfl rfl rfl rfl) $$ [E2 Wa0 T0_1]
  · isplitr; · iexact Hc
    isplitl [E2]; · iexact E2
    isplitl [Wa0]; · iexact Wa0
    isplitl [T0_1]; · iexact T0_1
    iexact Rl0_1
  iintro Cl0
  iapply (wp_wait_ew I K 1 0 (by decide) 1 rfl c [0, 3, 1, 4, 2, 5, 6, 9, 7, 10, 8, 11] rfl rfl) $$ [HO Cl1 P1_0]
  · isplitr; · iexact Hc
    isplitl [HO]; · iexact HO
    isplitl [Cl1]; · iexact Cl1
    iexact P1_0
  iintro ⟨HO, P1_1, #Rl1_1, W1_1, E1⟩
  iapply (wp_load_sl) $$ W1_1
  iintro W1_1
  ihave Wa1 := (sl_any (wbV 1) c (ewAt (I c) 1)) $$ W1_1
  iapply (wp_ys_any) $$ Y
  iintro Y
  iapply (wp_ys_store (b := y) 1 rfl) $$ Y
  iintro Y
  ihave Y : ysT c (Function.update y 1 (ysB (I c) 1)) $$ [Y]
  · iexact Y
  iapply (wp_copy_ew I K 1 1 (by decide) 3 rfl c rfl rfl rfl rfl) $$ [E3 Wa1 T1_1]
  · isplitr; · iexact Hc
    isplitl [E3]; · iexact E3
    isplitl [Wa1]; · iexact Wa1
    isplitl [T1_1]; · iexact T1_1
    iexact Rl1_1
  iintro Cl1
  iapply (wp_wait_ew I K 0 1 (by decide) 2 rfl c [0, 3, 1, 4, 2, 5, 6, 9, 7, 10, 8, 11] rfl rfl) $$ [HO Cl0 P0_1]
  · isplitr; · iexact Hc
    isplitl [HO]; · iexact HO
    isplitl [Cl0]; · iexact Cl0
    iexact P0_1
  iintro ⟨HO, P0_2, #Rl0_2, W0_2, E2⟩
  rw [wp_ret]
  imodintro
  iapply Hk
  isplitr; · iexact Rl0_1
  isplitl [Y]; · iexact Y
  isplitl [P1_1]; · iexact P1_1
  isplitr; · iexact Rl1_1
  isplitl [E1]; · iexact E1
  isplitl [Cl1]; · iexact Cl1
  isplitl [HO]; · iexact HO
  isplitl [P0_2]; · iexact P0_2
  isplitr; · iexact Rl0_2
  isplitl [W0_2]; · iexact W0_2
  iexact E2

/-- The third and the fourth expert's products. -/
theorem part4_run {Q : PUnit → sProp (MT nD τ sig Unit (Elt F) ℕ UU ℕ)} (K : GSem nD τ sig → ℕ) (c : Dev nD) (y : Fin 8 → FVec F S128x1024 .bf16) :
    iprop(ctx I K ∗ owing (F := F) c (tallies c [0, 3, 1, 4, 2, 5, 6, 9, 7, 10, 8, 11])
      ∗ sl (wbV 0) c (ewAt (I c) 2)
      ∗ ysT c y
      ∗ ewPt I 4 c
      ∗ dutyTok ER (locCell 0 c) 2 true
      ∗ reached ER (locCell 0 c) 2
      ∗ cred (tallyAt (locCell 1 c) () NL)
      ∗ atPos ER (locCell 1 c) 1 ∅ 0)
    ⊢ iprop(((ysT c (Function.update (Function.update y 2 (ysB (I c) 2)) 3 (ysB (I c) 3))
      ∗ reached ER (locCell 0 c) 2
      ∗ cred (tallyAt (locCell 0 c) () NL)
      ∗ owing (F := F) c (tallies c [0, 3, 1, 4, 2, 5, 6, 9, 7, 10, 8, 11])
      ∗ atPos ER (locCell 1 c) 2 ∅ 0
      ∗ reached ER (locCell 1 c) 2
      ∗ ewPt I 3 c
      ∗ slAny (wbV 1) c) -∗ Q ⟨⟩) -∗
      wp frame (wpE (defs₀ (F := F)) 𝒱₀ c none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 (xg (I c))) Q) := by
  simp only [k0_part4_eq_skeleton]
  unfold k0_part4_skel
  simp only [semSignalWord, semWaitWord, Prog.lift, Prog.bind_op, Prog.bind_ret, Prog.pure_eq_ret, Prog.bind_assoc, wp_deviceId]
  iintro ⟨#Hc, HO, W0_2, Y, E4, T0_2, #Rl0_2, Cl1, P1_1⟩ Hk
  iapply (wp_load_sl) $$ W0_2
  iintro W0_2
  ihave Wa0 := (sl_any (wbV 0) c (ewAt (I c) 2)) $$ W0_2
  iapply (wp_ys_any) $$ Y
  iintro Y
  iapply (wp_ys_store (b := y) 2 rfl) $$ Y
  iintro Y
  ihave Y : ysT c (Function.update y 2 (ysB (I c) 2)) $$ [Y]
  · iexact Y
  iapply (wp_copy_ew I K 0 2 (by decide) 4 rfl c rfl rfl rfl rfl) $$ [E4 Wa0 T0_2]
  · isplitr; · iexact Hc
    isplitl [E4]; · iexact E4
    isplitl [Wa0]; · iexact Wa0
    isplitl [T0_2]; · iexact T0_2
    iexact Rl0_2
  iintro Cl0
  iapply (wp_wait_ew I K 1 1 (by decide) 3 rfl c [0, 3, 1, 4, 2, 5, 6, 9, 7, 10, 8, 11] rfl rfl) $$ [HO Cl1 P1_1]
  · isplitr; · iexact Hc
    isplitl [HO]; · iexact HO
    isplitl [Cl1]; · iexact Cl1
    iexact P1_1
  iintro ⟨HO, P1_2, #Rl1_2, W1_3, E3⟩
  iapply (wp_load_sl) $$ W1_3
  iintro W1_3
  ihave Wa1 := (sl_any (wbV 1) c (ewAt (I c) 3)) $$ W1_3
  iapply (wp_ys_any) $$ Y
  iintro Y
  iapply (wp_ys_store (b := (Function.update y 2 (ysB (I c) 2))) 3 rfl) $$ Y
  iintro Y
  ihave Y : ysT c (Function.update (Function.update y 2 (ysB (I c) 2)) 3 (ysB (I c) 3)) $$ [Y]
  · iexact Y
  rw [wp_ret]
  imodintro
  iapply Hk
  isplitl [Y]; · iexact Y
  isplitr; · iexact Rl0_2
  isplitl [Cl0]; · iexact Cl0
  isplitl [HO]; · iexact HO
  isplitl [P1_2]; · iexact P1_2
  isplitr; · iexact Rl1_2
  isplitl [E3]; · iexact E3
  iexact Wa1

/-- The fifth expert's products. -/
theorem part5_run {Q : PUnit → sProp (MT nD τ sig Unit (Elt F) ℕ UU ℕ)} (K : GSem nD τ sig → ℕ) (c : Dev nD) (y : Fin 8 → FVec F S128x1024 .bf16) :
    iprop(ctx I K ∗ owing (F := F) c (tallies c [0, 3, 1, 4, 2, 5, 6, 9, 7, 10, 8, 11])
      ∗ ewPt I 5 c
      ∗ slAny (wbV 1) c
      ∗ dutyTok ER (locCell 1 c) 2 true
      ∗ reached ER (locCell 1 c) 2
      ∗ cred (tallyAt (locCell 0 c) () NL)
      ∗ atPos ER (locCell 0 c) 2 ∅ 0
      ∗ ysT c y
      ∗ ewPt I 6 c
      ∗ dutyTok ER (locCell 0 c) 3 true)
    ⊢ iprop(((reached ER (locCell 1 c) 2
      ∗ ysT c (Function.update y 4 (ysB (I c) 4))
      ∗ cred (tallyAt (locCell 1 c) () NL)
      ∗ owing (F := F) c (tallies c [0, 3, 1, 4, 2, 5, 6, 9, 7, 10, 8, 11])
      ∗ atPos ER (locCell 0 c) 3 ∅ 0
      ∗ reached ER (locCell 0 c) 3
      ∗ ewPt I 4 c
      ∗ cred (tallyAt (locCell 0 c) () NL)) -∗ Q ⟨⟩) -∗
      wp frame (wpE (defs₀ (F := F)) 𝒱₀ c none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 (xg (I c))) Q) := by
  simp only [k0_part5_eq_skeleton]
  unfold k0_part5_skel
  simp only [semSignalWord, semWaitWord, Prog.lift, Prog.bind_op, Prog.bind_ret, Prog.pure_eq_ret, Prog.bind_assoc, wp_deviceId]
  iintro ⟨#Hc, HO, E5, Wa1, T1_2, #Rl1_2, Cl0, P0_2, Y, E6, T0_3⟩ Hk
  iapply (wp_copy_ew I K 1 2 (by decide) 5 rfl c rfl rfl rfl rfl) $$ [E5 Wa1 T1_2]
  · isplitr; · iexact Hc
    isplitl [E5]; · iexact E5
    isplitl [Wa1]; · iexact Wa1
    isplitl [T1_2]; · iexact T1_2
    iexact Rl1_2
  iintro Cl1
  iapply (wp_wait_ew I K 0 2 (by decide) 4 rfl c [0, 3, 1, 4, 2, 5, 6, 9, 7, 10, 8, 11] rfl rfl) $$ [HO Cl0 P0_2]
  · isplitr; · iexact Hc
    isplitl [HO]; · iexact HO
    isplitl [Cl0]; · iexact Cl0
    iexact P0_2
  iintro ⟨HO, P0_3, #Rl0_3, W0_4, E4⟩
  iapply (wp_load_sl) $$ W0_4
  iintro W0_4
  ihave Wa0 := (sl_any (wbV 0) c (ewAt (I c) 4)) $$ W0_4
  iapply (wp_ys_any) $$ Y
  iintro Y
  iapply (wp_ys_store (b := y) 4 rfl) $$ Y
  iintro Y
  ihave Y : ysT c (Function.update y 4 (ysB (I c) 4)) $$ [Y]
  · iexact Y
  iapply (wp_copy_ew I K 0 3 (by decide) 6 rfl c rfl rfl rfl rfl) $$ [E6 Wa0 T0_3]
  · isplitr; · iexact Hc
    isplitl [E6]; · iexact E6
    isplitl [Wa0]; · iexact Wa0
    isplitl [T0_3]; · iexact T0_3
    iexact Rl0_3
  iintro Cl0
  rw [wp_ret]
  imodintro
  iapply Hk
  isplitr; · iexact Rl1_2
  isplitl [Y]; · iexact Y
  isplitl [Cl1]; · iexact Cl1
  isplitl [HO]; · iexact HO
  isplitl [P0_3]; · iexact P0_3
  isplitr; · iexact Rl0_3
  isplitl [E4]; · iexact E4
  iexact Cl0

/-- The sixth expert's products. -/
theorem part6_run {Q : (FVec F S128x1024 .bf16) → sProp (MT nD τ sig Unit (Elt F) ℕ UU ℕ)} (K : GSem nD τ sig → ℕ) (c : Dev nD) (y : Fin 8 → FVec F S128x1024 .bf16) :
    iprop(ctx I K ∗ owing (F := F) c (tallies c [0, 3, 1, 4, 2, 5, 6, 9, 7, 10, 8, 11])
      ∗ cred (tallyAt (locCell 1 c) () NL)
      ∗ atPos ER (locCell 1 c) 2 ∅ 0
      ∗ ysT c y
      ∗ ewPt I 7 c
      ∗ dutyTok ER (locCell 1 c) 3 true
      ∗ cred (tallyAt (locCell 0 c) () NL)
      ∗ atPos ER (locCell 0 c) 3 ∅ 0)
    ⊢ iprop(((ysT c (Function.update y 5 (ysB (I c) 5))
      ∗ atPos ER (locCell 1 c) 3 ∅ 0
      ∗ reached ER (locCell 1 c) 3
      ∗ ewPt I 5 c
      ∗ cred (tallyAt (locCell 1 c) () NL)
      ∗ owing (F := F) c (tallies c [0, 3, 1, 4, 2, 5, 6, 9, 7, 10, 8, 11])
      ∗ atPos ER (locCell 0 c) 4 ∅ 0
      ∗ reached ER (locCell 0 c) 4
      ∗ sl (wbV 0) c (ewAt (I c) 6)
      ∗ ewPt I 6 c) -∗ Q (k0_pay11 (xg (I c)))) -∗
      wp frame (wpE (defs₀ (F := F)) 𝒱₀ c none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 (xg (I c))) Q) := by
  simp only [k0_part6_eq_skeleton]
  unfold k0_part6_skel
  simp only [semSignalWord, semWaitWord, Prog.lift, Prog.bind_op, Prog.bind_ret, Prog.pure_eq_ret, Prog.bind_assoc, wp_deviceId]
  iintro ⟨#Hc, HO, Cl1, P1_2, Y, E7, T1_3, Cl0, P0_3⟩ Hk
  iapply (wp_wait_ew I K 1 2 (by decide) 5 rfl c [0, 3, 1, 4, 2, 5, 6, 9, 7, 10, 8, 11] rfl rfl) $$ [HO Cl1 P1_2]
  · isplitr; · iexact Hc
    isplitl [HO]; · iexact HO
    isplitl [Cl1]; · iexact Cl1
    iexact P1_2
  iintro ⟨HO, P1_3, #Rl1_3, W1_5, E5⟩
  iapply (wp_load_sl) $$ W1_5
  iintro W1_5
  ihave Wa1 := (sl_any (wbV 1) c (ewAt (I c) 5)) $$ W1_5
  iapply (wp_ys_any) $$ Y
  iintro Y
  iapply (wp_ys_store (b := y) 5 rfl) $$ Y
  iintro Y
  ihave Y : ysT c (Function.update y 5 (ysB (I c) 5)) $$ [Y]
  · iexact Y
  iapply (wp_copy_ew I K 1 3 (by decide) 7 rfl c rfl rfl rfl rfl) $$ [E7 Wa1 T1_3]
  · isplitr; · iexact Hc
    isplitl [E7]; · iexact E7
    isplitl [Wa1]; · iexact Wa1
    isplitl [T1_3]; · iexact T1_3
    iexact Rl1_3
  iintro Cl1
  iapply (wp_wait_ew I K 0 3 (by decide) 6 rfl c [0, 3, 1, 4, 2, 5, 6, 9, 7, 10, 8, 11] rfl rfl) $$ [HO Cl0 P0_3]
  · isplitr; · iexact Hc
    isplitl [HO]; · iexact HO
    isplitl [Cl0]; · iexact Cl0
    iexact P0_3
  iintro ⟨HO, P0_4, #Rl0_4, W0_6, E6⟩
  rw [wp_ret]
  imodintro
  iapply Hk
  isplitl [Y]; · iexact Y
  isplitl [P1_3]; · iexact P1_3
  isplitr; · iexact Rl1_3
  isplitl [E5]; · iexact E5
  isplitl [Cl1]; · iexact Cl1
  isplitl [HO]; · iexact HO
  isplitl [P0_4]; · iexact P0_4
  isplitr; · iexact Rl0_4
  isplitl [W0_6]; · iexact W0_6
  iexact E6

/-- The last two experts' products, and all of them read back. -/
theorem part7_run {Q : (Σ' (v194 : Vec F S1024x1024 .bf16) (v197 : BitVec 32) (v199 : BitVec 32) (v201 : BitVec 32), BitVec 32) → sProp (MT nD τ sig Unit (Elt F) ℕ UU ℕ)} (K : GSem nD τ sig → ℕ) (c : Dev nD) (y : Fin 8 → FVec F S128x1024 .bf16) (w2 : BitVec 32) :
    iprop(ctx I K ∗ owing (F := F) c (tallies c [0, 3, 1, 4, 2, 5, 6, 9, 7, 10, 8, 11])
      ∗ sl (wbV 0) c (ewAt (I c) 6)
      ∗ ysT c y
      ∗ cred (tallyAt (locCell 1 c) () NL)
      ∗ atPos ER (locCell 1 c) 3 ∅ 0)
    ⊢ iprop((∀ w197 w199 w201 w0, (ysT c (Function.update (Function.update y 6 (ysB (I c) 6)) 7 (ysB (I c) 7))
      ∗ slAny (wbV 0) c
      ∗ owing (F := F) c (tallies c [0, 3, 1, 4, 2, 5, 6, 9, 7, 10, 8, 11])
      ∗ atPos ER (locCell 1 c) 4 ∅ 0
      ∗ reached ER (locCell 1 c) 4
      ∗ ewPt I 7 c
      ∗ slAny (wbV 1) c) -∗ Q ⟨glue (Function.update (Function.update y 6 (ysB (I c) 6)) 7 (ysB (I c) 7)), w197, w199, w201, w0⟩) -∗
      wp frame (wpE (defs₀ (F := F)) 𝒱₀ c none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 w2 (xg (I c)) (k0_pay11 (xg (I c)))) Q) := by
  simp only [k0_part7_eq_skeleton]
  unfold k0_part7_skel
  simp only [semSignalWord, semWaitWord, Prog.lift, Prog.bind_op, Prog.bind_ret, Prog.pure_eq_ret, Prog.bind_assoc, wp_deviceId]
  iintro ⟨#Hc, HO, W0_6, Y, Cl1, P1_3⟩ Hk
  iapply (wp_load_sl) $$ W0_6
  iintro W0_6
  ihave Wa0 := (sl_any (wbV 0) c (ewAt (I c) 6)) $$ W0_6
  iapply (wp_ys_any) $$ Y
  iintro Y
  iapply (wp_ys_store (b := y) 6 rfl) $$ Y
  iintro Y
  ihave Y : ysT c (Function.update y 6 (ysB (I c) 6)) $$ [Y]
  · iexact Y
  iapply (wp_wait_ew I K 1 3 (by decide) 7 rfl c [0, 3, 1, 4, 2, 5, 6, 9, 7, 10, 8, 11] rfl rfl) $$ [HO Cl1 P1_3]
  · isplitr; · iexact Hc
    isplitl [HO]; · iexact HO
    isplitl [Cl1]; · iexact Cl1
    iexact P1_3
  iintro ⟨HO, P1_4, #Rl1_4, W1_7, E7⟩
  iapply (wp_load_sl) $$ W1_7
  iintro W1_7
  ihave Wa1 := (sl_any (wbV 1) c (ewAt (I c) 7)) $$ W1_7
  iapply (wp_ys_any) $$ Y
  iintro Y
  iapply (wp_ys_store (b := (Function.update y 6 (ysB (I c) 6))) 7 rfl) $$ Y
  iintro Y
  ihave Y : ysT c (Function.update (Function.update y 6 (ysB (I c) 6)) 7 (ysB (I c) 7)) $$ [Y]
  · iexact Y
  iapply (wp_ys_load (b := (Function.update (Function.update y 6 (ysB (I c) 6)) 7 (ysB (I c) 7))) zero2) $$ Y
  iintro Y
  rw [wp_ret]
  imodintro
  iapply Hk
  isplitl [Y]; · iexact Y
  isplitl [Wa0]; · iexact Wa0
  isplitl [HO]; · iexact HO
  isplitl [P1_4]; · iexact P1_4
  isplitr; · iexact Rl1_4
  isplitl [E7]; · iexact E7
  iexact Wa1

end Cert.KernelIdeal.Moe

end
-- ==== Proof.Body2.lean ====
/-
The second part of the body: the first stage of the two reduce rings.
-/
module

public import proofs.«01_k».proof.Proof.Steps
public import proofs.«01_k».proof.Proof.Tiles

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Fam F)

/-- The device's own chunk: its contribution with the shared product; the left half is put up for sending. -/
theorem part8_run {Q : (FVec F S512x512 .bf16) → sProp (MT nD τ sig Unit (Elt F) ℕ UU ℕ)} (K : GSem nD τ sig → ℕ) (c : Dev nD) (b : Fin 8 → Vec F S512x512 .f32) (w2 w0 : BitVec 32) :
    iprop(ctx I K ∗ inp xM c (I c).x
      ∗ inp colM c (I c).col
      ∗ inp pwM c (I c).pw
      ∗ inp swM c (I c).sw
      ∗ outT c b
      ∗ slAny (srcV 0) c)
    ⊢ iprop(((inp xM c (I c).x
      ∗ inp colM c (I c).col
      ∗ inp pwM c (I c).pw
      ∗ inp swM c (I c).sw
      ∗ outT c (Function.update (Function.update b 0 (half 0 (own0 I c))) 1 (half 1 (own0 I c)))
      ∗ sl (srcV 0) c (sval I 0 c)) -∗ Q (k0_pay16 (half 1 (own0 I c)))) -∗
      wp frame (wpE (defs₀ (F := F)) 𝒱₀ c none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w2 (ysAll (I c)) w0) Q) := by
  simp only [k0_part8_eq_skeleton]
  unfold k0_part8_skel
  simp only [semSignalWord, semWaitWord, Prog.lift, Prog.bind_op, Prog.bind_ret, Prog.pure_eq_ret, Prog.bind_assoc, wp_deviceId]
  iintro ⟨#Hc, X, COL, PW, SW, O, Va0⟩ Hk
  iapply (wp_load_eq (M := colM) (X := (I c).col) (colAt (I c) c) (read_col (I c) c (k0_off1_eq c))) $$ COL
  iintro COL
  iapply (wp_load_eq (M := pwM) (X := (I c).pw) (pwAt (I c) c) (read_pw (I c) c (k0_off1_eq c))) $$ PW
  iintro PW
  iapply (wp_load_eq (M := xM) (X := (I c).x) (xAt (I c) c) (read_x (I c) c (k0_off2_eq c))) $$ X
  iintro X
  iapply (wp_load_eq (M := swM) (X := (I c).sw) (I c).sw (read_all (M := swM) zero2 (I c).sw)) $$ SW
  iintro SW
  iapply (wp_out_any) $$ O
  iintro O
  iapply (wp_out_store_wide (b := b) 0 (off_own c _ (k0_off2_eq c))) $$ O
  iintro O
  ihave O : outT c (Function.update (Function.update b 0 (half 0 (own0 I c))) 1 (half 1 (own0 I c))) $$ [O]
  · iexact O
  iapply (wp_out_load (b := (Function.update (Function.update b 0 (half 0 (own0 I c))) 1 (half 1 (own0 I c)))) 0 (half 0 (own0 I c)) (by first | rfl | assumption | simp [Function.update, *]) ((k0_off3_eq c).trans (outOff_own0 c))) $$ O
  iintro O
  iapply (wp_load_any) $$ Va0
  iintro Va0
  iapply (wp_store_any) $$ Va0
  iintro V0
  iapply (wp_out_load (b := (Function.update (Function.update b 0 (half 0 (own0 I c))) 1 (half 1 (own0 I c)))) 1 (half 1 (own0 I c)) (by first | rfl | assumption | simp [Function.update, *]) ((k0_off4_eq c).trans (outOff_own1 c))) $$ O
  iintro O
  rw [wp_ret]
  imodintro
  iapply Hk
  isplitl [X]; · iexact X
  isplitl [COL]; · iexact COL
  isplitl [PW]; · iexact PW
  isplitl [SW]; · iexact SW
  isplitl [O]; · iexact O
  iexact V0

/-- The right half is put up for sending, both halves are sent. -/
theorem part9_run {Q : (Σ' (v265 : BitVec 32) (v271 : IVec S512x1024 1), FVec F S512x1 .f32) → sProp (MT nD τ sig Unit (Elt F) ℕ UU ℕ)} (K : GSem nD τ sig → ℕ) (c : Dev nD) (w5 w7 w197 : BitVec 32) :
    iprop(ctx I K ∗ owing (F := F) c (tallies c [0, 3, 1, 4, 2, 5, 6, 9, 7, 10, 8, 11])
      ∗ slAny (srcV 3) c
      ∗ toSend (F := F) 0 c
      ∗ sl (srcV 0) c (sval I 0 c)
      ∗ land (F := F) 0 (peer 0 c)
      ∗ toSend (F := F) 3 c
      ∗ land (F := F) 3 (peer 3 c)
      ∗ inp colM c (I c).col
      ∗ inp pwM c (I c).pw)
    ⊢ iprop((∀ w265, (inp colM c (I c).col
      ∗ inp pwM c (I c).pw
      ∗ sent (F := F) 0 c
      ∗ owing (F := F) c (tallies c [1, 4, 2, 5, 6, 9, 7, 10, 8, 11])
      ∗ sent (F := F) 3 c) -∗ Q ⟨w265, k0_pay18 (colAt (I c) (lf c)), k0_pay19 (pwAt (I c) (lf c))⟩) -∗
      wp frame (wpE (defs₀ (F := F)) 𝒱₀ c none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w5 w7 w197 (k0_pay16 (half 1 (own0 I c)))) Q) := by
  simp only [k0_part9_eq_skeleton]
  unfold k0_part9_skel
  simp only [semSignalWord, semWaitWord, Prog.lift, Prog.bind_op, Prog.bind_ret, Prog.pure_eq_ret, Prog.bind_assoc, wp_deviceId]
  iintro ⟨#Hc, HO, Va3, Ss0, V0, D0, Ss3, D3, COL, PW⟩ Hk
  iapply (wp_load_any) $$ Va3
  iintro Va3
  iapply (wp_store_any) $$ Va3
  iintro V3
  iapply (wp_send I K 0 c _ (Fin.ext (k0_dev3_eq c)) rfl rfl rfl rfl rfl [3, 1, 4, 2, 5, 6, 9, 7, 10, 8, 11]) $$ [HO Ss0 V0 D0]
  · isplitr; · iexact Hc
    isplitl [HO]; · iexact HO
    isplitl [Ss0]; · iexact Ss0
    isplitl [V0]; · iexact V0
    iexact D0
  iintro ⟨HO, Sw0⟩
  iapply (wp_send I K 3 c _ (Fin.ext (k0_dev4_eq c)) rfl rfl rfl rfl rfl [1, 4, 2, 5, 6, 9, 7, 10, 8, 11]) $$ [HO Ss3 V3 D3]
  · isplitr; · iexact Hc
    isplitl [HO]; · iexact HO
    isplitl [Ss3]; · iexact Ss3
    isplitl [V3]; · iexact V3
    iexact D3
  iintro ⟨HO, Sw3⟩
  iapply (wp_load_eq (M := colM) (X := (I c).col) (colAt (I c) (lf c)) (read_col (I c) (lf c) (k0_off5_eq c))) $$ COL
  iintro COL
  iapply (wp_load_eq (M := pwM) (X := (I c).pw) (pwAt (I c) (lf c)) (read_pw (I c) (lf c) (k0_off5_eq c))) $$ PW
  iintro PW
  rw [wp_ret]
  imodintro
  iapply Hk
  isplitl [COL]; · iexact COL
  isplitl [PW]; · iexact PW
  isplitl [Sw0]; · iexact Sw0
  isplitl [HO]; · iexact HO
  iexact Sw3

/-- The contributions to the neighbouring chunks. -/
theorem part10_run {Q : (BitVec 32) → sProp (MT nD τ sig Unit (Elt F) ℕ UU ℕ)} (K : GSem nD τ sig → ℕ) (c : Dev nD) (b : Fin 8 → Vec F S512x512 .f32) (w199 w265 : BitVec 32) :
    iprop(ctx I K ∗ owing (F := F) c (tallies c [1, 4, 2, 5, 6, 9, 7, 10, 8, 11])
      ∗ outT c b
      ∗ inp colM c (I c).col
      ∗ inp pwM c (I c).pw
      ∗ sent (F := F) 0 c)
    ⊢ iprop(((outT c (Function.update (Function.update b 6 (own1R I c)) 3 (own1L I c))
      ∗ inp colM c (I c).col
      ∗ inp pwM c (I c).pw
      ∗ owing (F := F) c (tallies c [1, 4, 2, 5, 6, 9, 7, 10, 8, 11])
      ∗ sentDone (F := F) 0 c
      ∗ sl (srcV 0) c (sval I 0 c)) -∗ Q 1#32) -∗
      wp frame (wpE (defs₀ (F := F)) 𝒱₀ c none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c (ysAll (I c)) w199 w265 (k0_pay18 (colAt (I c) (lf c))) (k0_pay19 (pwAt (I c) (lf c)))) Q) := by
  simp only [k0_part10_eq_skeleton]
  unfold k0_part10_skel
  simp only [semSignalWord, semWaitWord, Prog.lift, Prog.bind_op, Prog.bind_ret, Prog.pure_eq_ret, Prog.bind_assoc, wp_deviceId]
  iintro ⟨#Hc, HO, O, COL, PW, Sw0⟩ Hk
  iapply (wp_out_any) $$ O
  iintro O
  iapply (wp_out_store (b := b) 6 ((k0_off6_eq c 1).trans (outOff_6_1 c))) $$ O
  iintro O
  ihave O : outT c (Function.update b 6 (own1R I c)) $$ [O]
  · iexact O
  iapply (wp_load_eq (M := colM) (X := (I c).col) (colAt (I c) (rt c)) (read_col (I c) (rt c) (k0_off7_eq c 0))) $$ COL
  iintro COL
  iapply (wp_load_eq (M := pwM) (X := (I c).pw) (pwAt (I c) (rt c)) (read_pw (I c) (rt c) (k0_off7_eq c 0))) $$ PW
  iintro PW
  iapply (wp_out_any) $$ O
  iintro O
  iapply (wp_out_store (b := (Function.update b 6 (own1R I c))) 3 ((k0_off8_eq c 1).trans (outOff_8_1 c))) $$ O
  iintro O
  ihave O : outT c (Function.update (Function.update b 6 (own1R I c)) 3 (own1L I c)) $$ [O]
  · iexact O
  iapply (wp_wait_sent I K 0 c [1, 4, 2, 5, 6, 9, 7, 10, 8, 11] rfl rfl) $$ [HO Sw0]
  · isplitr; · iexact Hc
    isplitl [HO]; · iexact HO
    iexact Sw0
  iintro ⟨HO, Sd0, V0⟩
  rw [wp_ret]
  imodintro
  iapply Hk
  isplitl [O]; · iexact O
  isplitl [COL]; · iexact COL
  isplitl [PW]; · iexact PW
  isplitl [HO]; · iexact HO
  isplitl [Sd0]; · iexact Sd0
  iexact V0

/-- The first arrivals. -/
theorem part11_run {Q : (Σ' (v331 : BitVec 32) (v334 : FVec F S512x512 .f32), FVec F S512x512 .bf16) → sProp (MT nD τ sig Unit (Elt F) ℕ UU ℕ)} (K : GSem nD τ sig → ℕ) (c : Dev nD) (b : Fin 8 → Vec F S512x512 .f32) (h6 : b 6 = own1R I c) (w5 w7 w197 w1 : BitVec 32) :
    iprop(ctx I K ∗ owing (F := F) c (tallies c [1, 4, 2, 5, 6, 9, 7, 10, 8, 11])
      ∗ toRecv (F := F) 0 c
      ∗ sent (F := F) 3 c
      ∗ toRecv (F := F) 3 c
      ∗ outT c b)
    ⊢ iprop((∀ w331, (outT c b
      ∗ recvDone (F := F) 0 c
      ∗ sl (dstV 0) c (sval I 0 (frm 0 c))
      ∗ sentDone (F := F) 3 c
      ∗ sl (srcV 3) c (sval I 3 c)
      ∗ owing (F := F) c (tallies c [1, 4, 2, 5, 6, 9, 7, 10, 8, 11])
      ∗ recvDone (F := F) 3 c
      ∗ sl (dstV 3) c (sval I 3 (frm 3 c))) -∗ Q ⟨w331, k0_pay22 (own1R I c), k0_pay23 (sR0 I (lf c))⟩) -∗
      wp frame (wpE (defs₀ (F := F)) 𝒱₀ c none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w5 w7 w197 w1) Q) := by
  simp only [k0_part11_eq_skeleton]
  unfold k0_part11_skel
  simp only [semSignalWord, semWaitWord, Prog.lift, Prog.bind_op, Prog.bind_ret, Prog.pure_eq_ret, Prog.bind_assoc, wp_deviceId]
  iintro ⟨#Hc, HO, R0, Sw3, R3, O⟩ Hk
  iapply (wp_wait_rcvd I K 0 c [1, 4, 2, 5, 6, 9, 7, 10, 8, 11] (by decide) rfl rfl) $$ [HO R0]
  · isplitr; · iexact Hc
    isplitl [HO]; · iexact HO
    iexact R0
  iintro ⟨HO, Rd0, A0⟩
  iapply (wp_wait_sent I K 3 c [1, 4, 2, 5, 6, 9, 7, 10, 8, 11] rfl rfl) $$ [HO Sw3]
  · isplitr; · iexact Hc
    isplitl [HO]; · iexact HO
    iexact Sw3
  iintro ⟨HO, Sd3, V3⟩
  iapply (wp_wait_rcvd I K 3 c [1, 4, 2, 5, 6, 9, 7, 10, 8, 11] (by decide) rfl rfl) $$ [HO R3]
  · isplitr; · iexact Hc
    isplitl [HO]; · iexact HO
    iexact R3
  iintro ⟨HO, Rd3, A3⟩
  iapply (wp_out_load (b := b) 6 (own1R I c) (by first | rfl | assumption | simp [Function.update, *]) ((k0_off6_eq c 1).trans (outOff_6_1 c))) $$ O
  iintro O
  iapply (wp_load_sl) $$ A0
  iintro A0
  have hx : k0_pay23 (sval I 0 (frm 0 c)) = k0_pay23 (sR0 I (lf c)) := rfl
  rw [hx]
  rw [wp_ret]
  imodintro
  iapply Hk
  isplitl [O]; · iexact O
  isplitl [Rd0]; · iexact Rd0
  isplitl [A0]; · iexact A0
  isplitl [Sd3]; · iexact Sd3
  isplitl [V3]; · iexact V3
  isplitl [HO]; · iexact HO
  isplitl [Rd3]; · iexact Rd3
  iexact A3

/-- What arrived is added, and the sums are put up for sending. -/
theorem part12_run {Q : PUnit → sProp (MT nD τ sig Unit (Elt F) ℕ UU ℕ)} (K : GSem nD τ sig → ℕ) (c : Dev nD) (b : Fin 8 → Vec F S512x512 .f32) (h3 : b 3 = own1L I c) (w7 w197 w199 w331 : BitVec 32) :
    iprop(ctx I K ∗ outT c b
      ∗ sl (dstV 3) c (sval I 3 (frm 3 c))
      ∗ slAny (srcV 1) c
      ∗ slAny (srcV 4) c)
    ⊢ iprop(((outT c (Function.update (Function.update b 6 (acc1R I c)) 3 (acc1L I c))
      ∗ sl (dstV 3) c (sval I 3 (frm 3 c))
      ∗ sl (srcV 1) c (sval I 1 c)
      ∗ sl (srcV 4) c (sval I 4 c)) -∗ Q ⟨⟩) -∗
      wp frame (wpE (defs₀ (F := F)) 𝒱₀ c none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w7 w197 w199 w331 (k0_pay22 (own1R I c)) (k0_pay23 (sR0 I (lf c)))) Q) := by
  simp only [k0_part12_eq_skeleton]
  unfold k0_part12_skel
  simp only [semSignalWord, semWaitWord, Prog.lift, Prog.bind_op, Prog.bind_ret, Prog.pure_eq_ret, Prog.bind_assoc, wp_deviceId]
  iintro ⟨#Hc, O, A3, Va1, Va4⟩ Hk
  iapply (wp_out_any) $$ O
  iintro O
  iapply (wp_out_store (b := b) 6 ((k0_off6_eq c 1).trans (outOff_6_1 c))) $$ O
  iintro O
  ihave O : outT c (Function.update b 6 (acc1R I c)) $$ [O]
  · iexact O
  iapply (wp_out_load (b := (Function.update b 6 (acc1R I c))) 3 (own1L I c) (by first | rfl | assumption | simp [Function.update, *]) ((k0_off8_eq c 1).trans (outOff_8_1 c))) $$ O
  iintro O
  iapply (wp_load_sl) $$ A3
  iintro A3
  iapply (wp_out_any) $$ O
  iintro O
  iapply (wp_out_store (b := (Function.update b 6 (acc1R I c))) 3 ((k0_off8_eq c 1).trans (outOff_8_1 c))) $$ O
  iintro O
  ihave O : outT c (Function.update (Function.update b 6 (acc1R I c)) 3 (acc1L I c)) $$ [O]
  · iexact O
  iapply (wp_out_load (b := (Function.update (Function.update b 6 (acc1R I c)) 3 (acc1L I c))) 6 (acc1R I c) (by first | rfl | assumption | simp [Function.update, *]) ((k0_off6_eq c 1).trans (outOff_6_1 c))) $$ O
  iintro O
  iapply (wp_load_any) $$ Va1
  iintro Va1
  iapply (wp_store_any) $$ Va1
  iintro V1
  iapply (wp_out_load (b := (Function.update (Function.update b 6 (acc1R I c)) 3 (acc1L I c))) 3 (acc1L I c) (by first | rfl | assumption | simp [Function.update, *]) ((k0_off8_eq c 1).trans (outOff_8_1 c))) $$ O
  iintro O
  iapply (wp_load_any) $$ Va4
  iintro Va4
  iapply (wp_store_any) $$ Va4
  iintro V4
  rw [wp_ret]
  imodintro
  iapply Hk
  isplitl [O]; · iexact O
  isplitl [A3]; · iexact A3
  isplitl [V1]; · iexact V1
  iexact V4

end Cert.KernelIdeal.Moe

end
-- ==== Proof.Body3.lean ====
/-
The third part of the body: the other stages of the two reduce rings.
-/
module

public import proofs.«01_k».proof.Proof.Steps
public import proofs.«01_k».proof.Proof.Tiles

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Fam F)

/-- The second stage is sent; the contribution to the opposite chunk. -/
theorem part13_run {Q : PUnit → sProp (MT nD τ sig Unit (Elt F) ℕ UU ℕ)} (K : GSem nD τ sig → ℕ) (c : Dev nD) (b : Fin 8 → Vec F S512x512 .f32) (w5 w201 : BitVec 32) :
    iprop(ctx I K ∗ owing (F := F) c (tallies c [1, 4, 2, 5, 6, 9, 7, 10, 8, 11])
      ∗ toSend (F := F) 1 c
      ∗ sl (srcV 1) c (sval I 1 c)
      ∗ land (F := F) 1 (peer 1 c)
      ∗ toSend (F := F) 4 c
      ∗ sl (srcV 4) c (sval I 4 c)
      ∗ land (F := F) 4 (peer 4 c)
      ∗ inp colM c (I c).col
      ∗ inp pwM c (I c).pw
      ∗ outT c b)
    ⊢ iprop(((inp colM c (I c).col
      ∗ inp pwM c (I c).pw
      ∗ outT c (Function.update (Function.update b 4 (half 0 (own2 I c))) 5 (half 1 (own2 I c)))
      ∗ sent (F := F) 1 c
      ∗ owing (F := F) c (tallies c [2, 5, 6, 9, 7, 10, 8, 11])
      ∗ sent (F := F) 4 c) -∗ Q ⟨⟩) -∗
      wp frame (wpE (defs₀ (F := F)) 𝒱₀ c none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w5 (ysAll (I c)) w201) Q) := by
  simp only [k0_part13_eq_skeleton]
  unfold k0_part13_skel
  simp only [semSignalWord, semWaitWord, Prog.lift, Prog.bind_op, Prog.bind_ret, Prog.pure_eq_ret, Prog.bind_assoc, wp_deviceId]
  iintro ⟨#Hc, HO, Ss1, V1, D1, Ss4, V4, D4, COL, PW, O⟩ Hk
  iapply (wp_send I K 1 c _ (Fin.ext (k0_dev5_eq c)) rfl rfl rfl rfl rfl [4, 2, 5, 6, 9, 7, 10, 8, 11]) $$ [HO Ss1 V1 D1]
  · isplitr; · iexact Hc
    isplitl [HO]; · iexact HO
    isplitl [Ss1]; · iexact Ss1
    isplitl [V1]; · iexact V1
    iexact D1
  iintro ⟨HO, Sw1⟩
  iapply (wp_send I K 4 c _ (Fin.ext (k0_dev6_eq c)) rfl rfl rfl rfl rfl [2, 5, 6, 9, 7, 10, 8, 11]) $$ [HO Ss4 V4 D4]
  · isplitr; · iexact Hc
    isplitl [HO]; · iexact HO
    isplitl [Ss4]; · iexact Ss4
    isplitl [V4]; · iexact V4
    iexact D4
  iintro ⟨HO, Sw4⟩
  iapply (wp_load_eq (M := colM) (X := (I c).col) (colAt (I c) (opp c)) (read_col (I c) (opp c) ((k0_off7_eq c 1).trans (off_opp c)))) $$ COL
  iintro COL
  iapply (wp_load_eq (M := pwM) (X := (I c).pw) (pwAt (I c) (opp c)) (read_pw (I c) (opp c) ((k0_off7_eq c 1).trans (off_opp c)))) $$ PW
  iintro PW
  iapply (wp_out_any) $$ O
  iintro O
  iapply (wp_out_store_wide (b := b) 2 (k0_off9_eq c)) $$ O
  iintro O
  ihave O : outT c (Function.update (Function.update b 4 (half 0 (own2 I c))) 5 (half 1 (own2 I c))) $$ [O]
  · iexact O
  rw [wp_ret]
  imodintro
  iapply Hk
  isplitl [COL]; · iexact COL
  isplitl [PW]; · iexact PW
  isplitl [O]; · iexact O
  isplitl [Sw1]; · iexact Sw1
  isplitl [HO]; · iexact HO
  iexact Sw4

/-- Three waits of the second stage. -/
theorem part14_run {Q : PUnit → sProp (MT nD τ sig Unit (Elt F) ℕ UU ℕ)} (K : GSem nD τ sig → ℕ) (c : Dev nD) (w5 w7 : BitVec 32) :
    iprop(ctx I K ∗ owing (F := F) c (tallies c [2, 5, 6, 9, 7, 10, 8, 11])
      ∗ sent (F := F) 1 c
      ∗ toRecv (F := F) 1 c
      ∗ sent (F := F) 4 c)
    ⊢ iprop(((sentDone (F := F) 1 c
      ∗ sl (srcV 1) c (sval I 1 c)
      ∗ recvDone (F := F) 1 c
      ∗ sl (dstV 1) c (sval I 1 (frm 1 c))
      ∗ owing (F := F) c (tallies c [2, 5, 6, 9, 7, 10, 8, 11])
      ∗ sentDone (F := F) 4 c
      ∗ sl (srcV 4) c (sval I 4 c)) -∗ Q ⟨⟩) -∗
      wp frame (wpE (defs₀ (F := F)) 𝒱₀ c none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 w5 w7) Q) := by
  simp only [k0_part14_eq_skeleton]
  unfold k0_part14_skel
  simp only [semSignalWord, semWaitWord, Prog.lift, Prog.bind_op, Prog.bind_ret, Prog.pure_eq_ret, Prog.bind_assoc, wp_deviceId]
  iintro ⟨#Hc, HO, Sw1, R1, Sw4⟩ Hk
  iapply (wp_wait_sent I K 1 c [2, 5, 6, 9, 7, 10, 8, 11] rfl rfl) $$ [HO Sw1]
  · isplitr; · iexact Hc
    isplitl [HO]; · iexact HO
    iexact Sw1
  iintro ⟨HO, Sd1, V1⟩
  iapply (wp_wait_rcvd I K 1 c [2, 5, 6, 9, 7, 10, 8, 11] (by decide) rfl rfl) $$ [HO R1]
  · isplitr; · iexact Hc
    isplitl [HO]; · iexact HO
    iexact R1
  iintro ⟨HO, Rd1, A1⟩
  iapply (wp_wait_sent I K 4 c [2, 5, 6, 9, 7, 10, 8, 11] rfl rfl) $$ [HO Sw4]
  · isplitr; · iexact Hc
    isplitl [HO]; · iexact HO
    iexact Sw4
  iintro ⟨HO, Sd4, V4⟩
  rw [wp_ret]
  imodintro
  iapply Hk
  isplitl [Sd1]; · iexact Sd1
  isplitl [V1]; · iexact V1
  isplitl [Rd1]; · iexact Rd1
  isplitl [A1]; · iexact A1
  isplitl [HO]; · iexact HO
  isplitl [Sd4]; · iexact Sd4
  iexact V4

/-- The second arrivals are added. -/
theorem part15_run {Q : PUnit → sProp (MT nD τ sig Unit (Elt F) ℕ UU ℕ)} (K : GSem nD τ sig → ℕ) (c : Dev nD) (b : Fin 8 → Vec F S512x512 .f32) (h4 : b 4 = half 0 (own2 I c)) (h5 : b 5 = half 1 (own2 I c)) (w201 : BitVec 32) :
    iprop(ctx I K ∗ owing (F := F) c (tallies c [2, 5, 6, 9, 7, 10, 8, 11])
      ∗ toRecv (F := F) 4 c
      ∗ outT c b
      ∗ sl (dstV 1) c (sval I 1 (frm 1 c))
      ∗ slAny (srcV 2) c)
    ⊢ iprop(((outT c (Function.update (Function.update b 4 (acc2R I c)) 5 (acc2L I c))
      ∗ sl (dstV 1) c (sval I 1 (frm 1 c))
      ∗ owing (F := F) c (tallies c [2, 5, 6, 9, 7, 10, 8, 11])
      ∗ recvDone (F := F) 4 c
      ∗ sl (dstV 4) c (sval I 4 (frm 4 c))
      ∗ sl (srcV 2) c (sval I 2 c)) -∗ Q ⟨⟩) -∗
      wp frame (wpE (defs₀ (F := F)) 𝒱₀ c none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w201) Q) := by
  simp only [k0_part15_eq_skeleton]
  unfold k0_part15_skel
  simp only [semSignalWord, semWaitWord, Prog.lift, Prog.bind_op, Prog.bind_ret, Prog.pure_eq_ret, Prog.bind_assoc, wp_deviceId]
  iintro ⟨#Hc, HO, R4, O, A1, Va2⟩ Hk
  iapply (wp_wait_rcvd I K 4 c [2, 5, 6, 9, 7, 10, 8, 11] (by decide) rfl rfl) $$ [HO R4]
  · isplitr; · iexact Hc
    isplitl [HO]; · iexact HO
    iexact R4
  iintro ⟨HO, Rd4, A4⟩
  iapply (wp_out_load (b := b) 4 (half 0 (own2 I c)) (by first | rfl | assumption | simp [Function.update, *]) ((k0_off10_eq c 1).trans (outOff_10_2 c))) $$ O
  iintro O
  iapply (wp_load_sl) $$ A1
  iintro A1
  iapply (wp_out_any) $$ O
  iintro O
  iapply (wp_out_store (b := b) 4 ((k0_off10_eq c 1).trans (outOff_10_2 c))) $$ O
  iintro O
  ihave O : outT c (Function.update b 4 (acc2R I c)) $$ [O]
  · iexact O
  iapply (wp_out_load (b := (Function.update b 4 (acc2R I c))) 5 (half 1 (own2 I c)) (by first | rfl | assumption | simp [Function.update, *]) ((k0_off8_eq c 2).trans (outOff_8_2 c))) $$ O
  iintro O
  iapply (wp_load_sl) $$ A4
  iintro A4
  iapply (wp_out_any) $$ O
  iintro O
  iapply (wp_out_store (b := (Function.update b 4 (acc2R I c))) 5 ((k0_off8_eq c 2).trans (outOff_8_2 c))) $$ O
  iintro O
  ihave O : outT c (Function.update (Function.update b 4 (acc2R I c)) 5 (acc2L I c)) $$ [O]
  · iexact O
  iapply (wp_out_load (b := (Function.update (Function.update b 4 (acc2R I c)) 5 (acc2L I c))) 4 (acc2R I c) (by first | rfl | assumption | simp [Function.update, *]) ((k0_off10_eq c 1).trans (outOff_10_2 c))) $$ O
  iintro O
  iapply (wp_load_any) $$ Va2
  iintro Va2
  iapply (wp_store_any) $$ Va2
  iintro V2
  rw [wp_ret]
  imodintro
  iapply Hk
  isplitl [O]; · iexact O
  isplitl [A1]; · iexact A1
  isplitl [HO]; · iexact HO
  isplitl [Rd4]; · iexact Rd4
  isplitl [A4]; · iexact A4
  iexact V2

/-- The third stage is sent. -/
theorem part16_run {Q : (Σ' (v489 : BitVec 32) (v490 : IVec S512x1024 32), IVec S512x1024 32) → sProp (MT nD τ sig Unit (Elt F) ℕ UU ℕ)} (K : GSem nD τ sig → ℕ) (c : Dev nD) (b : Fin 8 → Vec F S512x512 .f32) (h5 : b 5 = acc2L I c) (w5 w7 w199 : BitVec 32) :
    iprop(ctx I K ∗ owing (F := F) c (tallies c [2, 5, 6, 9, 7, 10, 8, 11])
      ∗ outT c b
      ∗ slAny (srcV 5) c
      ∗ toSend (F := F) 2 c
      ∗ sl (srcV 2) c (sval I 2 c)
      ∗ land (F := F) 2 (peer 2 c)
      ∗ toSend (F := F) 5 c
      ∗ land (F := F) 5 (peer 5 c)
      ∗ inp colM c (I c).col)
    ⊢ iprop((∀ w489, (outT c b
      ∗ inp colM c (I c).col
      ∗ sent (F := F) 2 c
      ∗ owing (F := F) c (tallies c [6, 9, 7, 10, 8, 11])
      ∗ sent (F := F) 5 c) -∗ Q ⟨w489, (iota .tc S512x1024 32 [1] iota_S512x1024_d1_w32), k0_pay33 (colAt (I c) (rt c))⟩) -∗
      wp frame (wpE (defs₀ (F := F)) 𝒱₀ c none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w5 w7 w199) Q) := by
  simp only [k0_part16_eq_skeleton]
  unfold k0_part16_skel
  simp only [semSignalWord, semWaitWord, Prog.lift, Prog.bind_op, Prog.bind_ret, Prog.pure_eq_ret, Prog.bind_assoc, wp_deviceId]
  iintro ⟨#Hc, HO, O, Va5, Ss2, V2, D2, Ss5, D5, COL⟩ Hk
  iapply (wp_out_load (b := b) 5 (acc2L I c) (by first | rfl | assumption | simp [Function.update, *]) ((k0_off8_eq c 2).trans (outOff_8_2 c))) $$ O
  iintro O
  iapply (wp_load_any) $$ Va5
  iintro Va5
  iapply (wp_store_any) $$ Va5
  iintro V5
  iapply (wp_send I K 2 c _ (Fin.ext (k0_dev7_eq c)) rfl rfl rfl rfl rfl [5, 6, 9, 7, 10, 8, 11]) $$ [HO Ss2 V2 D2]
  · isplitr; · iexact Hc
    isplitl [HO]; · iexact HO
    isplitl [Ss2]; · iexact Ss2
    isplitl [V2]; · iexact V2
    iexact D2
  iintro ⟨HO, Sw2⟩
  iapply (wp_send I K 5 c _ (Fin.ext (k0_dev8_eq c)) rfl rfl rfl rfl rfl [6, 9, 7, 10, 8, 11]) $$ [HO Ss5 V5 D5]
  · isplitr; · iexact Hc
    isplitl [HO]; · iexact HO
    isplitl [Ss5]; · iexact Ss5
    isplitl [V5]; · iexact V5
    iexact D5
  iintro ⟨HO, Sw5⟩
  iapply (wp_load_eq (M := colM) (X := (I c).col) (colAt (I c) (rt c)) (read_col (I c) (rt c) (k0_off7_eq c 0))) $$ COL
  iintro COL
  rw [wp_ret]
  imodintro
  iapply Hk
  isplitl [O]; · iexact O
  isplitl [COL]; · iexact COL
  isplitl [Sw2]; · iexact Sw2
  isplitl [HO]; · iexact HO
  iexact Sw5

/-- The last two contributions. -/
theorem part17_run {Q : PUnit → sProp (MT nD τ sig Unit (Elt F) ℕ UU ℕ)} (K : GSem nD τ sig → ℕ) (c : Dev nD) (b : Fin 8 → Vec F S512x512 .f32) (w197 w489 : BitVec 32) :
    iprop(ctx I K ∗ owing (F := F) c (tallies c [6, 9, 7, 10, 8, 11])
      ∗ inp pwM c (I c).pw
      ∗ outT c b
      ∗ inp colM c (I c).col
      ∗ sent (F := F) 2 c)
    ⊢ iprop(((inp pwM c (I c).pw
      ∗ outT c (Function.update (Function.update b 2 (own3R I c)) 7 (own3L I c))
      ∗ inp colM c (I c).col
      ∗ owing (F := F) c (tallies c [6, 9, 7, 10, 8, 11])
      ∗ sentDone (F := F) 2 c
      ∗ sl (srcV 2) c (sval I 2 c)) -∗ Q ⟨⟩) -∗
      wp frame (wpE (defs₀ (F := F)) 𝒱₀ c none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c (ysAll (I c)) w197 w489 (iota .tc S512x1024 32 [1] iota_S512x1024_d1_w32) (k0_pay33 (colAt (I c) (rt c)))) Q) := by
  simp only [k0_part17_eq_skeleton]
  unfold k0_part17_skel
  simp only [semSignalWord, semWaitWord, Prog.lift, Prog.bind_op, Prog.bind_ret, Prog.pure_eq_ret, Prog.bind_assoc, wp_deviceId]
  iintro ⟨#Hc, HO, PW, O, COL, Sw2⟩ Hk
  iapply (wp_load_eq (M := pwM) (X := (I c).pw) (pwAt (I c) (rt c)) (read_pw (I c) (rt c) (k0_off7_eq c 0))) $$ PW
  iintro PW
  iapply (wp_out_any) $$ O
  iintro O
  iapply (wp_out_store (b := b) 2 ((k0_off10_eq c 0).trans (outOff_10_1 c))) $$ O
  iintro O
  ihave O : outT c (Function.update b 2 (own3R I c)) $$ [O]
  · iexact O
  iapply (wp_load_eq (M := colM) (X := (I c).col) (colAt (I c) (lf c)) (read_col (I c) (lf c) (k0_off5_eq c))) $$ COL
  iintro COL
  iapply (wp_load_eq (M := pwM) (X := (I c).pw) (pwAt (I c) (lf c)) (read_pw (I c) (lf c) (k0_off5_eq c))) $$ PW
  iintro PW
  iapply (wp_out_any) $$ O
  iintro O
  iapply (wp_out_store (b := (Function.update b 2 (own3R I c))) 7 ((k0_off11_eq c).trans (outOff_11 c))) $$ O
  iintro O
  ihave O : outT c (Function.update (Function.update b 2 (own3R I c)) 7 (own3L I c)) $$ [O]
  · iexact O
  iapply (wp_wait_sent I K 2 c [6, 9, 7, 10, 8, 11] rfl rfl) $$ [HO Sw2]
  · isplitr; · iexact Hc
    isplitl [HO]; · iexact HO
    iexact Sw2
  iintro ⟨HO, Sd2, V2⟩
  rw [wp_ret]
  imodintro
  iapply Hk
  isplitl [PW]; · iexact PW
  isplitl [O]; · iexact O
  isplitl [COL]; · iexact COL
  isplitl [HO]; · iexact HO
  isplitl [Sd2]; · iexact Sd2
  iexact V2

/-- The third arrivals. -/
theorem part18_run {Q : (Σ' (v555 : BitVec 32), FVec F S512x512 .f32) → sProp (MT nD τ sig Unit (Elt F) ℕ UU ℕ)} (K : GSem nD τ sig → ℕ) (c : Dev nD) (b : Fin 8 → Vec F S512x512 .f32) (h2 : b 2 = own3R I c) (w5 w7 w199 : BitVec 32) :
    iprop(ctx I K ∗ owing (F := F) c (tallies c [6, 9, 7, 10, 8, 11])
      ∗ toRecv (F := F) 2 c
      ∗ sent (F := F) 5 c
      ∗ toRecv (F := F) 5 c
      ∗ outT c b)
    ⊢ iprop((∀ w555, (outT c b
      ∗ recvDone (F := F) 2 c
      ∗ sl (dstV 2) c (sval I 2 (frm 2 c))
      ∗ sentDone (F := F) 5 c
      ∗ sl (srcV 5) c (sval I 5 c)
      ∗ owing (F := F) c (tallies c [6, 9, 7, 10, 8, 11])
      ∗ recvDone (F := F) 5 c
      ∗ sl (dstV 5) c (sval I 5 (frm 5 c))) -∗ Q ⟨w555, k0_pay36 (own3R I c)⟩) -∗
      wp frame (wpE (defs₀ (F := F)) 𝒱₀ c none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w5 w7 w199) Q) := by
  simp only [k0_part18_eq_skeleton]
  unfold k0_part18_skel
  simp only [semSignalWord, semWaitWord, Prog.lift, Prog.bind_op, Prog.bind_ret, Prog.pure_eq_ret, Prog.bind_assoc, wp_deviceId]
  iintro ⟨#Hc, HO, R2, Sw5, R5, O⟩ Hk
  iapply (wp_wait_rcvd I K 2 c [6, 9, 7, 10, 8, 11] (by decide) rfl rfl) $$ [HO R2]
  · isplitr; · iexact Hc
    isplitl [HO]; · iexact HO
    iexact R2
  iintro ⟨HO, Rd2, A2⟩
  iapply (wp_wait_sent I K 5 c [6, 9, 7, 10, 8, 11] rfl rfl) $$ [HO Sw5]
  · isplitr; · iexact Hc
    isplitl [HO]; · iexact HO
    iexact Sw5
  iintro ⟨HO, Sd5, V5⟩
  iapply (wp_wait_rcvd I K 5 c [6, 9, 7, 10, 8, 11] (by decide) rfl rfl) $$ [HO R5]
  · isplitr; · iexact Hc
    isplitl [HO]; · iexact HO
    iexact R5
  iintro ⟨HO, Rd5, A5⟩
  iapply (wp_out_load (b := b) 2 (own3R I c) (by first | rfl | assumption | simp [Function.update, *]) ((k0_off10_eq c 0).trans (outOff_10_1 c))) $$ O
  iintro O
  rw [wp_ret]
  imodintro
  iapply Hk
  isplitl [O]; · iexact O
  isplitl [Rd2]; · iexact Rd2
  isplitl [A2]; · iexact A2
  isplitl [Sd5]; · iexact Sd5
  isplitl [V5]; · iexact V5
  isplitl [HO]; · iexact HO
  isplitl [Rd5]; · iexact Rd5
  iexact A5

/-- The two half chunks are finished and put up for the second round. -/
theorem part19_run {Q : (BitVec 32) → sProp (MT nD τ sig Unit (Elt F) ℕ UU ℕ)} (K : GSem nD τ sig → ℕ) (c : Dev nD) (b : Fin 8 → Vec F S512x512 .f32) (h7 : b 7 = own3L I c) (w2 w197 w199 w555 : BitVec 32) :
    iprop(ctx I K ∗ outT c b
      ∗ sl (dstV 2) c (sval I 2 (frm 2 c))
      ∗ sl (dstV 5) c (sval I 5 (frm 5 c))
      ∗ slAny (srcV 6) c
      ∗ slAny (srcV 9) c)
    ⊢ iprop((∀ w592, (outT c (Function.update (Function.update b 2 (acc3R I c)) 7 (acc3L I c))
      ∗ sl (dstV 2) c (sval I 2 (frm 2 c))
      ∗ sl (dstV 5) c (sval I 5 (frm 5 c))
      ∗ sl (srcV 6) c (sval I 6 c)
      ∗ sl (srcV 9) c (sval I 9 c)) -∗ Q w592) -∗
      wp frame (wpE (defs₀ (F := F)) 𝒱₀ c none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w2 w197 w199 w555 (k0_pay36 (own3R I c))) Q) := by
  simp only [k0_part19_eq_skeleton]
  unfold k0_part19_skel
  simp only [semSignalWord, semWaitWord, Prog.lift, Prog.bind_op, Prog.bind_ret, Prog.pure_eq_ret, Prog.bind_assoc, wp_deviceId]
  iintro ⟨#Hc, O, A2, A5, Va6, Va9⟩ Hk
  iapply (wp_load_sl) $$ A2
  iintro A2
  iapply (wp_out_any) $$ O
  iintro O
  iapply (wp_out_store (b := b) 2 ((k0_off10_eq c 0).trans (outOff_10_1 c))) $$ O
  iintro O
  ihave O : outT c (Function.update b 2 (acc3R I c)) $$ [O]
  · iexact O
  iapply (wp_out_load (b := (Function.update b 2 (acc3R I c))) 7 (own3L I c) (by first | rfl | assumption | simp [Function.update, *]) ((k0_off11_eq c).trans (outOff_11 c))) $$ O
  iintro O
  iapply (wp_load_sl) $$ A5
  iintro A5
  iapply (wp_out_any) $$ O
  iintro O
  iapply (wp_out_store (b := (Function.update b 2 (acc3R I c))) 7 ((k0_off11_eq c).trans (outOff_11 c))) $$ O
  iintro O
  ihave O : outT c (Function.update (Function.update b 2 (acc3R I c)) 7 (acc3L I c)) $$ [O]
  · iexact O
  iapply (wp_out_load (b := (Function.update (Function.update b 2 (acc3R I c)) 7 (acc3L I c))) 2 (acc3R I c) (by first | rfl | assumption | simp [Function.update, *]) ((k0_off10_eq c 0).trans (outOff_10_1 c))) $$ O
  iintro O
  iapply (wp_load_any) $$ Va6
  iintro Va6
  iapply (wp_store_any) $$ Va6
  iintro V6
  iapply (wp_out_load (b := (Function.update (Function.update b 2 (acc3R I c)) 7 (acc3L I c))) 7 (acc3L I c) (by first | rfl | assumption | simp [Function.update, *]) ((k0_off11_eq c).trans (outOff_11 c))) $$ O
  iintro O
  iapply (wp_load_any) $$ Va9
  iintro Va9
  iapply (wp_store_any) $$ Va9
  iintro V9
  rw [wp_ret]
  imodintro
  iapply Hk
  isplitl [O]; · iexact O
  isplitl [A2]; · iexact A2
  isplitl [A5]; · iexact A5
  isplitl [V6]; · iexact V6
  iexact V9

end Cert.KernelIdeal.Moe

end
-- ==== Proof.Body4.lean ====
/-
The last part of the body: the two gather rings.
-/
module

public import proofs.«01_k».proof.Proof.Steps
public import proofs.«01_k».proof.Proof.Tiles

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Fam F)

/-- Finished halves are sent. -/
theorem part20_run {Q : (Σ' (v593 : BitVec 32), BitVec 32) → sProp (MT nD τ sig Unit (Elt F) ℕ UU ℕ)} (K : GSem nD τ sig → ℕ) (c : Dev nD) (w2 w5 w7 w592 : BitVec 32) :
    iprop(ctx I K ∗ owing (F := F) c (tallies c [6, 9, 7, 10, 8, 11])
      ∗ toSend (F := F) 6 c
      ∗ sl (srcV 6) c (sval I 6 c)
      ∗ land (F := F) 6 (peer 6 c)
      ∗ toSend (F := F) 9 c
      ∗ sl (srcV 9) c (sval I 9 c)
      ∗ land (F := F) 9 (peer 9 c))
    ⊢ iprop((∀ w593 w595, (sent (F := F) 6 c
      ∗ owing (F := F) c (tallies c [7, 10, 8, 11])
      ∗ sent (F := F) 9 c) -∗ Q ⟨w593, w595⟩) -∗
      wp frame (wpE (defs₀ (F := F)) 𝒱₀ c none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w2 w5 w7 w592) Q) := by
  simp only [k0_part20_eq_skeleton]
  unfold k0_part20_skel
  simp only [semSignalWord, semWaitWord, Prog.lift, Prog.bind_op, Prog.bind_ret, Prog.pure_eq_ret, Prog.bind_assoc, wp_deviceId]
  iintro ⟨#Hc, HO, Ss6, V6, D6, Ss9, V9, D9⟩ Hk
  iapply (wp_send I K 6 c _ (Fin.ext (k0_dev9_eq c)) rfl rfl rfl rfl rfl [9, 7, 10, 8, 11]) $$ [HO Ss6 V6 D6]
  · isplitr; · iexact Hc
    isplitl [HO]; · iexact HO
    isplitl [Ss6]; · iexact Ss6
    isplitl [V6]; · iexact V6
    iexact D6
  iintro ⟨HO, Sw6⟩
  iapply (wp_send I K 9 c _ (Fin.ext (k0_dev10_eq c)) rfl rfl rfl rfl rfl [7, 10, 8, 11]) $$ [HO Ss9 V9 D9]
  · isplitr; · iexact Hc
    isplitl [HO]; · iexact HO
    isplitl [Ss9]; · iexact Ss9
    isplitl [V9]; · iexact V9
    iexact D9
  iintro ⟨HO, Sw9⟩
  rw [wp_ret]
  imodintro
  iapply Hk
  isplitl [Sw6]; · iexact Sw6
  isplitl [HO]; · iexact HO
  iexact Sw9

/-- Their departures and arrivals. -/
theorem part21_run {Q : PUnit → sProp (MT nD τ sig Unit (Elt F) ℕ UU ℕ)} (K : GSem nD τ sig → ℕ) (c : Dev nD) (w5 w7 : BitVec 32) :
    iprop(ctx I K ∗ owing (F := F) c (tallies c [7, 10, 8, 11])
      ∗ sent (F := F) 6 c
      ∗ toRecv (F := F) 6 c
      ∗ sent (F := F) 9 c
      ∗ toRecv (F := F) 9 c)
    ⊢ iprop(((sentDone (F := F) 6 c
      ∗ sl (srcV 6) c (sval I 6 c)
      ∗ recvDone (F := F) 6 c
      ∗ sl (dstV 6) c (sval I 6 (frm 6 c))
      ∗ sentDone (F := F) 9 c
      ∗ sl (srcV 9) c (sval I 9 c)
      ∗ owing (F := F) c (tallies c [7, 10, 8, 11])
      ∗ recvDone (F := F) 9 c
      ∗ sl (dstV 9) c (sval I 9 (frm 9 c))) -∗ Q ⟨⟩) -∗
      wp frame (wpE (defs₀ (F := F)) 𝒱₀ c none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 w5 w7) Q) := by
  simp only [k0_part21_eq_skeleton]
  unfold k0_part21_skel
  simp only [semSignalWord, semWaitWord, Prog.lift, Prog.bind_op, Prog.bind_ret, Prog.pure_eq_ret, Prog.bind_assoc, wp_deviceId]
  iintro ⟨#Hc, HO, Sw6, R6, Sw9, R9⟩ Hk
  iapply (wp_wait_sent I K 6 c [7, 10, 8, 11] rfl rfl) $$ [HO Sw6]
  · isplitr; · iexact Hc
    isplitl [HO]; · iexact HO
    iexact Sw6
  iintro ⟨HO, Sd6, V6⟩
  iapply (wp_wait_rcvd I K 6 c [7, 10, 8, 11] (by decide) rfl rfl) $$ [HO R6]
  · isplitr; · iexact Hc
    isplitl [HO]; · iexact HO
    iexact R6
  iintro ⟨HO, Rd6, A6⟩
  iapply (wp_wait_sent I K 9 c [7, 10, 8, 11] rfl rfl) $$ [HO Sw9]
  · isplitr; · iexact Hc
    isplitl [HO]; · iexact HO
    iexact Sw9
  iintro ⟨HO, Sd9, V9⟩
  iapply (wp_wait_rcvd I K 9 c [7, 10, 8, 11] (by decide) rfl rfl) $$ [HO R9]
  · isplitr; · iexact Hc
    isplitl [HO]; · iexact HO
    iexact R9
  iintro ⟨HO, Rd9, A9⟩
  rw [wp_ret]
  imodintro
  iapply Hk
  isplitl [Sd6]; · iexact Sd6
  isplitl [V6]; · iexact V6
  isplitl [Rd6]; · iexact Rd6
  isplitl [A6]; · iexact A6
  isplitl [Sd9]; · iexact Sd9
  isplitl [V9]; · iexact V9
  isplitl [HO]; · iexact HO
  isplitl [Rd9]; · iexact Rd9
  iexact A9

/-- The halves that arrived are put in place, and passed on. -/
theorem part22_run {Q : (Σ' (v658 : BitVec 32) (v660 : BitVec 32) (v671 : BitVec 32), BitVec 32) → sProp (MT nD τ sig Unit (Elt F) ℕ UU ℕ)} (K : GSem nD τ sig → ℕ) (c : Dev nD) (b : Fin 8 → Vec F S512x512 .f32) (w2 w5 w7 w593 w595 : BitVec 32) :
    iprop(ctx I K ∗ owing (F := F) c (tallies c [7, 10, 8, 11])
      ∗ sl (dstV 6) c (sval I 6 (frm 6 c))
      ∗ sl (dstV 9) c (sval I 9 (frm 9 c))
      ∗ outT c b
      ∗ toSend (F := F) 7 c
      ∗ land (F := F) 7 (peer 7 c))
    ⊢ iprop((∀ w658 w660 w671 w0, (sl (dstV 9) c (sval I 9 (frm 9 c))
      ∗ outT c (Function.update (Function.update b 0 (k0_pay41 (sval I 6 (lf c)))) 1 (k0_pay42 (sval I 9 (rt c))))
      ∗ owing (F := F) c (tallies c [10, 8, 11])
      ∗ sent (F := F) 7 c) -∗ Q ⟨w658, w660, w671, w0⟩) -∗
      wp frame (wpE (defs₀ (F := F)) 𝒱₀ c none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w2 w5 w7 w593 w595) Q) := by
  simp only [k0_part22_eq_skeleton]
  unfold k0_part22_skel
  simp only [semSignalWord, semWaitWord, Prog.lift, Prog.bind_op, Prog.bind_ret, Prog.pure_eq_ret, Prog.bind_assoc, wp_deviceId]
  iintro ⟨#Hc, HO, A6, A9, O, Ss7, D7⟩ Hk
  iapply (wp_load_sl) $$ A6
  iintro A6
  iapply (wp_out_any) $$ O
  iintro O
  iapply (wp_out_store (b := b) 0 ((k0_off6_eq c 0).trans (outOff_6_0 c))) $$ O
  iintro O
  ihave O : outT c (Function.update b 0 (k0_pay41 (sval I 6 (lf c)))) $$ [O]
  · iexact O
  iapply (wp_load_sl) $$ A9
  iintro A9
  iapply (wp_out_any) $$ O
  iintro O
  iapply (wp_out_store (b := (Function.update b 0 (k0_pay41 (sval I 6 (lf c))))) 1 ((k0_off8_eq c 0).trans (outOff_8_0 c))) $$ O
  iintro O
  ihave O : outT c (Function.update (Function.update b 0 (k0_pay41 (sval I 6 (lf c)))) 1 (k0_pay42 (sval I 9 (rt c)))) $$ [O]
  · iexact O
  ihave V7 := (Entails.of_eq (slot_7 I c)) $$ A6
  iapply (wp_send I K 7 c _ (Fin.ext (k0_dev11_eq c)) rfl rfl rfl rfl rfl [10, 8, 11]) $$ [HO Ss7 V7 D7]
  · isplitr; · iexact Hc
    isplitl [HO]; · iexact HO
    isplitl [Ss7]; · iexact Ss7
    isplitl [V7]; · iexact V7
    iexact D7
  iintro ⟨HO, Sw7⟩
  rw [wp_ret]
  imodintro
  iapply Hk
  isplitl [A9]; · iexact A9
  isplitl [O]; · iexact O
  isplitl [HO]; · iexact HO
  iexact Sw7

/-- The other half is passed on. -/
theorem part23_run {Q : PUnit → sProp (MT nD τ sig Unit (Elt F) ℕ UU ℕ)} (K : GSem nD τ sig → ℕ) (c : Dev nD) (w7 w671 w0 : BitVec 32) :
    iprop(ctx I K ∗ owing (F := F) c (tallies c [10, 8, 11])
      ∗ sl (dstV 9) c (sval I 9 (frm 9 c))
      ∗ toSend (F := F) 10 c
      ∗ land (F := F) 10 (peer 10 c)
      ∗ sent (F := F) 7 c
      ∗ toRecv (F := F) 7 c)
    ⊢ iprop(((sent (F := F) 10 c
      ∗ sentDone (F := F) 7 c
      ∗ sl (srcV 7) c (sval I 7 c)
      ∗ owing (F := F) c (tallies c [8, 11])
      ∗ recvDone (F := F) 7 c
      ∗ sl (dstV 7) c (sval I 7 (frm 7 c))) -∗ Q ⟨⟩) -∗
      wp frame (wpE (defs₀ (F := F)) 𝒱₀ c none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w7 w671 w0) Q) := by
  simp only [k0_part23_eq_skeleton]
  unfold k0_part23_skel
  simp only [semSignalWord, semWaitWord, Prog.lift, Prog.bind_op, Prog.bind_ret, Prog.pure_eq_ret, Prog.bind_assoc, wp_deviceId]
  iintro ⟨#Hc, HO, A9, Ss10, D10, Sw7, R7⟩ Hk
  ihave V10 := (Entails.of_eq (slot_10 I c)) $$ A9
  iapply (wp_send I K 10 c _ (Fin.ext (k0_dev12_eq c)) rfl rfl rfl rfl rfl [8, 11]) $$ [HO Ss10 V10 D10]
  · isplitr; · iexact Hc
    isplitl [HO]; · iexact HO
    isplitl [Ss10]; · iexact Ss10
    isplitl [V10]; · iexact V10
    iexact D10
  iintro ⟨HO, Sw10⟩
  iapply (wp_wait_sent I K 7 c [8, 11] rfl rfl) $$ [HO Sw7]
  · isplitr; · iexact Hc
    isplitl [HO]; · iexact HO
    iexact Sw7
  iintro ⟨HO, Sd7, V7⟩
  iapply (wp_wait_rcvd I K 7 c [8, 11] (by decide) rfl rfl) $$ [HO R7]
  · isplitr; · iexact Hc
    isplitl [HO]; · iexact HO
    iexact R7
  iintro ⟨HO, Rd7, A7⟩
  rw [wp_ret]
  imodintro
  iapply Hk
  isplitl [Sw10]; · iexact Sw10
  isplitl [Sd7]; · iexact Sd7
  isplitl [V7]; · iexact V7
  isplitl [HO]; · iexact HO
  isplitl [Rd7]; · iexact Rd7
  iexact A7

/-- The second arrivals are put in place. -/
theorem part24_run {Q : (Σ' (v723 : BitVec 32), BitVec 32) → sProp (MT nD τ sig Unit (Elt F) ℕ UU ℕ)} (K : GSem nD τ sig → ℕ) (c : Dev nD) (b : Fin 8 → Vec F S512x512 .f32) (w2 w5 w658 w660 : BitVec 32) :
    iprop(ctx I K ∗ owing (F := F) c (tallies c [8, 11])
      ∗ sent (F := F) 10 c
      ∗ toRecv (F := F) 10 c
      ∗ sl (dstV 7) c (sval I 7 (frm 7 c))
      ∗ outT c b)
    ⊢ iprop((∀ w723 w725, (sl (dstV 7) c (sval I 7 (frm 7 c))
      ∗ outT c (Function.update (Function.update b 6 (k0_pay43 (sval I 7 (lf c)))) 3 (k0_pay44 (sval I 10 (rt c))))
      ∗ sentDone (F := F) 10 c
      ∗ sl (srcV 10) c (sval I 10 c)
      ∗ owing (F := F) c (tallies c [8, 11])
      ∗ recvDone (F := F) 10 c
      ∗ sl (dstV 10) c (sval I 10 (frm 10 c))) -∗ Q ⟨w723, w725⟩) -∗
      wp frame (wpE (defs₀ (F := F)) 𝒱₀ c none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w2 w5 w658 w660) Q) := by
  simp only [k0_part24_eq_skeleton]
  unfold k0_part24_skel
  simp only [semSignalWord, semWaitWord, Prog.lift, Prog.bind_op, Prog.bind_ret, Prog.pure_eq_ret, Prog.bind_assoc, wp_deviceId]
  iintro ⟨#Hc, HO, Sw10, R10, A7, O⟩ Hk
  iapply (wp_wait_sent I K 10 c [8, 11] rfl rfl) $$ [HO Sw10]
  · isplitr; · iexact Hc
    isplitl [HO]; · iexact HO
    iexact Sw10
  iintro ⟨HO, Sd10, V10⟩
  iapply (wp_wait_rcvd I K 10 c [8, 11] (by decide) rfl rfl) $$ [HO R10]
  · isplitr; · iexact Hc
    isplitl [HO]; · iexact HO
    iexact R10
  iintro ⟨HO, Rd10, A10⟩
  iapply (wp_load_sl) $$ A7
  iintro A7
  iapply (wp_out_any) $$ O
  iintro O
  iapply (wp_out_store (b := b) 6 ((k0_off6_eq c 1).trans (outOff_6_1 c))) $$ O
  iintro O
  ihave O : outT c (Function.update b 6 (k0_pay43 (sval I 7 (lf c)))) $$ [O]
  · iexact O
  iapply (wp_load_sl) $$ A10
  iintro A10
  iapply (wp_out_any) $$ O
  iintro O
  iapply (wp_out_store (b := (Function.update b 6 (k0_pay43 (sval I 7 (lf c))))) 3 ((k0_off8_eq c 1).trans (outOff_8_1 c))) $$ O
  iintro O
  ihave O : outT c (Function.update (Function.update b 6 (k0_pay43 (sval I 7 (lf c)))) 3 (k0_pay44 (sval I 10 (rt c)))) $$ [O]
  · iexact O
  rw [wp_ret]
  imodintro
  iapply Hk
  isplitl [A7]; · iexact A7
  isplitl [O]; · iexact O
  isplitl [Sd10]; · iexact Sd10
  isplitl [V10]; · iexact V10
  isplitl [HO]; · iexact HO
  isplitl [Rd10]; · iexact Rd10
  iexact A10

/-- They are passed on. -/
theorem part25_run {Q : PUnit → sProp (MT nD τ sig Unit (Elt F) ℕ UU ℕ)} (K : GSem nD τ sig → ℕ) (c : Dev nD) (w5 w7 : BitVec 32) :
    iprop(ctx I K ∗ owing (F := F) c (tallies c [8, 11])
      ∗ sl (dstV 7) c (sval I 7 (frm 7 c))
      ∗ sl (dstV 10) c (sval I 10 (frm 10 c))
      ∗ toSend (F := F) 8 c
      ∗ land (F := F) 8 (peer 8 c)
      ∗ toSend (F := F) 11 c
      ∗ land (F := F) 11 (peer 11 c))
    ⊢ iprop(((sent (F := F) 11 c
      ∗ owing (F := F) c (tallies c [])
      ∗ sentDone (F := F) 8 c
      ∗ sl (srcV 8) c (sval I 8 c)) -∗ Q ⟨⟩) -∗
      wp frame (wpE (defs₀ (F := F)) 𝒱₀ c none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c w5 w7) Q) := by
  simp only [k0_part25_eq_skeleton]
  unfold k0_part25_skel
  simp only [semSignalWord, semWaitWord, Prog.lift, Prog.bind_op, Prog.bind_ret, Prog.pure_eq_ret, Prog.bind_assoc, wp_deviceId]
  iintro ⟨#Hc, HO, A7, A10, Ss8, D8, Ss11, D11⟩ Hk
  ihave V8 := (Entails.of_eq (slot_8 I c)) $$ A7
  iapply (wp_send I K 8 c _ (Fin.ext (k0_dev13_eq c)) rfl rfl rfl rfl rfl [11]) $$ [HO Ss8 V8 D8]
  · isplitr; · iexact Hc
    isplitl [HO]; · iexact HO
    isplitl [Ss8]; · iexact Ss8
    isplitl [V8]; · iexact V8
    iexact D8
  iintro ⟨HO, Sw8⟩
  ihave V11 := (Entails.of_eq (slot_11 I c)) $$ A10
  iapply (wp_send I K 11 c _ (Fin.ext (k0_dev14_eq c)) rfl rfl rfl rfl rfl []) $$ [HO Ss11 V11 D11]
  · isplitr; · iexact Hc
    isplitl [HO]; · iexact HO
    isplitl [Ss11]; · iexact Ss11
    isplitl [V11]; · iexact V11
    iexact D11
  iintro ⟨HO, Sw11⟩
  iapply (wp_wait_sent I K 8 c [] rfl rfl) $$ [HO Sw8]
  · isplitr; · iexact Hc
    isplitl [HO]; · iexact HO
    iexact Sw8
  iintro ⟨HO, Sd8, V8⟩
  rw [wp_ret]
  imodintro
  iapply Hk
  isplitl [Sw11]; · iexact Sw11
  isplitl [HO]; · iexact HO
  isplitl [Sd8]; · iexact Sd8
  iexact V8

/-- The last arrivals. -/
theorem part26_run {Q : (FVec F S512x512 .f32) → sProp (MT nD τ sig Unit (Elt F) ℕ UU ℕ)} (K : GSem nD τ sig → ℕ) (c : Dev nD) (w5 w7 w723 : BitVec 32) :
    iprop(ctx I K ∗ owing (F := F) c (tallies c [])
      ∗ toRecv (F := F) 8 c
      ∗ sent (F := F) 11 c
      ∗ toRecv (F := F) 11 c)
    ⊢ iprop(((recvDone (F := F) 8 c
      ∗ sl (dstV 8) c (sval I 8 (frm 8 c))
      ∗ sentDone (F := F) 11 c
      ∗ sl (srcV 11) c (sval I 11 c)
      ∗ owing (F := F) c (tallies c [])
      ∗ recvDone (F := F) 11 c
      ∗ sl (dstV 11) c (sval I 11 (frm 11 c))) -∗ Q (k0_pay45 (sval I 8 (lf c)))) -∗
      wp frame (wpE (defs₀ (F := F)) 𝒱₀ c none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 w5 w7 w723) Q) := by
  simp only [k0_part26_eq_skeleton]
  unfold k0_part26_skel
  simp only [semSignalWord, semWaitWord, Prog.lift, Prog.bind_op, Prog.bind_ret, Prog.pure_eq_ret, Prog.bind_assoc, wp_deviceId]
  iintro ⟨#Hc, HO, R8, Sw11, R11⟩ Hk
  iapply (wp_wait_rcvd I K 8 c [] (by decide) rfl rfl) $$ [HO R8]
  · isplitr; · iexact Hc
    isplitl [HO]; · iexact HO
    iexact R8
  iintro ⟨HO, Rd8, A8⟩
  iapply (wp_wait_sent I K 11 c [] rfl rfl) $$ [HO Sw11]
  · isplitr; · iexact Hc
    isplitl [HO]; · iexact HO
    iexact Sw11
  iintro ⟨HO, Sd11, V11⟩
  iapply (wp_wait_rcvd I K 11 c [] (by decide) rfl rfl) $$ [HO R11]
  · isplitr; · iexact Hc
    isplitl [HO]; · iexact HO
    iexact R11
  iintro ⟨HO, Rd11, A11⟩
  iapply (wp_load_sl) $$ A8
  iintro A8
  have hx : k0_pay45 (sval I 8 (frm 8 c)) = k0_pay45 (sval I 8 (lf c)) := rfl
  rw [hx]
  rw [wp_ret]
  imodintro
  iapply Hk
  isplitl [Rd8]; · iexact Rd8
  isplitl [A8]; · iexact A8
  isplitl [Sd11]; · iexact Sd11
  isplitl [V11]; · iexact V11
  isplitl [HO]; · iexact HO
  isplitl [Rd11]; · iexact Rd11
  iexact A11

end Cert.KernelIdeal.Moe

end
-- ==== Proof.Body.lean ====
/-
The whole body of the kernel on one device, at a symbolic device: from what the device is given to what it leaves.
-/
module

public import proofs.«01_k».proof.Proof.Body1
public import proofs.«01_k».proof.Proof.Body2
public import proofs.«01_k».proof.Proof.Body3
public import proofs.«01_k».proof.Proof.Body4

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Fam F)

/-- The stores into the output, one after the other, leave the eight half chunks at their final values. -/
theorem final_tiles (c : Dev nD) (b : Fin 8 → Vec F S512x512 .f32) :
    (Function.update (Function.update ((Function.update (Function.update ((Function.update (Function.update ((Function.update (Function.update ((Function.update (Function.update ((Function.update (Function.update ((Function.update (Function.update ((Function.update (Function.update ((Function.update (Function.update ((Function.update (Function.update b 0 (half 0 (own0 I c))) 1 (half 1 (own0 I c)))) 6 (own1R I c)) 3 (own1L I c))) 6 (acc1R I c)) 3 (acc1L I c))) 4 (half 0 (own2 I c))) 5 (half 1 (own2 I c)))) 4 (acc2R I c)) 5 (acc2L I c))) 2 (own3R I c)) 7 (own3L I c))) 2 (acc3R I c)) 7 (acc3L I c))) 0 (k0_pay41 (sval I 6 (lf c)))) 1 (k0_pay42 (sval I 9 (rt c))))) 6 (k0_pay43 (sval I 7 (lf c)))) 3 (k0_pay44 (sval I 10 (rt c))))) 4 (k0_pay45 (sval I 8 (lf c)))) 5 (k0_pay1 (sval I 11 (rt c)))) = outB I c := by
  funext i
  fin_cases i <;> rfl

/-- What the body is entered with. -/
def bodyIn (c : Dev nD) (b : Fin 8 → Vec F S512x512 .f32) (y : Fin 8 → FVec F S128x1024 .bf16) : sProp 𝕄 :=
  iprop(owing (F := F) c (O₀ c)
      ∗ dutyTok ER (barCell (lf c)) 0 false
      ∗ reached ER (barCell (lf c)) 0
      ∗ dutyTok ER (barCell (rt c)) 0 true
      ∗ reached ER (barCell (rt c)) 0
      ∗ landR (F := F) c
      ∗ landL (F := F) c
      ∗ cred (tallyAt (barCell c) () 2)
      ∗ atPos ER (barCell c) 0 ∅ 0
      ∗ inp xM c (I c).x
      ∗ inp crowM c (I c).crow
      ∗ inp colM c (I c).col
      ∗ inp pwM c (I c).pw
      ∗ inp swM c (I c).sw
      ∗ ewPt I 0 c
      ∗ ewPt I 1 c
      ∗ ewPt I 2 c
      ∗ ewPt I 3 c
      ∗ ewPt I 4 c
      ∗ ewPt I 5 c
      ∗ ewPt I 6 c
      ∗ ewPt I 7 c
      ∗ slAny (wbV 0) c
      ∗ slAny (wbV 1) c
      ∗ atPos ER (locCell 0 c) 0 ∅ 0
      ∗ atPos ER (locCell 1 c) 0 ∅ 0
      ∗ reached ER (locCell 0 c) 0
      ∗ reached ER (locCell 1 c) 0
      ∗ dutyTok ER (locCell 0 c) 0 true
      ∗ dutyTok ER (locCell 1 c) 0 true
      ∗ dutyTok ER (locCell 0 c) 1 true
      ∗ dutyTok ER (locCell 1 c) 1 true
      ∗ dutyTok ER (locCell 0 c) 2 true
      ∗ dutyTok ER (locCell 1 c) 2 true
      ∗ dutyTok ER (locCell 0 c) 3 true
      ∗ dutyTok ER (locCell 1 c) 3 true
      ∗ ysT c y
      ∗ outT c b
      ∗ toSend (F := F) 0 c
      ∗ toSend (F := F) 1 c
      ∗ toSend (F := F) 2 c
      ∗ toSend (F := F) 3 c
      ∗ toSend (F := F) 4 c
      ∗ toSend (F := F) 5 c
      ∗ toSend (F := F) 6 c
      ∗ toSend (F := F) 7 c
      ∗ toSend (F := F) 8 c
      ∗ toSend (F := F) 9 c
      ∗ toSend (F := F) 10 c
      ∗ toSend (F := F) 11 c
      ∗ toRecv (F := F) 0 c
      ∗ toRecv (F := F) 1 c
      ∗ toRecv (F := F) 2 c
      ∗ toRecv (F := F) 3 c
      ∗ toRecv (F := F) 4 c
      ∗ toRecv (F := F) 5 c
      ∗ toRecv (F := F) 6 c
      ∗ toRecv (F := F) 7 c
      ∗ toRecv (F := F) 8 c
      ∗ toRecv (F := F) 9 c
      ∗ toRecv (F := F) 10 c
      ∗ toRecv (F := F) 11 c
      ∗ slAny (srcV 0) c
      ∗ slAny (srcV 1) c
      ∗ slAny (srcV 2) c
      ∗ slAny (srcV 3) c
      ∗ slAny (srcV 4) c
      ∗ slAny (srcV 5) c
      ∗ slAny (srcV 6) c
      ∗ slAny (srcV 9) c)

/-- What the body leaves: the output at its final values, the operands as they were, every counter past its last round, all slots back. -/
def bodyOut (c : Dev nD) : sProp 𝕄 :=
  iprop(inp crowM c (I c).crow
      ∗ atPos ER (barCell c) 1 ∅ 0
      ∗ ewPt I 0 c
      ∗ ewPt I 1 c
      ∗ ewPt I 2 c
      ∗ ewPt I 3 c
      ∗ ewPt I 4 c
      ∗ ewPt I 5 c
      ∗ atPos ER (locCell 0 c) 4 ∅ 0
      ∗ ewPt I 6 c
      ∗ ysT c (ysB (I c))
      ∗ slAny (wbV 0) c
      ∗ atPos ER (locCell 1 c) 4 ∅ 0
      ∗ ewPt I 7 c
      ∗ slAny (wbV 1) c
      ∗ inp xM c (I c).x
      ∗ inp swM c (I c).sw
      ∗ sentDone (F := F) 0 c
      ∗ sl (srcV 0) c (sval I 0 c)
      ∗ recvDone (F := F) 0 c
      ∗ sl (dstV 0) c (sval I 0 (frm 0 c))
      ∗ sentDone (F := F) 3 c
      ∗ sl (srcV 3) c (sval I 3 c)
      ∗ recvDone (F := F) 3 c
      ∗ sl (dstV 3) c (sval I 3 (frm 3 c))
      ∗ sentDone (F := F) 1 c
      ∗ sl (srcV 1) c (sval I 1 c)
      ∗ recvDone (F := F) 1 c
      ∗ sentDone (F := F) 4 c
      ∗ sl (srcV 4) c (sval I 4 c)
      ∗ sl (dstV 1) c (sval I 1 (frm 1 c))
      ∗ recvDone (F := F) 4 c
      ∗ sl (dstV 4) c (sval I 4 (frm 4 c))
      ∗ inp pwM c (I c).pw
      ∗ inp colM c (I c).col
      ∗ sentDone (F := F) 2 c
      ∗ sl (srcV 2) c (sval I 2 c)
      ∗ recvDone (F := F) 2 c
      ∗ sentDone (F := F) 5 c
      ∗ sl (srcV 5) c (sval I 5 c)
      ∗ recvDone (F := F) 5 c
      ∗ sl (dstV 2) c (sval I 2 (frm 2 c))
      ∗ sl (dstV 5) c (sval I 5 (frm 5 c))
      ∗ sentDone (F := F) 6 c
      ∗ sl (srcV 6) c (sval I 6 c)
      ∗ recvDone (F := F) 6 c
      ∗ sentDone (F := F) 9 c
      ∗ sl (srcV 9) c (sval I 9 c)
      ∗ recvDone (F := F) 9 c
      ∗ sentDone (F := F) 7 c
      ∗ sl (srcV 7) c (sval I 7 c)
      ∗ recvDone (F := F) 7 c
      ∗ outT c (outB I c)
      ∗ sentDone (F := F) 10 c
      ∗ sl (srcV 10) c (sval I 10 c)
      ∗ recvDone (F := F) 10 c
      ∗ sentDone (F := F) 8 c
      ∗ sl (srcV 8) c (sval I 8 c)
      ∗ recvDone (F := F) 8 c
      ∗ sl (dstV 8) c (sval I 8 (frm 8 c))
      ∗ sentDone (F := F) 11 c
      ∗ sl (srcV 11) c (sval I 11 c)
      ∗ owing (F := F) c (tallies c [])
      ∗ recvDone (F := F) 11 c
      ∗ sl (dstV 11) c (sval I 11 (frm 11 c)))

set_option maxHeartbeats 4000000 in
/-- The body takes `bodyIn` to `bodyOut`. -/
theorem body_run (K : GSem nD τ sig → ℕ) (c : Dev nD) (b : Fin 8 → Vec F S512x512 .f32) (y : Fin 8 → FVec F S128x1024 .bf16) (Kt : PUnit → sProp (MT nD τ sig Unit (Elt F) ℕ UU ℕ)) :
    iprop(ctx I K ∗ bodyIn I c b y ∗ (bodyOut I c -∗ Kt ⟨⟩))
      ⊢ wp frame (wpE (defs₀ (F := F)) 𝒱₀ c none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) Kt := by
  rw [cc0_body_eq_skeleton]
  unfold cc0_body_skel bodyIn bodyOut
  iintro ⟨#Hc, ⟨HO, BL, #RBL, BR, #RBR, LR, LL, CB, PB, X, CROW, COL, PW, SW, E0, E1, E2, E3, E4, E5, E6, E7, Wa0, Wa1, P0_0, P1_0, #Rl0_0, #Rl1_0, T0_0, T1_0, T0_1, T1_1, T0_2, T1_2, T0_3, T1_3, Y, O, Ss0, Ss1, Ss2, Ss3, Ss4, Ss5, Ss6, Ss7, Ss8, Ss9, Ss10, Ss11, R0, R1, R2, R3, R4, R5, R6, R7, R8, R9, R10, R11, Va0, Va1, Va2, Va3, Va4, Va5, Va6, Va9⟩, Hk⟩
  -- part 1
  rw [wp_bind]
  iapply (part1_run I K c) $$ [HO X CROW E0 Wa0 T0_0 BL BR LR LL CB PB]
  · isplitr; · iexact Hc
    isplitl [HO]; · iexact HO
    isplitl [X]; · iexact X
    isplitl [CROW]; · iexact CROW
    isplitl [E0]; · iexact E0
    isplitl [Wa0]; · iexact Wa0
    isplitl [T0_0]; · iexact T0_0
    isplitr; · iexact Rl0_0
    isplitl [BL]; · iexact BL
    isplitr; · iexact RBL
    isplitl [BR]; · iexact BR
    isplitr; · iexact RBR
    isplitl [LR]; · iexact LR
    isplitl [LL]; · iexact LL
    isplitl [CB]; · iexact CB
    iexact PB
  iintro %w2 %w5 %w7 ⟨HO, X, CROW, #Rl0_0, Cl0, PB, LL, LR⟩
  unfold landL landR
  icases LL with ⟨D3, D4, D5, D9, D10, D11⟩
  icases LR with ⟨D0, D1, D2, D6, D7, D8⟩
  -- part 2
  rw [wp_bind]
  iapply (part2_run I K c y) $$ [HO E1 Wa1 T1_0 Cl0 P0_0 Y]
  · isplitr; · iexact Hc
    isplitl [HO]; · iexact HO
    isplitl [E1]; · iexact E1
    isplitl [Wa1]; · iexact Wa1
    isplitl [T1_0]; · iexact T1_0
    isplitr; · iexact Rl1_0
    isplitl [Cl0]; · iexact Cl0
    isplitl [P0_0]; · iexact P0_0
    iexact Y
  iintro ⟨#Rl1_0, Y, Cl1, HO, P0_1, #Rl0_1, E0, Wa0⟩
  -- part 3
  rw [wp_bind]
  iapply (part3_run I K c ((Function.update y 0 (ysB (I c) 0)))) $$ [HO E2 Wa0 T0_1 Cl1 P1_0 Y E3 T1_1 P0_1]
  · isplitr; · iexact Hc
    isplitl [HO]; · iexact HO
    isplitl [E2]; · iexact E2
    isplitl [Wa0]; · iexact Wa0
    isplitl [T0_1]; · iexact T0_1
    isplitr; · iexact Rl0_1
    isplitl [Cl1]; · iexact Cl1
    isplitl [P1_0]; · iexact P1_0
    isplitl [Y]; · iexact Y
    isplitl [E3]; · iexact E3
    isplitl [T1_1]; · iexact T1_1
    iexact P0_1
  iintro ⟨#Rl0_1, Y, P1_1, #Rl1_1, E1, Cl1, HO, P0_2, #Rl0_2, W0_2, E2⟩
  -- part 4
  rw [wp_bind]
  iapply (part4_run I K c ((Function.update ((Function.update y 0 (ysB (I c) 0))) 1 (ysB (I c) 1)))) $$ [HO W0_2 Y E4 T0_2 Cl1 P1_1]
  · isplitr; · iexact Hc
    isplitl [HO]; · iexact HO
    isplitl [W0_2]; · iexact W0_2
    isplitl [Y]; · iexact Y
    isplitl [E4]; · iexact E4
    isplitl [T0_2]; · iexact T0_2
    isplitr; · iexact Rl0_2
    isplitl [Cl1]; · iexact Cl1
    iexact P1_1
  iintro ⟨Y, #Rl0_2, Cl0, HO, P1_2, #Rl1_2, E3, Wa1⟩
  -- part 5
  rw [wp_bind]
  iapply (part5_run I K c ((Function.update (Function.update ((Function.update ((Function.update y 0 (ysB (I c) 0))) 1 (ysB (I c) 1))) 2 (ysB (I c) 2)) 3 (ysB (I c) 3)))) $$ [HO E5 Wa1 T1_2 Cl0 P0_2 Y E6 T0_3]
  · isplitr; · iexact Hc
    isplitl [HO]; · iexact HO
    isplitl [E5]; · iexact E5
    isplitl [Wa1]; · iexact Wa1
    isplitl [T1_2]; · iexact T1_2
    isplitr; · iexact Rl1_2
    isplitl [Cl0]; · iexact Cl0
    isplitl [P0_2]; · iexact P0_2
    isplitl [Y]; · iexact Y
    isplitl [E6]; · iexact E6
    iexact T0_3
  iintro ⟨#Rl1_2, Y, Cl1, HO, P0_3, #Rl0_3, E4, Cl0⟩
  -- part 6
  rw [wp_bind]
  iapply (part6_run I K c ((Function.update ((Function.update (Function.update ((Function.update ((Function.update y 0 (ysB (I c) 0))) 1 (ysB (I c) 1))) 2 (ysB (I c) 2)) 3 (ysB (I c) 3))) 4 (ysB (I c) 4)))) $$ [HO Cl1 P1_2 Y E7 T1_3 Cl0 P0_3]
  · isplitr; · iexact Hc
    isplitl [HO]; · iexact HO
    isplitl [Cl1]; · iexact Cl1
    isplitl [P1_2]; · iexact P1_2
    isplitl [Y]; · iexact Y
    isplitl [E7]; · iexact E7
    isplitl [T1_3]; · iexact T1_3
    isplitl [Cl0]; · iexact Cl0
    iexact P0_3
  iintro ⟨Y, P1_3, #Rl1_3, E5, Cl1, HO, P0_4, #Rl0_4, W0_6, E6⟩
  -- part 7
  rw [wp_bind]
  iapply (part7_run I K c ((Function.update ((Function.update ((Function.update (Function.update ((Function.update ((Function.update y 0 (ysB (I c) 0))) 1 (ysB (I c) 1))) 2 (ysB (I c) 2)) 3 (ysB (I c) 3))) 4 (ysB (I c) 4))) 5 (ysB (I c) 5))) _) $$ [HO W0_6 Y Cl1 P1_3]
  · isplitr; · iexact Hc
    isplitl [HO]; · iexact HO
    isplitl [W0_6]; · iexact W0_6
    isplitl [Y]; · iexact Y
    isplitl [Cl1]; · iexact Cl1
    iexact P1_3
  iintro %w197 %w199 %w201 %w0 ⟨Y, Wa0, HO, P1_4, #Rl1_4, E7, Wa1⟩
  -- part 8
  rw [wp_bind]
  rw [update_eight y (ysB (I c)), show glue (ysB (I c)) = ysAll (I c) from rfl]
  iapply (part8_run I K c b _ _) $$ [X COL PW SW O Va0]
  · isplitr; · iexact Hc
    isplitl [X]; · iexact X
    isplitl [COL]; · iexact COL
    isplitl [PW]; · iexact PW
    isplitl [SW]; · iexact SW
    isplitl [O]; · iexact O
    iexact Va0
  iintro ⟨X, COL, PW, SW, O, V0⟩
  -- part 9
  rw [wp_bind]
  iapply (part9_run I K c _ _ _) $$ [HO Va3 Ss0 V0 D0 Ss3 D3 COL PW]
  · isplitr; · iexact Hc
    isplitl [HO]; · iexact HO
    isplitl [Va3]; · iexact Va3
    isplitl [Ss0]; · iexact Ss0
    isplitl [V0]; · iexact V0
    isplitl [D0]; · iexact D0
    isplitl [Ss3]; · iexact Ss3
    isplitl [D3]; · iexact D3
    isplitl [COL]; · iexact COL
    iexact PW
  iintro %w265 ⟨COL, PW, Sw0, HO, Sw3⟩
  -- part 10
  rw [wp_bind]
  iapply (part10_run I K c ((Function.update (Function.update b 0 (half 0 (own0 I c))) 1 (half 1 (own0 I c)))) _ _) $$ [HO O COL PW Sw0]
  · isplitr; · iexact Hc
    isplitl [HO]; · iexact HO
    isplitl [O]; · iexact O
    isplitl [COL]; · iexact COL
    isplitl [PW]; · iexact PW
    iexact Sw0
  iintro ⟨O, COL, PW, HO, Sd0, V0⟩
  -- part 11
  rw [wp_bind]
  iapply (part11_run I K c ((Function.update (Function.update ((Function.update (Function.update b 0 (half 0 (own0 I c))) 1 (half 1 (own0 I c)))) 6 (own1R I c)) 3 (own1L I c))) (by rfl) _ _ _ _) $$ [HO R0 Sw3 R3 O]
  · isplitr; · iexact Hc
    isplitl [HO]; · iexact HO
    isplitl [R0]; · iexact R0
    isplitl [Sw3]; · iexact Sw3
    isplitl [R3]; · iexact R3
    iexact O
  iintro %w331 ⟨O, Rd0, A0, Sd3, V3, HO, Rd3, A3⟩
  -- part 12
  rw [wp_bind]
  iapply (part12_run I K c ((Function.update (Function.update ((Function.update (Function.update b 0 (half 0 (own0 I c))) 1 (half 1 (own0 I c)))) 6 (own1R I c)) 3 (own1L I c))) (by rfl) _ _ _ _) $$ [O A3 Va1 Va4]
  · isplitr; · iexact Hc
    isplitl [O]; · iexact O
    isplitl [A3]; · iexact A3
    isplitl [Va1]; · iexact Va1
    iexact Va4
  iintro ⟨O, A3, V1, V4⟩
  -- part 13
  rw [wp_bind]
  iapply (part13_run I K c ((Function.update (Function.update ((Function.update (Function.update ((Function.update (Function.update b 0 (half 0 (own0 I c))) 1 (half 1 (own0 I c)))) 6 (own1R I c)) 3 (own1L I c))) 6 (acc1R I c)) 3 (acc1L I c))) _ _) $$ [HO Ss1 V1 D1 Ss4 V4 D4 COL PW O]
  · isplitr; · iexact Hc
    isplitl [HO]; · iexact HO
    isplitl [Ss1]; · iexact Ss1
    isplitl [V1]; · iexact V1
    isplitl [D1]; · iexact D1
    isplitl [Ss4]; · iexact Ss4
    isplitl [V4]; · iexact V4
    isplitl [D4]; · iexact D4
    isplitl [COL]; · iexact COL
    isplitl [PW]; · iexact PW
    iexact O
  iintro ⟨COL, PW, O, Sw1, HO, Sw4⟩
  -- part 14
  rw [wp_bind]
  iapply (part14_run I K c _ _) $$ [HO Sw1 R1 Sw4]
  · isplitr; · iexact Hc
    isplitl [HO]; · iexact HO
    isplitl [Sw1]; · iexact Sw1
    isplitl [R1]; · iexact R1
    iexact Sw4
  iintro ⟨Sd1, V1, Rd1, A1, HO, Sd4, V4⟩
  -- part 15
  rw [wp_bind]
  iapply (part15_run I K c ((Function.update (Function.update ((Function.update (Function.update ((Function.update (Function.update ((Function.update (Function.update b 0 (half 0 (own0 I c))) 1 (half 1 (own0 I c)))) 6 (own1R I c)) 3 (own1L I c))) 6 (acc1R I c)) 3 (acc1L I c))) 4 (half 0 (own2 I c))) 5 (half 1 (own2 I c)))) (by rfl) (by rfl) _) $$ [HO R4 O A1 Va2]
  · isplitr; · iexact Hc
    isplitl [HO]; · iexact HO
    isplitl [R4]; · iexact R4
    isplitl [O]; · iexact O
    isplitl [A1]; · iexact A1
    iexact Va2
  iintro ⟨O, A1, HO, Rd4, A4, V2⟩
  -- part 16
  rw [wp_bind]
  iapply (part16_run I K c ((Function.update (Function.update ((Function.update (Function.update ((Function.update (Function.update ((Function.update (Function.update ((Function.update (Function.update b 0 (half 0 (own0 I c))) 1 (half 1 (own0 I c)))) 6 (own1R I c)) 3 (own1L I c))) 6 (acc1R I c)) 3 (acc1L I c))) 4 (half 0 (own2 I c))) 5 (half 1 (own2 I c)))) 4 (acc2R I c)) 5 (acc2L I c))) (by rfl) _ _ _) $$ [HO O Va5 Ss2 V2 D2 Ss5 D5 COL]
  · isplitr; · iexact Hc
    isplitl [HO]; · iexact HO
    isplitl [O]; · iexact O
    isplitl [Va5]; · iexact Va5
    isplitl [Ss2]; · iexact Ss2
    isplitl [V2]; · iexact V2
    isplitl [D2]; · iexact D2
    isplitl [Ss5]; · iexact Ss5
    isplitl [D5]; · iexact D5
    iexact COL
  iintro %w489 ⟨O, COL, Sw2, HO, Sw5⟩
  -- part 17
  rw [wp_bind]
  iapply (part17_run I K c ((Function.update (Function.update ((Function.update (Function.update ((Function.update (Function.update ((Function.update (Function.update ((Function.update (Function.update b 0 (half 0 (own0 I c))) 1 (half 1 (own0 I c)))) 6 (own1R I c)) 3 (own1L I c))) 6 (acc1R I c)) 3 (acc1L I c))) 4 (half 0 (own2 I c))) 5 (half 1 (own2 I c)))) 4 (acc2R I c)) 5 (acc2L I c))) _ _) $$ [HO PW O COL Sw2]
  · isplitr; · iexact Hc
    isplitl [HO]; · iexact HO
    isplitl [PW]; · iexact PW
    isplitl [O]; · iexact O
    isplitl [COL]; · iexact COL
    iexact Sw2
  iintro ⟨PW, O, COL, HO, Sd2, V2⟩
  -- part 18
  rw [wp_bind]
  iapply (part18_run I K c ((Function.update (Function.update ((Function.update (Function.update ((Function.update (Function.update ((Function.update (Function.update ((Function.update (Function.update ((Function.update (Function.update b 0 (half 0 (own0 I c))) 1 (half 1 (own0 I c)))) 6 (own1R I c)) 3 (own1L I c))) 6 (acc1R I c)) 3 (acc1L I c))) 4 (half 0 (own2 I c))) 5 (half 1 (own2 I c)))) 4 (acc2R I c)) 5 (acc2L I c))) 2 (own3R I c)) 7 (own3L I c))) (by rfl) _ _ _) $$ [HO R2 Sw5 R5 O]
  · isplitr; · iexact Hc
    isplitl [HO]; · iexact HO
    isplitl [R2]; · iexact R2
    isplitl [Sw5]; · iexact Sw5
    isplitl [R5]; · iexact R5
    iexact O
  iintro %w555 ⟨O, Rd2, A2, Sd5, V5, HO, Rd5, A5⟩
  -- part 19
  rw [wp_bind]
  iapply (part19_run I K c ((Function.update (Function.update ((Function.update (Function.update ((Function.update (Function.update ((Function.update (Function.update ((Function.update (Function.update ((Function.update (Function.update b 0 (half 0 (own0 I c))) 1 (half 1 (own0 I c)))) 6 (own1R I c)) 3 (own1L I c))) 6 (acc1R I c)) 3 (acc1L I c))) 4 (half 0 (own2 I c))) 5 (half 1 (own2 I c)))) 4 (acc2R I c)) 5 (acc2L I c))) 2 (own3R I c)) 7 (own3L I c))) (by rfl) _ _ _ _) $$ [O A2 A5 Va6 Va9]
  · isplitr; · iexact Hc
    isplitl [O]; · iexact O
    isplitl [A2]; · iexact A2
    isplitl [A5]; · iexact A5
    isplitl [Va6]; · iexact Va6
    iexact Va9
  iintro %w592 ⟨O, A2, A5, V6, V9⟩
  -- part 20
  rw [wp_bind]
  iapply (part20_run I K c _ _ _ _) $$ [HO Ss6 V6 D6 Ss9 V9 D9]
  · isplitr; · iexact Hc
    isplitl [HO]; · iexact HO
    isplitl [Ss6]; · iexact Ss6
    isplitl [V6]; · iexact V6
    isplitl [D6]; · iexact D6
    isplitl [Ss9]; · iexact Ss9
    isplitl [V9]; · iexact V9
    iexact D9
  iintro %w593 %w595 ⟨Sw6, HO, Sw9⟩
  -- part 21
  rw [wp_bind]
  iapply (part21_run I K c _ _) $$ [HO Sw6 R6 Sw9 R9]
  · isplitr; · iexact Hc
    isplitl [HO]; · iexact HO
    isplitl [Sw6]; · iexact Sw6
    isplitl [R6]; · iexact R6
    isplitl [Sw9]; · iexact Sw9
    iexact R9
  iintro ⟨Sd6, V6, Rd6, A6, Sd9, V9, HO, Rd9, A9⟩
  -- part 22
  rw [wp_bind]
  iapply (part22_run I K c ((Function.update (Function.update ((Function.update (Function.update ((Function.update (Function.update ((Function.update (Function.update ((Function.update (Function.update ((Function.update (Function.update ((Function.update (Function.update b 0 (half 0 (own0 I c))) 1 (half 1 (own0 I c)))) 6 (own1R I c)) 3 (own1L I c))) 6 (acc1R I c)) 3 (acc1L I c))) 4 (half 0 (own2 I c))) 5 (half 1 (own2 I c)))) 4 (acc2R I c)) 5 (acc2L I c))) 2 (own3R I c)) 7 (own3L I c))) 2 (acc3R I c)) 7 (acc3L I c))) _ _ _ _ _) $$ [HO A6 A9 O Ss7 D7]
  · isplitr; · iexact Hc
    isplitl [HO]; · iexact HO
    isplitl [A6]; · iexact A6
    isplitl [A9]; · iexact A9
    isplitl [O]; · iexact O
    isplitl [Ss7]; · iexact Ss7
    iexact D7
  iintro %w658 %w660 %w671 %w0 ⟨A9, O, HO, Sw7⟩
  -- part 23
  rw [wp_bind]
  iapply (part23_run I K c _ _ _) $$ [HO A9 Ss10 D10 Sw7 R7]
  · isplitr; · iexact Hc
    isplitl [HO]; · iexact HO
    isplitl [A9]; · iexact A9
    isplitl [Ss10]; · iexact Ss10
    isplitl [D10]; · iexact D10
    isplitl [Sw7]; · iexact Sw7
    iexact R7
  iintro ⟨Sw10, Sd7, V7, HO, Rd7, A7⟩
  -- part 24
  rw [wp_bind]
  iapply (part24_run I K c ((Function.update (Function.update ((Function.update (Function.update ((Function.update (Function.update ((Function.update (Function.update ((Function.update (Function.update ((Function.update (Function.update ((Function.update (Function.update ((Function.update (Function.update b 0 (half 0 (own0 I c))) 1 (half 1 (own0 I c)))) 6 (own1R I c)) 3 (own1L I c))) 6 (acc1R I c)) 3 (acc1L I c))) 4 (half 0 (own2 I c))) 5 (half 1 (own2 I c)))) 4 (acc2R I c)) 5 (acc2L I c))) 2 (own3R I c)) 7 (own3L I c))) 2 (acc3R I c)) 7 (acc3L I c))) 0 (k0_pay41 (sval I 6 (lf c)))) 1 (k0_pay42 (sval I 9 (rt c))))) _ _ _ _) $$ [HO Sw10 R10 A7 O]
  · isplitr; · iexact Hc
    isplitl [HO]; · iexact HO
    isplitl [Sw10]; · iexact Sw10
    isplitl [R10]; · iexact R10
    isplitl [A7]; · iexact A7
    iexact O
  iintro %w723 %w725 ⟨A7, O, Sd10, V10, HO, Rd10, A10⟩
  -- part 25
  rw [wp_bind]
  iapply (part25_run I K c _ _) $$ [HO A7 A10 Ss8 D8 Ss11 D11]
  · isplitr; · iexact Hc
    isplitl [HO]; · iexact HO
    isplitl [A7]; · iexact A7
    isplitl [A10]; · iexact A10
    isplitl [Ss8]; · iexact Ss8
    isplitl [D8]; · iexact D8
    isplitl [Ss11]; · iexact Ss11
    iexact D11
  iintro ⟨Sw11, HO, Sd8, V8⟩
  -- part 26
  rw [wp_bind]
  iapply (part26_run I K c _ _ _) $$ [HO R8 Sw11 R11]
  · isplitr; · iexact Hc
    isplitl [HO]; · iexact HO
    isplitl [R8]; · iexact R8
    isplitl [Sw11]; · iexact Sw11
    iexact R11
  iintro ⟨Rd8, A8, Sd11, V11, HO, Rd11, A11⟩
  ihave Y : ysT c (ysB (I c)) $$ [Y]
  · rw [← update_eight y (ysB (I c))]; iexact Y
  simp only [Prog.lift, Prog.bind_op, Prog.bind_ret, Prog.pure_eq_ret]
  iapply (wp_out_any) $$ O
  iintro O
  iapply (wp_out_store (b := ((Function.update (Function.update ((Function.update (Function.update ((Function.update (Function.update ((Function.update (Function.update ((Function.update (Function.update ((Function.update (Function.update ((Function.update (Function.update ((Function.update (Function.update ((Function.update (Function.update b 0 (half 0 (own0 I c))) 1 (half 1 (own0 I c)))) 6 (own1R I c)) 3 (own1L I c))) 6 (acc1R I c)) 3 (acc1L I c))) 4 (half 0 (own2 I c))) 5 (half 1 (own2 I c)))) 4 (acc2R I c)) 5 (acc2L I c))) 2 (own3R I c)) 7 (own3L I c))) 2 (acc3R I c)) 7 (acc3L I c))) 0 (k0_pay41 (sval I 6 (lf c)))) 1 (k0_pay42 (sval I 9 (rt c))))) 6 (k0_pay43 (sval I 7 (lf c)))) 3 (k0_pay44 (sval I 10 (rt c)))))) 4 ((k0_off6_eq c 2).trans (outOff_6_2 c))) $$ O
  iintro O
  ihave O : outT c (Function.update ((Function.update (Function.update ((Function.update (Function.update ((Function.update (Function.update ((Function.update (Function.update ((Function.update (Function.update ((Function.update (Function.update ((Function.update (Function.update ((Function.update (Function.update ((Function.update (Function.update b 0 (half 0 (own0 I c))) 1 (half 1 (own0 I c)))) 6 (own1R I c)) 3 (own1L I c))) 6 (acc1R I c)) 3 (acc1L I c))) 4 (half 0 (own2 I c))) 5 (half 1 (own2 I c)))) 4 (acc2R I c)) 5 (acc2L I c))) 2 (own3R I c)) 7 (own3L I c))) 2 (acc3R I c)) 7 (acc3L I c))) 0 (k0_pay41 (sval I 6 (lf c)))) 1 (k0_pay42 (sval I 9 (rt c))))) 6 (k0_pay43 (sval I 7 (lf c)))) 3 (k0_pay44 (sval I 10 (rt c))))) 4 (k0_pay45 (sval I 8 (lf c)))) $$ [O]
  · iexact O
  iapply (wp_load_sl) $$ A11
  iintro A11
  iapply (wp_out_any) $$ O
  iintro O
  iapply (wp_out_store (b := (Function.update ((Function.update (Function.update ((Function.update (Function.update ((Function.update (Function.update ((Function.update (Function.update ((Function.update (Function.update ((Function.update (Function.update ((Function.update (Function.update ((Function.update (Function.update ((Function.update (Function.update b 0 (half 0 (own0 I c))) 1 (half 1 (own0 I c)))) 6 (own1R I c)) 3 (own1L I c))) 6 (acc1R I c)) 3 (acc1L I c))) 4 (half 0 (own2 I c))) 5 (half 1 (own2 I c)))) 4 (acc2R I c)) 5 (acc2L I c))) 2 (own3R I c)) 7 (own3L I c))) 2 (acc3R I c)) 7 (acc3L I c))) 0 (k0_pay41 (sval I 6 (lf c)))) 1 (k0_pay42 (sval I 9 (rt c))))) 6 (k0_pay43 (sval I 7 (lf c)))) 3 (k0_pay44 (sval I 10 (rt c))))) 4 (k0_pay45 (sval I 8 (lf c))))) 5 ((k0_off8_eq c 2).trans (outOff_8_2 c))) $$ O
  iintro O
  ihave O : outT c (Function.update (Function.update ((Function.update (Function.update ((Function.update (Function.update ((Function.update (Function.update ((Function.update (Function.update ((Function.update (Function.update ((Function.update (Function.update ((Function.update (Function.update ((Function.update (Function.update ((Function.update (Function.update b 0 (half 0 (own0 I c))) 1 (half 1 (own0 I c)))) 6 (own1R I c)) 3 (own1L I c))) 6 (acc1R I c)) 3 (acc1L I c))) 4 (half 0 (own2 I c))) 5 (half 1 (own2 I c)))) 4 (acc2R I c)) 5 (acc2L I c))) 2 (own3R I c)) 7 (own3L I c))) 2 (acc3R I c)) 7 (acc3L I c))) 0 (k0_pay41 (sval I 6 (lf c)))) 1 (k0_pay42 (sval I 9 (rt c))))) 6 (k0_pay43 (sval I 7 (lf c)))) 3 (k0_pay44 (sval I 10 (rt c))))) 4 (k0_pay45 (sval I 8 (lf c)))) 5 (k0_pay1 (sval I 11 (rt c)))) $$ [O]
  · iexact O
  ihave O : outT c (outB I c) $$ [O]
  · rw [← final_tiles I c b]; iexact O
  rw [wp_ret]
  imodintro
  iapply Hk
  isplitl [CROW]; · iexact CROW
  isplitl [PB]; · iexact PB
  isplitl [E0]; · iexact E0
  isplitl [E1]; · iexact E1
  isplitl [E2]; · iexact E2
  isplitl [E3]; · iexact E3
  isplitl [E4]; · iexact E4
  isplitl [E5]; · iexact E5
  isplitl [P0_4]; · iexact P0_4
  isplitl [E6]; · iexact E6
  isplitl [Y]; · iexact Y
  isplitl [Wa0]; · iexact Wa0
  isplitl [P1_4]; · iexact P1_4
  isplitl [E7]; · iexact E7
  isplitl [Wa1]; · iexact Wa1
  isplitl [X]; · iexact X
  isplitl [SW]; · iexact SW
  isplitl [Sd0]; · iexact Sd0
  isplitl [V0]; · iexact V0
  isplitl [Rd0]; · iexact Rd0
  isplitl [A0]; · iexact A0
  isplitl [Sd3]; · iexact Sd3
  isplitl [V3]; · iexact V3
  isplitl [Rd3]; · iexact Rd3
  isplitl [A3]; · iexact A3
  isplitl [Sd1]; · iexact Sd1
  isplitl [V1]; · iexact V1
  isplitl [Rd1]; · iexact Rd1
  isplitl [Sd4]; · iexact Sd4
  isplitl [V4]; · iexact V4
  isplitl [A1]; · iexact A1
  isplitl [Rd4]; · iexact Rd4
  isplitl [A4]; · iexact A4
  isplitl [PW]; · iexact PW
  isplitl [COL]; · iexact COL
  isplitl [Sd2]; · iexact Sd2
  isplitl [V2]; · iexact V2
  isplitl [Rd2]; · iexact Rd2
  isplitl [Sd5]; · iexact Sd5
  isplitl [V5]; · iexact V5
  isplitl [Rd5]; · iexact Rd5
  isplitl [A2]; · iexact A2
  isplitl [A5]; · iexact A5
  isplitl [Sd6]; · iexact Sd6
  isplitl [V6]; · iexact V6
  isplitl [Rd6]; · iexact Rd6
  isplitl [Sd9]; · iexact Sd9
  isplitl [V9]; · iexact V9
  isplitl [Rd9]; · iexact Rd9
  isplitl [Sd7]; · iexact Sd7
  isplitl [V7]; · iexact V7
  isplitl [Rd7]; · iexact Rd7
  isplitl [O]; · iexact O
  isplitl [Sd10]; · iexact Sd10
  isplitl [V10]; · iexact V10
  isplitl [Rd10]; · iexact Rd10
  isplitl [Sd8]; · iexact Sd8
  isplitl [V8]; · iexact V8
  isplitl [Rd8]; · iexact Rd8
  isplitl [A8]; · iexact A8
  isplitl [Sd11]; · iexact Sd11
  isplitl [V11]; · iexact V11
  isplitl [HO]; · iexact HO
  isplitl [Rd11]; · iexact Rd11
  iexact A11

end Cert.KernelIdeal.Moe

end
-- ==== Proof.Talk.lean ====
/-
The kernel's body between the two states the launch knows: entered from the rights to the counters and whole buffers, left with every
counter at zero and whole buffers.
-/
module

public import proofs.«01_k».proof.Proof.Slots
public import proofs.«01_k».proof.Proof.Body

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Fam F)

/-! ## The rights to the counters -/

/-- Round 0 of every barrier counter is reached. -/
def bars : sProp 𝕄 := bigSep barCells fun g => reached ER g 0
instance bars_persistent : BI.Persistent (bars (F := F)) := by unfold bars; infer_instance
theorem bars_at (c : Dev nD) : (bars (F := F)) ⊢ reached ER (barCell c) 0 := by
  unfold bars
  exact bigSep_elim (Finset.mem_map_of_mem barEmb (Finset.mem_univ c))

/-- The device's own counters at their first round. -/
def opened (c : Dev nD) : sProp 𝕄 :=
  bigSep Finset.univ fun k : Fin 26 => iprop(atPos ER ((c : Thread nD τ), osem0 k) 0 ∅ 0 ∗ reached ER ((c : Thread nD τ), osem0 k) 0)

/-- Of the eight local copies, in order: the counter it uses, and the round of that counter. -/
def cpS (i : Fin 8) : Fin 2 := match i with | 0 => 0 | 1 => 1 | 2 => 0 | 3 => 1 | 4 => 0 | 5 => 1 | 6 => 0 | 7 => 1
def cpR (i : Fin 8) : ℕ := match i with | 0 => 0 | 1 => 0 | 2 => 1 | 3 => 1 | 4 => 2 | 5 => 2 | 6 => 3 | 7 => 3

/-- The units the device is to hand out: at the neighbours' barriers, of its transfers at both ends, of its local copies. -/
def toksAt (c : Dev nD) : sProp 𝕄 :=
  iprop(dutyTok ER (barCell (lf c)) 0 false ∗ dutyTok ER (barCell (rt c)) 0 true
    ∗ (bigSep Finset.univ fun k : Fin 12 => dutyTok ER (sendCell k c) 0 true)
    ∗ (bigSep Finset.univ fun k : Fin 12 => dutyTok ER (recvCell k (peer k c)) 0 true)
    ∗ (bigSep Finset.univ fun sr : Fin 8 => dutyTok ER (locCell (cpS sr) c) (cpR sr) true))

/-- The units the device is to receive from others. -/
def creds (c : Dev nD) : sProp 𝕄 :=
  iprop(cred (tallyAt (barCell c) () 2) ∗ bigSep Finset.univ fun k : Fin 12 => cred (tallyAt (recvCell k c) () N))

set_option backward.proofsInPublic true in
/-- The round a counter ends at. -/
def lastRd (k : Fin 26) : ℕ := if k.val < 2 then 4 else 1

/-- The device's own counters past their last round. -/
def finished (c : Dev nD) : sProp 𝕄 := bigSep Finset.univ fun k : Fin 26 => atPos ER ((c : Thread nD τ), osem0 k) (lastRd k) ∅ 0

theorem opened_eq (c : Dev nD) : (opened c : sProp 𝕄)
    = iprop((atPos ER (locCell 0 c) 0 ∅ 0 ∗ reached ER (locCell 0 c) 0) ∗ (atPos ER (locCell 1 c) 0 ∅ 0 ∗ reached ER (locCell 1 c) 0) ∗ (atPos ER (sendCell 0 c) 0 ∅ 0 ∗ reached ER (sendCell 0 c) 0) ∗ (atPos ER (sendCell 1 c) 0 ∅ 0 ∗ reached ER (sendCell 1 c) 0) ∗ (atPos ER (sendCell 2 c) 0 ∅ 0 ∗ reached ER (sendCell 2 c) 0) ∗ (atPos ER (sendCell 3 c) 0 ∅ 0 ∗ reached ER (sendCell 3 c) 0) ∗ (atPos ER (sendCell 4 c) 0 ∅ 0 ∗ reached ER (sendCell 4 c) 0) ∗ (atPos ER (sendCell 5 c) 0 ∅ 0 ∗ reached ER (sendCell 5 c) 0) ∗ (atPos ER (sendCell 6 c) 0 ∅ 0 ∗ reached ER (sendCell 6 c) 0) ∗ (atPos ER (sendCell 7 c) 0 ∅ 0 ∗ reached ER (sendCell 7 c) 0) ∗ (atPos ER (sendCell 8 c) 0 ∅ 0 ∗ reached ER (sendCell 8 c) 0) ∗ (atPos ER (sendCell 9 c) 0 ∅ 0 ∗ reached ER (sendCell 9 c) 0) ∗ (atPos ER (sendCell 10 c) 0 ∅ 0 ∗ reached ER (sendCell 10 c) 0) ∗ (atPos ER (sendCell 11 c) 0 ∅ 0 ∗ reached ER (sendCell 11 c) 0) ∗ (atPos ER (recvCell 0 c) 0 ∅ 0 ∗ reached ER (recvCell 0 c) 0) ∗ (atPos ER (recvCell 1 c) 0 ∅ 0 ∗ reached ER (recvCell 1 c) 0) ∗ (atPos ER (recvCell 2 c) 0 ∅ 0 ∗ reached ER (recvCell 2 c) 0) ∗ (atPos ER (recvCell 3 c) 0 ∅ 0 ∗ reached ER (recvCell 3 c) 0) ∗ (atPos ER (recvCell 4 c) 0 ∅ 0 ∗ reached ER (recvCell 4 c) 0) ∗ (atPos ER (recvCell 5 c) 0 ∅ 0 ∗ reached ER (recvCell 5 c) 0) ∗ (atPos ER (recvCell 6 c) 0 ∅ 0 ∗ reached ER (recvCell 6 c) 0) ∗ (atPos ER (recvCell 7 c) 0 ∅ 0 ∗ reached ER (recvCell 7 c) 0) ∗ (atPos ER (recvCell 8 c) 0 ∅ 0 ∗ reached ER (recvCell 8 c) 0) ∗ (atPos ER (recvCell 9 c) 0 ∅ 0 ∗ reached ER (recvCell 9 c) 0) ∗ (atPos ER (recvCell 10 c) 0 ∅ 0 ∗ reached ER (recvCell 10 c) 0) ∗ (atPos ER (recvCell 11 c) 0 ∅ 0 ∗ reached ER (recvCell 11 c) 0)) :=
  bigSep_univ_eq_bigSepL [0, 1, 2, 3, 4, 5, 6, 7, 8, 9, 10, 11, 12, 13, 14, 15, 16, 17, 18, 19, 20, 21, 22, 23, 24, 25] (by decide) (by decide) _
theorem bigSep12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) _
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) _
theorem finished_eq (c : Dev nD) : (finished c : sProp 𝕄)
    = iprop(atPos ER (locCell 0 c) 4 ∅ 0 ∗ atPos ER (locCell 1 c) 4 ∅ 0 ∗ sentDone (F := F) 0 c ∗ sentDone (F := F) 1 c ∗ sentDone (F := F) 2 c ∗ sentDone (F := F) 3 c ∗ sentDone (F := F) 4 c ∗ sentDone (F := F) 5 c ∗ sentDone (F := F) 6 c ∗ sentDone (F := F) 7 c ∗ sentDone (F := F) 8 c ∗ sentDone (F := F) 9 c ∗ sentDone (F := F) 10 c ∗ sentDone (F := F) 11 c ∗ recvDone (F := F) 0 c ∗ recvDone (F := F) 1 c ∗ recvDone (F := F) 2 c ∗ recvDone (F := F) 3 c ∗ recvDone (F := F) 4 c ∗ recvDone (F := F) 5 c ∗ recvDone (F := F) 6 c ∗ recvDone (F := F) 7 c ∗ recvDone (F := F) 8 c ∗ recvDone (F := F) 9 c ∗ recvDone (F := F) 10 c ∗ recvDone (F := F) 11 c) :=
  bigSep_univ_eq_bigSepL [0, 1, 2, 3, 4, 5, 6, 7, 8, 9, 10, 11, 12, 13, 14, 15, 16, 17, 18, 19, 20, 21, 22, 23, 24, 25] (by decide) (by decide) _

theorem osem0_cases : ∀ k : Fin 26, (∃ s, osem0 k = semL s ∧ lastRd k = 4) ∨ (∃ j, osem0 k = semS j ∧ lastRd k = 1) ∨ (∃ j, osem0 k = semR j ∧ lastRd k = 1) := by decide
theorem own_later (c : Dev nD) (k : Fin 26) : ∀ r, lastRd k ≤ r → (rd I).duties ((c : Thread nD τ), osem0 k) r = ∅ := by
  rcases osem0_cases k with ⟨s, e, h⟩ | ⟨j, e, h⟩ | ⟨j, e, h⟩
  · rw [e, h]; exact later_loc I c s
  · rw [e, h]; exact later_snd I c j
  · rw [e, h]; exact later_rcv I c j

/-- The own counters opened from their value zero. -/
theorem open_all (K : GSem nD τ sig → ℕ) (c : Dev nD) :
    iprop(ctx I K ∗ (bigSep Finset.univ fun k : Fin 26 => openTok ER ((c : Thread nD τ), osem0 k)) ∗ Pipeline.ownSems0 osem0 c) ⊢ (iprop(|={Set.univ}=> opened c) : sProp 𝕄) := by
  unfold opened
  refine BIBase.Entails.trans ?_ (bigSep_fupd _ _)
  refine BIBase.Entails.trans ?_ (bigSep_with_persistent (R := ctx I K) (Φ := fun k : Fin 26 => iprop(openTok ER ((c : Thread nD τ), osem0 k) ∗ semVal ((c : Thread nD τ), osem0 k) 0)) fun k _ => ?_)
  · rw [bigSep_sep']
    exact .rfl
  · iintro ⟨#Hc, Ho, Hs⟩
    ihave #Hi := (ctx_inv I K (sc_mem c (osem0 k) k rfl)) $$ Hc
    iapply (Rounds.cell_open ER (rd I) (g := ((c : Thread nD τ), osem0 k)) (Set.mem_univ (K ((c : Thread nD τ), osem0 k))))
    isplitr; · iexact Hi
    isplitl [Ho] <;> iassumption

/-- The own counters closed at value zero. -/
theorem close_all (K : GSem nD τ sig → ℕ) (c : Dev nD) : iprop(ctx I K ∗ finished c) ⊢ (iprop(|={Set.univ}=> Pipeline.ownSems0 osem0 c) : sProp 𝕄) := by
  unfold finished
  refine BIBase.Entails.trans ?_ (bigSep_fupd _ _)
  refine bigSep_with_persistent fun k _ => ?_
  iintro ⟨#Hc, Hp⟩
  ihave #Hi := (ctx_inv I K (sc_mem c (osem0 k) k rfl)) $$ Hc
  iapply (Rounds.cell_close ER (rd I) (Set.mem_univ (K ((c : Thread nD τ), osem0 k))) id (own_later I c k))
  isplitr; · iexact Hi
  iexact Hp

theorem close_bar (K : GSem nD τ sig → ℕ) (c : Dev nD) : iprop(ctx I K ∗ atPos ER (barCell c) 1 ∅ 0) ⊢ (iprop(|={Set.univ}=> semVal (barCell c) 0) : sProp 𝕄) := by
  iintro ⟨#Hc, Hp⟩
  ihave #Hi := (ctx_inv I K (bar_mem c)) $$ Hc
  iapply (Rounds.cell_close ER (rd I) (Set.mem_univ (K (barCell c))) id (later_bar I c))
  isplitr; · iexact Hi
  iexact Hp

/-! ## The body -/

/-- The scratch buffers of the kernel, whole. -/
def scratch (c : Dev nD) : sProp 𝕄 :=
  iprop(bufAny (F := F) cc0_scratch0 c ∗ bufAny (F := F) cc0_scratch1 c ∗ bufAny (F := F) cc0_scratch2 c ∗ bufAny (F := F) cc0_scratch3 c ∗ bufAny (F := F) cc0_scratch4 c ∗ bufAny (F := F) cc0_scratch5 c ∗ bufAny (F := F) cc0_scratch6 c ∗ bufAny (F := F) cc0_scratch7 c)

/-- The operands, whole. -/
def opnds (c : Dev nD) : sProp 𝕄 :=
  iprop(inp xM c (I c).x ∗ inp colM c (I c).col ∗ inp crowM c (I c).crow ∗ inp pwM c (I c).pw ∗ inp swM c (I c).sw)

def ewAll (c : Dev nD) : sProp 𝕄 := (((c : Thread nD τ).loc main_arg3) ↦{fullShare} ((I c).ew : Buf (Elt F) ((c : Thread nD τ).loc main_arg3)))

/-- What the body starts from. -/
def talkIn (c : Dev nD) : sProp 𝕄 :=
  iprop(bars ∗ atPos ER (barCell c) 0 ∅ 0 ∗ opened c ∗ toksAt c ∗ creds c)

theorem enter (K : GSem nD τ sig → ℕ) (c : Dev nD) (f : Buf (Elt F) ((c : Thread nD τ).loc cc0_stg5_0)) :
    iprop(talkIn c ∗ ewAll I c ∗ scratch c ∗ opnds I c ∗ owing c (O₀ c) ∗ (((c : Thread nD τ).loc cc0_stg5_0) ↦{fullShare} f))
      ⊢ (iprop(∃ b y, bodyIn I c b y) : sProp 𝕄) := by
  unfold talkIn ewAll scratch opnds toksAt creds
  rw [opened_eq, ew_eq, bigSep8, bigSep12, bigSep12, bigSep12]
  iintro ⟨⟨#HB, PB, ⟨⟨P0_0, #Rl0_0⟩, ⟨P1_0, #Rl1_0⟩, ⟨PS0, #RS0⟩, ⟨PS1, #RS1⟩, ⟨PS2, #RS2⟩, ⟨PS3, #RS3⟩, ⟨PS4, #RS4⟩, ⟨PS5, #RS5⟩, ⟨PS6, #RS6⟩, ⟨PS7, #RS7⟩, ⟨PS8, #RS8⟩, ⟨PS9, #RS9⟩, ⟨PS10, #RS10⟩, ⟨PS11, #RS11⟩, ⟨PR0, #RR0⟩, ⟨PR1, #RR1⟩, ⟨PR2, #RR2⟩, ⟨PR3, #RR3⟩, ⟨PR4, #RR4⟩, ⟨PR5, #RR5⟩, ⟨PR6, #RR6⟩, ⟨PR7, #RR7⟩, ⟨PR8, #RR8⟩, ⟨PR9, #RR9⟩, ⟨PR10, #RR10⟩, ⟨PR11, #RR11⟩⟩, ⟨BL, BR, ⟨TS0, TS1, TS2, TS3, TS4, TS5, TS6, TS7, TS8, TS9, TS10, TS11⟩, ⟨TR0, TR1, TR2, TR3, TR4, TR5, TR6, TR7, TR8, TR9, TR10, TR11⟩, T0_0, T1_0, T0_1, T1_1, T0_2, T1_2, T0_3, T1_3⟩, ⟨CB, CR0, CR1, CR2, CR3, CR4, CR5, CR6, CR7, CR8, CR9, CR10, CR11⟩⟩, ⟨E0, E1, E2, E3, E4, E5, E6, E7⟩, ⟨B0, B1, B2, B3, B4, B5, B6, B7⟩, ⟨X, COL, CROW, PW, SW⟩, HO, Out⟩
  ihave B0' := (slW_split c) $$ B0
  icases B0' with ⟨Wa0, Wa1⟩
  ihave B1' := (ys_enter c) $$ B1
  icases B1' with ⟨%y, Y⟩
  ihave B2' := (slA_split c) $$ B2
  icases B2' with ⟨Va0, Va1, Va2⟩
  ihave B3' := (slB_split c) $$ B3
  icases B3' with ⟨Va3, Va4, Va5⟩
  ihave B4' := (slC_split c) $$ B4
  icases B4' with ⟨D0, D1, D2⟩
  ihave B5' := (slD_split c) $$ B5
  icases B5' with ⟨D3, D4, D5⟩
  ihave B6' := (slE_split c) $$ B6
  icases B6' with ⟨D6, D7, D8, Va6⟩
  ihave B7' := (slF_split c) $$ B7
  icases B7' with ⟨D9, D10, D11, Va9⟩
  ihave Out' := (out_enter c f) $$ Out
  icases Out' with ⟨%b, O⟩
  iexists b
  iexists y
  unfold bodyIn
  isplitl [HO]
  · iexact HO
  isplitl [BL]
  · iexact BL
  isplitr
  · iapply (bars_at (lf c)) $$ HB
  isplitl [BR]
  · iexact BR
  isplitr
  · iapply (bars_at (rt c)) $$ HB
  isplitl [D0 D1 D2 D6 D7 D8]
  · unfold landR land
    isplitl [D0]
    · isplitl [D0]; · iexact D0
      iexact RR0
    isplitl [D1]
    · isplitl [D1]; · iexact D1
      iexact RR1
    isplitl [D2]
    · isplitl [D2]; · iexact D2
      iexact RR2
    isplitl [D6]
    · isplitl [D6]; · iexact D6
      iexact RR6
    isplitl [D7]
    · isplitl [D7]; · iexact D7
      iexact RR7
    isplitl [D8]; · iexact D8
    iexact RR8
  isplitl [D3 D4 D5 D9 D10 D11]
  · unfold landL land
    isplitl [D3]
    · isplitl [D3]; · iexact D3
      iexact RR3
    isplitl [D4]
    · isplitl [D4]; · iexact D4
      iexact RR4
    isplitl [D5]
    · isplitl [D5]; · iexact D5
      iexact RR5
    isplitl [D9]
    · isplitl [D9]; · iexact D9
      iexact RR9
    isplitl [D10]
    · isplitl [D10]; · iexact D10
      iexact RR10
    isplitl [D11]; · iexact D11
    iexact RR11
  isplitl [CB]
  · iexact CB
  isplitl [PB]
  · iexact PB
  isplitl [X]
  · iexact X
  isplitl [CROW]
  · iexact CROW
  isplitl [COL]
  · iexact COL
  isplitl [PW]
  · iexact PW
  isplitl [SW]
  · iexact SW
  isplitl [E0]
  · iexact E0
  isplitl [E1]
  · iexact E1
  isplitl [E2]
  · iexact E2
  isplitl [E3]
  · iexact E3
  isplitl [E4]
  · iexact E4
  isplitl [E5]
  · iexact E5
  isplitl [E6]
  · iexact E6
  isplitl [E7]
  · iexact E7
  isplitl [Wa0]
  · iexact Wa0
  isplitl [Wa1]
  · iexact Wa1
  isplitl [P0_0]
  · iexact P0_0
  isplitl [P1_0]
  · iexact P1_0
  isplitr
  · iexact Rl0_0
  isplitr
  · iexact Rl1_0
  isplitl [T0_0]
  · iexact T0_0
  isplitl [T1_0]
  · iexact T1_0
  isplitl [T0_1]
  · iexact T0_1
  isplitl [T1_1]
  · iexact T1_1
  isplitl [T0_2]
  · iexact T0_2
  isplitl [T1_2]
  · iexact T1_2
  isplitl [T0_3]
  · iexact T0_3
  isplitl [T1_3]
  · iexact T1_3
  isplitl [Y]
  · iexact Y
  isplitl [O]
  · iexact O
  isplitl [TS0 TR0 PS0]
  · unfold toSend
    isplitl [TS0]; · iexact TS0
    isplitr; · iexact RS0
    isplitl [TR0]; · iexact TR0
    iexact PS0
  isplitl [TS1 TR1 PS1]
  · unfold toSend
    isplitl [TS1]; · iexact TS1
    isplitr; · iexact RS1
    isplitl [TR1]; · iexact TR1
    iexact PS1
  isplitl [TS2 TR2 PS2]
  · unfold toSend
    isplitl [TS2]; · iexact TS2
    isplitr; · iexact RS2
    isplitl [TR2]; · iexact TR2
    iexact PS2
  isplitl [TS3 TR3 PS3]
  · unfold toSend
    isplitl [TS3]; · iexact TS3
    isplitr; · iexact RS3
    isplitl [TR3]; · iexact TR3
    iexact PS3
  isplitl [TS4 TR4 PS4]
  · unfold toSend
    isplitl [TS4]; · iexact TS4
    isplitr; · iexact RS4
    isplitl [TR4]; · iexact TR4
    iexact PS4
  isplitl [TS5 TR5 PS5]
  · unfold toSend
    isplitl [TS5]; · iexact TS5
    isplitr; · iexact RS5
    isplitl [TR5]; · iexact TR5
    iexact PS5
  isplitl [TS6 TR6 PS6]
  · unfold toSend
    isplitl [TS6]; · iexact TS6
    isplitr; · iexact RS6
    isplitl [TR6]; · iexact TR6
    iexact PS6
  isplitl [TS7 TR7 PS7]
  · unfold toSend
    isplitl [TS7]; · iexact TS7
    isplitr; · iexact RS7
    isplitl [TR7]; · iexact TR7
    iexact PS7
  isplitl [TS8 TR8 PS8]
  · unfold toSend
    isplitl [TS8]; · iexact TS8
    isplitr; · iexact RS8
    isplitl [TR8]; · iexact TR8
    iexact PS8
  isplitl [TS9 TR9 PS9]
  · unfold toSend
    isplitl [TS9]; · iexact TS9
    isplitr; · iexact RS9
    isplitl [TR9]; · iexact TR9
    iexact PS9
  isplitl [TS10 TR10 PS10]
  · unfold toSend
    isplitl [TS10]; · iexact TS10
    isplitr; · iexact RS10
    isplitl [TR10]; · iexact TR10
    iexact PS10
  isplitl [TS11 TR11 PS11]
  · unfold toSend
    isplitl [TS11]; · iexact TS11
    isplitr; · iexact RS11
    isplitl [TR11]; · iexact TR11
    iexact PS11
  isplitl [CR0 PR0]
  · unfold toRecv
    isplitl [CR0]; · iexact CR0
    iexact PR0
  isplitl [CR1 PR1]
  · unfold toRecv
    isplitl [CR1]; · iexact CR1
    iexact PR1
  isplitl [CR2 PR2]
  · unfold toRecv
    isplitl [CR2]; · iexact CR2
    iexact PR2
  isplitl [CR3 PR3]
  · unfold toRecv
    isplitl [CR3]; · iexact CR3
    iexact PR3
  isplitl [CR4 PR4]
  · unfold toRecv
    isplitl [CR4]; · iexact CR4
    iexact PR4
  isplitl [CR5 PR5]
  · unfold toRecv
    isplitl [CR5]; · iexact CR5
    iexact PR5
  isplitl [CR6 PR6]
  · unfold toRecv
    isplitl [CR6]; · iexact CR6
    iexact PR6
  isplitl [CR7 PR7]
  · unfold toRecv
    isplitl [CR7]; · iexact CR7
    iexact PR7
  isplitl [CR8 PR8]
  · unfold toRecv
    isplitl [CR8]; · iexact CR8
    iexact PR8
  isplitl [CR9 PR9]
  · unfold toRecv
    isplitl [CR9]; · iexact CR9
    iexact PR9
  isplitl [CR10 PR10]
  · unfold toRecv
    isplitl [CR10]; · iexact CR10
    iexact PR10
  isplitl [CR11 PR11]
  · unfold toRecv
    isplitl [CR11]; · iexact CR11
    iexact PR11
  isplitl [Va0]
  · iexact Va0
  isplitl [Va1]
  · iexact Va1
  isplitl [Va2]
  · iexact Va2
  isplitl [Va3]
  · iexact Va3
  isplitl [Va4]
  · iexact Va4
  isplitl [Va5]
  · iexact Va5
  isplitl [Va6]
  · iexact Va6
  iexact Va9

/-- What the body leaves, whole again. -/
theorem leave (c : Dev nD) : (bodyOut I c : sProp 𝕄)
    ⊢ iprop(atPos ER (barCell c) 1 ∅ 0 ∗ finished c ∗ ewAll I c ∗ scratch c ∗ opnds I c ∗ owing c 0
        ∗ (((c : Thread nD τ).loc cc0_stg5_0) ↦{fullShare} (outAll I c : Buf (Elt F) ((c : Thread nD τ).loc cc0_stg5_0)))) := by
  unfold bodyOut ewAll scratch opnds
  rw [finished_eq, ew_eq]
  iintro ⟨CROW, PB, E0, E1, E2, E3, E4, E5, P0_4, E6, Y, Wa0, P1_4, E7, Wa1, X, SW, Sd0, V0, Rd0, A0, Sd3, V3, Rd3, A3, Sd1, V1, Rd1, Sd4, V4, A1, Rd4, A4, PW, COL, Sd2, V2, Rd2, Sd5, V5, Rd5, A2, A5, Sd6, V6, Rd6, Sd9, V9, Rd9, Sd7, V7, Rd7, O, Sd10, V10, Rd10, Sd8, V8, Rd8, A8, Sd11, V11, HO, Rd11, A11⟩
  isplitl [PB]; · iexact PB
  isplitl [P0_4 P1_4 Sd0 Sd1 Sd2 Sd3 Sd4 Sd5 Sd6 Sd7 Sd8 Sd9 Sd10 Sd11 Rd0 Rd1 Rd2 Rd3 Rd4 Rd5 Rd6 Rd7 Rd8 Rd9 Rd10 Rd11]
  · isplitl [P0_4]; · iexact P0_4
    isplitl [P1_4]; · iexact P1_4
    isplitl [Sd0]; · iexact Sd0
    isplitl [Sd1]; · iexact Sd1
    isplitl [Sd2]; · iexact Sd2
    isplitl [Sd3]; · iexact Sd3
    isplitl [Sd4]; · iexact Sd4
    isplitl [Sd5]; · iexact Sd5
    isplitl [Sd6]; · iexact Sd6
    isplitl [Sd7]; · iexact Sd7
    isplitl [Sd8]; · iexact Sd8
    isplitl [Sd9]; · iexact Sd9
    isplitl [Sd10]; · iexact Sd10
    isplitl [Sd11]; · iexact Sd11
    isplitl [Rd0]; · iexact Rd0
    isplitl [Rd1]; · iexact Rd1
    isplitl [Rd2]; · iexact Rd2
    isplitl [Rd3]; · iexact Rd3
    isplitl [Rd4]; · iexact Rd4
    isplitl [Rd5]; · iexact Rd5
    isplitl [Rd6]; · iexact Rd6
    isplitl [Rd7]; · iexact Rd7
    isplitl [Rd8]; · iexact Rd8
    isplitl [Rd9]; · iexact Rd9
    isplitl [Rd10]; · iexact Rd10
    iexact Rd11
  isplitl [E0 E1 E2 E3 E4 E5 E6 E7]
  · isplitl [E0]; · iexact E0
    isplitl [E1]; · iexact E1
    isplitl [E2]; · iexact E2
    isplitl [E3]; · iexact E3
    isplitl [E4]; · iexact E4
    isplitl [E5]; · iexact E5
    isplitl [E6]; · iexact E6
    iexact E7
  isplitl [Wa0 Wa1 Y V0 V1 V2 V3 V4 V5 A0 A1 A2 A3 A4 A5 V7 V8 A8 V6 V10 V11 A11 V9]
  · isplitl [Wa0 Wa1]
    · iapply (slW_join c)
      isplitl [Wa0]; · iexact Wa0
      iexact Wa1
    isplitl [Y]
    · iapply (ys_leave c (ysB (I c))) $$ Y
    isplitl [V0 V1 V2]
    · iapply (slA_join c)
      isplitl [V0]; · iapply (sl_any (srcV 0) c (sval I 0 c)) $$ V0
      isplitl [V1]; · iapply (sl_any (srcV 1) c (sval I 1 c)) $$ V1
      iapply (sl_any (srcV 2) c (sval I 2 c)) $$ V2
    isplitl [V3 V4 V5]
    · iapply (slB_join c)
      isplitl [V3]; · iapply (sl_any (srcV 3) c (sval I 3 c)) $$ V3
      isplitl [V4]; · iapply (sl_any (srcV 4) c (sval I 4 c)) $$ V4
      iapply (sl_any (srcV 5) c (sval I 5 c)) $$ V5
    isplitl [A0 A1 A2]
    · iapply (slC_join c)
      isplitl [A0]; · iapply (sl_any (dstV 0) c (sval I 0 (frm 0 c))) $$ A0
      isplitl [A1]; · iapply (sl_any (dstV 1) c (sval I 1 (frm 1 c))) $$ A1
      iapply (sl_any (dstV 2) c (sval I 2 (frm 2 c))) $$ A2
    isplitl [A3 A4 A5]
    · iapply (slD_join c)
      isplitl [A3]; · iapply (sl_any (dstV 3) c (sval I 3 (frm 3 c))) $$ A3
      isplitl [A4]; · iapply (sl_any (dstV 4) c (sval I 4 (frm 4 c))) $$ A4
      iapply (sl_any (dstV 5) c (sval I 5 (frm 5 c))) $$ A5
    isplitl [V7 V8 A8 V6]
    · iapply (slE_join c)
      isplitl [V7]; · iapply (sl_any (srcV 7) c (sval I 7 c)) $$ V7
      isplitl [V8]; · iapply (sl_any (srcV 8) c (sval I 8 c)) $$ V8
      isplitl [A8]; · iapply (sl_any (dstV 8) c (sval I 8 (frm 8 c))) $$ A8
      iapply (sl_any (srcV 6) c (sval I 6 c)) $$ V6
    iapply (slF_join c)
    isplitl [V10]; · iapply (sl_any (srcV 10) c (sval I 10 c)) $$ V10
    isplitl [V11]; · iapply (sl_any (srcV 11) c (sval I 11 c)) $$ V11
    isplitl [A11]; · iapply (sl_any (dstV 11) c (sval I 11 (frm 11 c))) $$ A11
    iapply (sl_any (srcV 9) c (sval I 9 c)) $$ V9
  isplitl [X COL CROW PW SW]
  · isplitl [X]; · iexact X
    isplitl [COL]; · iexact COL
    isplitl [CROW]; · iexact CROW
    isplitl [PW]; · iexact PW
    iexact SW
  isplitl [HO]; · iexact HO
  iapply (out_leave I c) $$ O

/-- The body, from whole buffers to whole buffers and from counters at their first round to counters at zero. -/
theorem talk_run (K : GSem nD τ sig → ℕ) (c : Dev nD) (f : Buf (Elt F) ((c : Thread nD τ).loc cc0_stg5_0)) (Kt : PUnit → sProp (MT nD τ sig Unit (Elt F) ℕ UU ℕ)) :
    iprop(ctx I K ∗ (talkIn c ∗ ewAll I c ∗ scratch c ∗ opnds I c ∗ owing c (O₀ c) ∗ (((c : Thread nD τ).loc cc0_stg5_0) ↦{fullShare} f))
        ∗ ((semVal (barCell c) 0 ∗ Pipeline.ownSems0 osem0 c ∗ ewAll I c ∗ scratch c ∗ opnds I c ∗ owing c 0
            ∗ (((c : Thread nD τ).loc cc0_stg5_0) ↦{fullShare} (outAll I c : Buf (Elt F) ((c : Thread nD τ).loc cc0_stg5_0)))) -∗ Kt ⟨⟩))
      ⊢ wp frame (wpE (defs₀ (F := F)) 𝒱₀ c none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) Kt := by
  refine BIBase.Entails.trans ?_ (wp_fupd frame (wpE (defs₀ (F := F)) 𝒱₀ c none) Set.univ _ Kt)
  iintro ⟨#Hc, Hin, Hk⟩
  ihave Hin' := (enter I K c f) $$ Hin
  icases Hin' with ⟨%b, %y, Hb⟩
  iapply (body_run I K c b y)
  isplitr; · iexact Hc
  isplitl [Hb]; · iexact Hb
  iintro Hout
  ihave Hout' := (leave I c) $$ Hout
  icases Hout' with ⟨PB, Hf, Hrest⟩
  imod (close_bar I K c) $$ [PB] with Hbar
  · isplitr; · iexact Hc
    iexact PB
  imod (close_all I K c) $$ [Hf] with Hown
  · isplitr; · iexact Hc
    iexact Hf
  imodintro
  iapply Hk
  isplitl [Hbar]; · iexact Hbar
  isplitl [Hown]; · iexact Hown
  iexact Hrest

end Cert.KernelIdeal.Moe

end
-- ==== Proof.Tokens.lean ====
/-
What the launch deals: the right to every unit of every counter, each to the device that hands it out, and the units each device will
receive.
-/
module

public import proofs.«01_k».proof.Proof.Talk

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rights -/

/-- The units of one device's counters: at its barrier (from the right, from the left), of departures, of arrivals, of local copies. -/
abbrev UnitIx : Type := Bool ⊕ Fin 12 ⊕ Fin 12 ⊕ Fin 8

def unitOf : UnitIx → SemLoc sig × ℕ × Bool
  | .inl b => (semB, 0, b)
  | .inr (.inl k) => (semS k, 0, true)
  | .inr (.inr (.inl k)) => (semR k, 0, true)
  | .inr (.inr (.inr i)) => (semL (cpS i), cpR i, true)

theorem unitOf_inj : Function.Injective unitOf := by decide +kernel

def unitToks : Finset (GSem nD τ sig × ℕ × Bool) :=
  Finset.univ.map ⟨fun cu : Dev nD × UnitIx => (((cu.1 : Thread nD τ), (unitOf cu.2).1), (unitOf cu.2).2.1, (unitOf cu.2).2.2), fun _ _ h =>
    Prod.ext (congrArg (fun t : GSem nD τ sig × ℕ × Bool => t.1.1.1) h)
      (unitOf_inj (Prod.ext (congrArg (fun t : GSem nD τ sig × ℕ × Bool => t.1.2) h)
        (Prod.ext (congrArg (fun t : GSem nD τ sig × ℕ × Bool => t.2.1) h) (congrArg (fun t : GSem nD τ sig × ℕ × Bool => t.2.2) h))))⟩

/-- The rights to the units of one device's own counters. -/
def ownToks (c : Dev nD) : sProp 𝕄 :=
  iprop((dutyTok ER (barCell c) 0 false ∗ dutyTok ER (barCell c) 0 true)
    ∗ (bigSep Finset.univ fun k : Fin 12 => dutyTok ER (sendCell k c) 0 true)
    ∗ (bigSep Finset.univ fun k : Fin 12 => dutyTok ER (recvCell k c) 0 true)
    ∗ (bigSep Finset.univ fun sr : Fin 8 => dutyTok ER (locCell (cpS sr) c) (cpR sr) true))

theorem bigSep_bool (Φ : Bool → sProp 𝕄) : bigSep Finset.univ Φ = iprop(Φ false ∗ Φ true) :=
  bigSep_univ_eq_bigSepL [false, true] (by decide) (by decide) Φ

theorem toks_eq : bigSep unitToks (fun x => (dutyTok ER x.1 x.2.1 x.2.2 : sProp 𝕄)) = bigSep Finset.univ fun c : Dev nD => ownToks c := by
  unfold unitToks
  rw [bigSep_map, bigSep_univ_prod]
  refine bigSep_congr fun c _ => ?_
  rw [bigSep_univ_sum, bigSep_univ_sum, bigSep_univ_sum, bigSep_bool]
  rfl

/-- Each transfer's arrival pairs the devices. -/
def peers : Dev nD × Fin 12 ≃ Dev nD × Fin 12 :=
  ⟨fun x => (peer x.2 x.1, x.2), fun x => (frm x.2 x.1, x.2), fun x => Prod.ext (frm_peer x.2 x.1) rfl, fun x => Prod.ext (peer_frm x.2 x.1) rfl⟩

theorem recv_around : (bigSep Finset.univ fun c : Dev nD => bigSep Finset.univ fun k : Fin 12 => (dutyTok ER (recvCell k c) 0 true : sProp 𝕄))
    = bigSep Finset.univ fun c : Dev nD => bigSep Finset.univ fun k : Fin 12 => dutyTok ER (recvCell k (peer k c)) 0 true := by
  rw [← bigSep_univ_prod (fun x : Dev nD × Fin 12 => (dutyTok ER (recvCell x.2 x.1) 0 true : sProp 𝕄)),
    bigSep_univ_equiv peers, bigSep_univ_prod]
  rfl

/-- The rights dealt: those at a barrier to the two neighbours, those of arrivals to the senders. -/
theorem toks_around : (bigSep Finset.univ fun c : Dev nD => (ownToks c : sProp 𝕄)) ⊢ bigSep Finset.univ fun c : Dev nD => toksAt c := by
  unfold ownToks toksAt
  rw [bigSep_sep', bigSep_sep', bigSep_sep', bigSep_sep', bigSep_sep', bigSep_sep', bigSep_sep', bigSep_sep', recv_around,
    bigSep_univ_equiv ring.symm (fun c : Dev nD => (dutyTok ER (barCell c) 0 false : sProp 𝕄)),
    bigSep_univ_equiv ring (fun c : Dev nD => (dutyTok ER (barCell c) 0 true : sProp 𝕄))]
  iintro ⟨⟨H1, H2⟩, H3, H4, H5⟩
  isplitl [H1]; · iexact H1
  isplitl [H2]; · iexact H2
  isplitl [H3]; · iexact H3
  isplitl [H4] <;> iassumption

/-! ## The units to be received -/

theorem recv_ne_bar (k : Fin 12) (c d : Dev nD) : recvCell k c ≠ barCell d := fun h => by
  have := congrArg (fun g : GSem nD τ sig => g.2) h
  cases this

theorem recv_cell (k k' : Fin 12) (c c' : Dev nD) : recvCell k c = recvCell k' c' ↔ k = k' ∧ c = c' := by
  constructor
  · intro h
    refine ⟨?_, congrArg (fun g : GSem nD τ sig => g.1.1) h⟩
    have : semR k = semR k' := congrArg (fun g : GSem nD τ sig => g.2) h
    exact (by decide : Function.Injective (fun k : Fin 12 => (semR k : SemLoc sig))) this
  · rintro ⟨rfl, rfl⟩; rfl

theorem tallies_recv (d c : Dev nD) (k : Fin 12) (l : List (Fin 12)) :
    tallies d l (recvCell k c) () = (l.filter fun k' => decide (k = k' ∧ c = peer k' d)).length * N := by
  induction l with
  | nil => exact (Nat.zero_mul _).symm
  | cons k' l ih =>
    unfold tallies
    rw [Pi.add_apply, Finsupp.add_apply, ih, tallyAt_apply, List.filter_cons]
    by_cases h : k = k' ∧ c = peer k' d
    · rw [if_pos ⟨(recv_cell k k' c (peer k' d)).mpr h, rfl⟩, if_pos (decide_eq_true h), List.length_cons, Nat.succ_mul]
    · rw [if_neg (fun hh => h ((recv_cell k k' c (peer k' d)).mp hh.1)), if_neg (by simpa using h), Nat.add_zero]

theorem tallies_bar (d c : Dev nD) (l : List (Fin 12)) : tallies d l (barCell c) () = 0 := by
  induction l with
  | nil => rfl
  | cons k' l ih =>
    unfold tallies
    rw [Pi.add_apply, Finsupp.add_apply, ih, tallyAt_apply, if_neg (fun hh => recv_ne_bar k' _ c hh.1.symm)]

theorem bar_cell (c d : Dev nD) : barCell c = barCell d ↔ c = d :=
  ⟨fun h => congrArg (fun g : GSem nD τ sig => g.1.1) h, fun h => by rw [h]⟩

theorem owed_bar (d c : Dev nD) : O₀ d (barCell c) () = (if c = rt d then 1 else 0) + (if c = lf d then 1 else 0) := by
  unfold O₀
  rw [Pi.add_apply, Pi.add_apply, Finsupp.add_apply, Finsupp.add_apply, tallies_bar, tallyAt_apply, tallyAt_apply, Nat.zero_add]
  simp only [bar_cell, and_true]

theorem owed_recv (d c : Dev nD) (k : Fin 12) : O₀ d (recvCell k c) () = (order.filter fun k' => decide (k = k' ∧ c = peer k' d)).length * N := by
  unfold O₀
  rw [Pi.add_apply, Pi.add_apply, Finsupp.add_apply, Finsupp.add_apply, tallies_recv, tallyAt_apply, tallyAt_apply,
    if_neg (fun hh => recv_ne_bar k c _ hh.1), if_neg (fun hh => recv_ne_bar k c _ hh.1), Nat.add_zero]

theorem sum_bar (c : Dev nD) : (∑ d : Dev nD, ((if c = rt d then 1 else 0) + (if c = lf d then 1 else 0))) = 2 := by revert c; decide
theorem sum_recv (c : Dev nD) (k : Fin 12) : (∑ d : Dev nD, (order.filter fun k' => decide (k = k' ∧ c = peer k' d)).length) = 1 := by
  revert c k; decide +kernel

theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, sum_bar]

theorem launch_recv (c : Dev nD) (k : Fin 12) :
    tallyOn (recvCell k c) (launchCredit (Pipeline.owing O₀) 0 (recvCell k c)) = (tallyAt (recvCell k c) () N : CellTallies nD τ sig Unit) := by
  unfold tallyAt
  refine congrArg _ (Finsupp.ext fun u => ?_)
  cases u
  rw [Pipeline.launchCredit_owing, Finsupp.single_eq_same, Finset.sum_congr rfl fun d _ => owed_recv d c k, ← Finset.sum_mul, sum_recv, Nat.one_mul]

def rcvEmb : Fin 12 ↪ SemLoc sig := ⟨fun k => semR k, by decide⟩

/-- The units a device will receive, out of all that the launch books for it. -/
theorem creds_of (c : Dev nD) : (Pipeline.launchCred O₀ c : sProp 𝕄) ⊢ creds c := by
  unfold Pipeline.launchCred creds
  rw [bigSep_univ_at _ semB, launch_bar]
  refine sep_mono_right ?_
  refine BIBase.Entails.trans (bigSep_subset (t := Finset.univ.map rcvEmb) ?_) ?_
  · intro sm h
    obtain ⟨k, -, rfl⟩ := Finset.mem_map.mp h
    refine Finset.mem_erase.mpr ⟨?_, Finset.mem_univ _⟩
    intro h'; cases h'
  · rw [bigSep_map]
    exact BIBase.Entails.of_eq (bigSep_congr fun k _ => congrArg cred (launch_recv c k))

end Cert.KernelIdeal.Moe

end
-- ==== Proof.Region.lean ====
/-
The kernel's region: what its six windows hold, what the invariant holds before and after its one point, and the region's record.
-/
module

public import proofs.«01_k».proof.Proof.Talk
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

-- `W`: the buffers of every device before the region.
variable (W : Dev nD → Valuation τ sig (Elt F))

/-- The operands of every device, as the host leaves them. -/
def fam : Fam F := fun c =>
  ⟨(win0_0.blk (0 : Fin 1)).view.read (Elt F) (W c main_arg0), (win0_1.blk (0 : Fin 1)).view.read (Elt F) (W c main_v42),
    (win0_2.blk (0 : Fin 1)).view.read (Elt F) (W c main_v43), (win0_3.blk (0 : Fin 1)).view.read (Elt F) (W c main_v44),
    W c main_arg3, (win0_4.blk (0 : Fin 1)).view.read (Elt F) (W c main_arg4)⟩

/-- What the invariant holds before the body runs, and after. -/
def Φ₀ (c : Dev nD) : sProp 𝕄 :=
  iprop((∃ K, ctx (fam W) K ∗ talkIn c) ∗ ewAll (fam W) c ∗ scratch c ∗ ∃ r, prngReg c r)
def Φ₁ (c : Dev nD) : sProp 𝕄 :=
  iprop(semVal (barCell c) 0 ∗ Pipeline.ownSems0 osem0 c ∗ ewAll (fam W) c ∗ scratch c ∗ ∃ r, prngReg c r)

/-- The region's proof data. -/
def dats (_ : Fin 1) (c : Dev nD) : Dat τ (Elt F) Unit ℕ UU ℕ cfg0 c where
  A w := W c (Proc.devRef .tc (Pipeline.arrRef spec0 w))
  after w _ := match w with
    | ⟨0, _⟩ => (fam W c).x
    | ⟨1, _⟩ => (fam W c).col
    | ⟨2, _⟩ => (fam W c).crow
    | ⟨3, _⟩ => (fam W c).pw
    | ⟨4, _⟩ => (fam W c).sw
    | ⟨5, _⟩ => outAll (fam W) c
  Φ t := match t with
    | ⟨0, _⟩ => Φ₀ W c
    | ⟨_ + 1, _⟩ => Φ₁ W c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pt0 : Fin cfg0.N := t0_0

def bodyPre (c : Dev nD) : sProp 𝕄 :=
  iprop(Φ₀ W c ∗ (dats W 0 c).owesAt () pt0.castSucc
    ∗ (∃ d, stg c cc0_stg0_0 ((dats W 0 c).before (0 : Fin 6) pt0 d))
    ∗ (∃ d, stg c cc0_stg1_0 ((dats W 0 c).before (1 : Fin 6) pt0 d))
    ∗ (∃ d, stg c cc0_stg2_0 ((dats W 0 c).before (2 : Fin 6) pt0 d))
    ∗ (∃ d, stg c cc0_stg3_0 ((dats W 0 c).before (3 : Fin 6) pt0 d))
    ∗ (∃ d, stg c cc0_stg4_0 ((dats W 0 c).before (4 : Fin 6) pt0 d))
    ∗ (∃ d, stg c cc0_stg5_0 ((dats W 0 c).before (5 : Fin 6) pt0 d)))

def bodyPost (c : Dev nD) : sProp 𝕄 :=
  iprop(Φ₁ W c ∗ (dats W 0 c).owesAt () pt0.succ
    ∗ stg c cc0_stg0_0 (fam W c).x ∗ stg c cc0_stg1_0 (fam W c).col ∗ stg c cc0_stg2_0 (fam W c).crow ∗ stg c cc0_stg3_0 (fam W c).pw
    ∗ stg c cc0_stg4_0 (fam W c).sw ∗ stg c cc0_stg5_0 (outAll (fam W) c))

theorem before_0 (c : Dev nD) (d) : (dats W 0 c).before (0 : Fin 6) pt0 d = (fam W c).x := by
  unfold Dat.before; rw [if_pos (fetch0_0 pt0)]; rfl
theorem before_1 (c : Dev nD) (d) : (dats W 0 c).before (1 : Fin 6) pt0 d = (fam W c).col := by
  unfold Dat.before; rw [if_pos (fetch0_1 pt0)]; rfl
theorem before_2 (c : Dev nD) (d) : (dats W 0 c).before (2 : Fin 6) pt0 d = (fam W c).crow := by
  unfold Dat.before; rw [if_pos (fetch0_2 pt0)]; rfl
theorem before_3 (c : Dev nD) (d) : (dats W 0 c).before (3 : Fin 6) pt0 d = (fam W c).pw := by
  unfold Dat.before; rw [if_pos (fetch0_3 pt0)]; rfl
theorem before_4 (c : Dev nD) (d) : (dats W 0 c).before (4 : Fin 6) pt0 d = (fam W c).sw := by
  unfold Dat.before; rw [if_pos (fetch0_4 pt0)]; rfl

theorem sound_body (c : Dev nD) : bodyPre W c ⊢ wp frame (wpE (defs₀ (F := F)) 𝒱₀ c none) Set.univ
    (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10)
    (fun _ => bodyPost W c) := by
  unfold bodyPre Φ₀
  iintro ⟨⟨⟨%K, #Hc, Ht⟩, HE, HS, HP⟩, HO, ⟨%d0, %g0, %h0, X⟩, ⟨%d1, %g1, %h1, COL⟩, ⟨%d2, %g2, %h2, CROW⟩, ⟨%d3, %g3, %h3, PW⟩, ⟨%d4, %g4, %h4, SW⟩, ⟨%d5, %g5, %h5, O⟩⟩
  have e0 : g0 = (fam W c).x := h0.trans (before_0 W c d0)
  have e1 : g1 = (fam W c).col := h1.trans (before_1 W c d1)
  have e2 : g2 = (fam W c).crow := h2.trans (before_2 W c d2)
  have e3 : g3 = (fam W c).pw := h3.trans (before_3 W c d3)
  have e4 : g4 = (fam W c).sw := h4.trans (before_4 W c d4)
  subst e0 e1 e2 e3 e4
  unfold Dat.owesAt Pipeline.owesWithin
  icases HO with ⟨%Wt, %hWt, HO⟩
  rw [show (dats W 0 c).owed pt0.castSucc = O₀ c from rfl]
  iapply (talk_run (fam W) K c g5)
  isplitr; · iexact Hc
  isplitr [HP]
  · isplitl [Ht]; · iexact Ht
    isplitl [HE]; · iexact HE
    isplitl [HS]; · iexact HS
    isplitl [X COL CROW PW SW]
    · unfold opnds inp
      isplitl [X]; · iexact X
      isplitl [COL]; · iexact COL
      isplitl [CROW]; · iexact CROW
      isplitl [PW]; · iexact PW
      iexact SW
    isplitl [HO]; · unfold owing; iexists Wt; iexact HO
    iexact O
  unfold opnds inp
  iintro ⟨Hb, Ho, HE, HS, ⟨X, COL, CROW, PW, SW⟩, HO, O⟩
  unfold bodyPost Φ₁
  isplitl [Hb Ho HE HS HP]
  · isplitl [Hb]; · iexact Hb
    isplitl [Ho]; · iexact Ho
    isplitl [HE]; · iexact HE
    isplitl [HS]; · iexact HS
    iexact HP
  isplitl [HO]
  · unfold owing Dat.owesAt Pipeline.owesWithin
    icases HO with ⟨%Wt', HO⟩
    iexists Wt'
    isplitr; · ipureintro; exact fun _ _ => Or.inl trivial
    iexact HO
  isplitl [X]; · iexists _; isplitr; · (ipureintro; rfl)
                 iexact X
  isplitl [COL]; · iexists _; isplitr; · (ipureintro; rfl)
                   iexact COL
  isplitl [CROW]; · iexists _; isplitr; · (ipureintro; rfl)
                    iexact CROW
  isplitl [PW]; · iexists _; isplitr; · (ipureintro; rfl)
                  iexact PW
  isplitl [SW]; · iexists _; isplitr; · (ipureintro; rfl)
                  iexact SW
  iexists _; isplitr; · (ipureintro; rfl)
  iexact O

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 40000 in
theorem body_obligation (c : Dev nD) : BodyObligation (dats (F := F) W 0 c) (defs₀ (F := F)) 𝒱₀ () Set.univ := fun t => by
  have ht : t = pt0 := fin_N0 t
  subst ht
  rw [bigSep_W, bigSep_W]
  simp only [owns_whole_eq]
  exact sound_body W c

/-! ## The region's record -/

theorem share_eq (c : Dev nD) (w : Fin cfg0.W) : (dats W 0 c).share w = fullShare := by unfold Dat.share; split <;> rfl

/-- The buffers after the region: the result at what the body leaves. -/
def V₈ (c : Dev nD) : Valuation τ sig (Elt F) := Function.update (W c) main_v45 ((dats W 0 c).arrAt (5 : Fin 6) cfg0.N)

theorem V₈_v45 (c : Dev nD) : V₈ W c main_v45 = (dats W 0 c).arrAt (5 : Fin 6) cfg0.N := by unfold V₈; rw [Function.update_self]
theorem V₈_of (c : Dev nD) (b : DevRef τ sig) (h : b ≠ Proc.devRef .tc main_v45) : V₈ W c b = W c b := by unfold V₈; rw [Function.update_of_ne h]

/-- What a device keeps from the launch for the region. -/
def Tk (c : Dev nD) : sProp 𝕄 :=
  iprop((∃ K : GSem nD τ sig → ℕ, bigSep (barCells ∪ scCells) fun g => cellInv ER (rd (fam W)) (K g) g) ∗ bars
    ∗ atPos ER (barCell c) 0 ∅ 0 ∗ (bigSep Finset.univ fun k : Fin 26 => openTok ER ((c : Thread nD τ), osem0 k)) ∗ toksAt c ∗ creds c)
def Xk (c : Dev nD) : sProp 𝕄 := iprop(∃ K, ctx (fam W) K ∗ talkIn c)
def Yk (c : Dev nD) : sProp 𝕄 := semVal (barCell c) 0

theorem hopen0 (c : Dev nD) : iprop(Tk W c ∗ Pipeline.ownSems0 osem0 c ∗ levAts L lv) ⊢ (|={Set.univ}=> Xk W c : sProp 𝕄) := by
  unfold Tk Xk
  iintro ⟨⟨⟨%K, #HI⟩, #HB, PB, Ho, Ht, Hc⟩, Hs, #Hl⟩
  ihave #Hctx : (ctx (fam W) K : sProp 𝕄) $$ []
  · unfold ctx
    isplitr; · iexact HI
    iexact Hl
  imod (open_all (fam W) K c) $$ [Ho Hs] with Hop
  · isplitr; · iexact Hctx
    isplitl [Ho] <;> iassumption
  imodintro
  iexists K
  isplitr; · iexact Hctx
  unfold talkIn
  isplitr; · iexact HB
  isplitl [PB]; · iexact PB
  isplitl [Hop]; · iexact Hop
  isplitl [Ht] <;> iassumption

abbrev Hs : Finset (DevRef τ sig) := {Proc.devRef .tc main_arg3}
abbrev Sr : Finset (DevRef τ sig) := Pipeline.ucRefs τ sig \ Pipeline.arrRefs (τ := τ) spec0

theorem Hs_sub : Hs ⊆ Sr := by decide
theorem held_Hs (c : Dev nD) (X : Valuation τ sig (Elt F)) :
    (StableHlo.held (c.tc : Thread nD τ) Hs X : sProp 𝕄) = (((c : Thread nD τ).loc main_arg3) ↦{fullShare} X (Proc.devRef .tc main_arg3)) := by
  unfold StableHlo.held
  rw [BI.bigSep_singleton]

theorem scoped_eq (c : Dev nD) : (Pipeline.scopedRest (Pipeline.pin (pcfgs (F := F)) adm 0).spec c : sProp 𝕄) = scratch c := by
  unfold scratch bufAny
  exact scopedRest0_eq c

theorem hin0 (c : Dev nD) : iprop(Pipeline.scopedRest (Pipeline.pin (pcfgs (F := F)) adm 0).spec c ∗ (∃ r, prngReg c r) ∗ StableHlo.held (c.tc : Thread nD τ) Hs (W c) ∗ Xk W c)
    ⊢ (dats W 0 c).Φ 0 := by
  rw [show (dats W 0 c).Φ 0 = Φ₀ W c from rfl, scoped_eq, held_Hs]
  unfold Φ₀ Xk ewAll
  iintro ⟨HS, HP, HE, HX⟩
  isplitl [HX]; · iexact HX
  isplitl [HE]; · iexact HE
  isplitl [HS] <;> iassumption

theorem hout0 (c : Dev nD) : (dats W 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₈ W c) ∗ Pipeline.ownSems0 osem0 c ∗ Yk c) := by
  rw [show (dats W 0 c).Φ (Fin.last _) = Φ₁ W c from rfl, scoped_eq, held_Hs, V₈_of W c _ (by decide)]
  unfold Φ₁ Yk ewAll
  iintro ⟨Hb, Ho, HE, HS, HP⟩
  isplitl [HS]; · iexact HS
  isplitl [HP]; · iexact HP
  isplitl [HE]; · iexact HE
  isplitl [Ho] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem at_pos {g g' : GSem nD τ sig} {n : ℕ} (h : 0 < (tallyAt g () n : CellTallies nD τ sig Unit) g' ()) : g' = g := by
  rw [tallyAt_apply] at h
  split at h
  · next hg => exact hg.1
  · exact absurd h (Nat.lt_irrefl 0)

/-- Whatever a device owes at the start lies above the staging counters. -/
theorem lv_pos (c : Dev nD) (g : GSem nD τ sig) (i : Unit) (h : 0 < O₀ c g i) : i ∈ L g ∧ (0 : ℕ) < lv g i := by
  cases i
  unfold O₀ at h
  rw [Pi.add_apply, Pi.add_apply, Finsupp.add_apply, Finsupp.add_apply] at h
  rcases Nat.add_pos_iff_pos_or_pos.mp h with h | h
  · rcases Nat.add_pos_iff_pos_or_pos.mp h with h | h
    · obtain ⟨k, _, rfl⟩ := tallies_pos h
      exact ⟨by rw [L_tc]; exact Finset.mem_singleton_self _, by rw [lv_rcv]; omega⟩
    · obtain rfl := at_pos h
      exact ⟨by rw [L_tc]; exact Finset.mem_singleton_self _, by rw [lv_bar]; decide⟩
  · obtain rfl := at_pos h
    exact ⟨by rw [L_tc]; exact Finset.mem_singleton_self _, by rw [lv_bar]; decide⟩

theorem cut0 (c : Dev nD) (t : Fin ((Pipeline.pin (pcfgs (F := F)) adm 0).N + 1)) (g : GSem nD τ sig) (i : Unit) (h : 0 < (dats (F := F) W 0 c).owed t g i) :
    i ∈ L g ∧ (0 : ℕ) < lv g i := by
  match t, h with
  | ⟨0, _⟩, h => exact lv_pos c g i h
  | ⟨_ + 1, _⟩, h => exact absurd h (Nat.lt_irrefl 0)

theorem arr_in (c : Dev nD) (w : Fin 6) : (dats W 0 c).arrAt w (Pipeline.pin (pcfgs (F := F)) adm 0).N = V₈ W c (Proc.devRef .tc (Pipeline.arrRef (Pipeline.pin (pcfgs (F := F)) adm 0).spec w)) := by
  match w with
  | 0 => exact ((dats W 0 c).arrAt_in (0 : Fin 6) rfl _).trans (V₈_of W c (Proc.devRef .tc main_arg0) (by decide)).symm
  | 1 => exact ((dats W 0 c).arrAt_in (1 : Fin 6) rfl _).trans (V₈_of W c (Proc.devRef .tc main_v42) (by decide)).symm
  | 2 => exact ((dats W 0 c).arrAt_in (2 : Fin 6) rfl _).trans (V₈_of W c (Proc.devRef .tc main_v43) (by decide)).symm
  | 3 => exact ((dats W 0 c).arrAt_in (3 : Fin 6) rfl _).trans (V₈_of W c (Proc.devRef .tc main_v44) (by decide)).symm
  | 4 => exact ((dats W 0 c).arrAt_in (4 : Fin 6) rfl _).trans (V₈_of W c (Proc.devRef .tc main_arg4) (by decide)).symm
  | 5 => exact (V₈_v45 W c).symm

theorem stage_L (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) () ≤ 0 := by
  revert c w s
  exact (by decide : ∀ (c : Dev nD) (w : Fin 6) (s : Fin (spec0 w).nbuf), lv ((c : Thread nD τ), .dma ((spec0 w).sem s)) () ≤ 0)

set_option backward.isDefEq.respectTransparency.types false in
/-- The region. -/
def reg0 : Pipeline.RegionSeg (pcfgs (F := F)) adm (dats W) () defs₀ 𝒱₀ L lv 0 :=
  Pipeline.RegionSeg.ofTalk (pcfgs (F := F)) adm (dats W) () defs₀ 𝒱₀ L lv 0 osem0 (by decide : Pipeline.OwnSemFacts spec0 osem0)
    Hs Sr Hs_sub kitP rfl (fun c => (body_obligation W c).loose)
    (fun _ => 0) O₀ (fun c => (zero_add _).symm) (fun _ => rfl) (fun _ => rfl) (share_eq W)
    W (V₈ W) (fun c b hb => V₈_of W c b (by rintro rfl; revert hb; decide))
    (Tk W) Yk (Xk W) Yk (hopen0 W) (hin0 W) (hout0 W)
    (fun c => by iintro H; imodintro; iexact H)
    (fun _ => 0)
    ⟨fun c w s => by rw [L_tc]; exact Finset.mem_singleton_self _, stage_L, cut0 W⟩
    (fun _ => iprop(emp))
    (fun _ _ => rfl) (arr_in W)

end Cert.KernelIdeal.Moe

end
-- ==== Proof.Run.lean ====
/-
THE RUN: from any memory with zero counters, @main on the four devices, with its host part and its exchange.
-/
module

public import proofs.«01_k».proof.Proof.Tokens
public import proofs.«01_k».proof.Proof.Region

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

variable (m : (ℓ : Loc nD τ sig) → Buf (Elt F) ℓ) (ρ : Dev nD → PrngReg)

/-- What each device holds beside its buffers, before the exchange and after it. -/
def rest (j : Fin 2) (c : Dev nD) : sProp 𝕄 := match j with
  | 0 => iprop((∃ r, prngReg c r) ∗ Tk (V7 m) c ∗ ∃ Wd, owes (c : Thread nD τ) (O₀ c) Wd)
  | 1 => iprop(Yk (F := F) c ∗ ∃ Wd, owes (c : Thread nD τ) (0 : CellTallies nD τ sig Unit) Wd)

/-! ## The launch -/

def lone (c₀ : Dev nD) (X : sProp 𝕄) (c : Dev nD) : sProp 𝕄 := if c = c₀ then X else iprop(emp)

theorem bigSep_lone (c₀ : Dev nD) (X : sProp 𝕄) : bigSep Finset.univ (lone c₀ X) = X := by
  rw [bigSep_univ_at _ c₀, show lone c₀ X c₀ = X from if_pos rfl,
    bigSep_congr (s := Finset.univ.erase c₀) (Φ := lone c₀ X) (Ψ := fun _ => (BI.emp : sProp 𝕄)) fun c h => if_neg (Finset.ne_of_mem_erase h),
    BI.bigSep_emp_const]
  exact BI.equiv_iff.mp sep_emp

def u₀ : UU := (initOf (Pipeline.cells (Pipeline.pin (pcfgs (F := F)) adm) cellOf_inj) (Pipeline.launchToks (Pipeline.pin (pcfgs (F := F)) adm) cellOf_inj),
  launchOf barCells scCells unitToks)

def G (c : Dev nD) : sProp 𝕄 := lone 0 (BI.own (ER (launchOf barCells scCells unitToks))) c

theorem cells_disjoint : Disjoint (barCells : Finset (GSem nD τ sig)) scCells := by
  rw [Finset.disjoint_left]
  intro g hb hs
  obtain ⟨c, -, rfl⟩ := Finset.mem_map.mp hb
  obtain ⟨⟨d, k⟩, -, h⟩ := Finset.mem_map.mp hs
  exact osem0_ne_bar k (congrArg (fun g : GSem nD τ sig => g.2) h)

theorem unscopedSems0_eq (c : Dev nD) : (unscopedSems0 c : sProp 𝕄) = semVal (barCell c) 0 := by
  unfold unscopedSems0
  rw [show (Finset.univ.filter fun sm : SemLoc sig => ¬ sm.isScoped .tc) = {semB} from by decide, BI.bigSep_singleton]

/-- What a device holds at the start that is its own already. -/
def plain (c : Dev nD) : sProp 𝕄 :=
  iprop(StableHlo.held (c : Thread nD τ) (Pipeline.ucRefs τ sig) (V0 m c) ∗ (∃ r, prngReg c r) ∗ creds c ∗ ∃ Wd, owes (c : Thread nD τ) (O₀ c) Wd)

def dealt (c : Dev nD) : sProp 𝕄 :=
  iprop(atPos ER (barCell c) 0 ∅ 0 ∗ (bigSep Finset.univ fun k : Fin 26 => openTok ER ((c : Thread nD τ), osem0 k)) ∗ toksAt c)

def records (K : GSem nD τ sig → ℕ) : sProp 𝕄 :=
  iprop((bigSep (barCells ∪ scCells) fun g => cellInv ER (rd (fam (V7 m))) (K g) g) ∗ bars)
instance records_persistent (K : GSem nD τ sig → ℕ) : BI.Persistent (records m K) := by unfold records; infer_instance

theorem start (K : GSem nD τ sig → ℕ) (c : Dev nD) :
    iprop(records m K ∗ dealt c ∗ plain m c) ⊢ (iprop(StableHlo.held (c : Thread nD τ) (Pipeline.ucRefs τ sig) (V0 m c) ∗ rest m 0 c) : sProp 𝕄) := by
  unfold records dealt plain rest Tk
  iintro ⟨⟨#HI, #HB⟩, ⟨Ha, Ho, Ht⟩, Hh, Hp, Hc, HO⟩
  isplitl [Hh]; · iexact Hh
  isplitl [Hp]; · iexact Hp
  isplitr [HO]
  · isplitr; · iexists K; iexact HI
    isplitr; · iexact HB
    isplitl [Ha]; · iexact Ha
    isplitl [Ho]; · iexact Ho
    isplitl [Ht] <;> iassumption
  · iexact HO

theorem core_split (c : Dev nD) : iprop(unscopedBufs c (fun b => m ((c.tc : Thread nD τ).loc b)) ∗ unscopedSems0 c
      ∗ owes (c : Thread nD τ) (O₀ c) ∅ ∗ Pipeline.launchCred O₀ c ∗ prngReg c (ρ c) ∗ G c)
    ⊢ (iprop(plain m c ∗ (semVal (barCell c) 0 ∗ G c)) : sProp 𝕄) := by
  rw [show unscopedBufs c (fun b => m ((c.tc : Thread nD τ).loc b)) = StableHlo.held (c : Thread nD τ) (Pipeline.ucRefs τ sig) (V0 m c)
    from Pipeline.unscopedBufs_held (Ix := Unit) (Name := ℕ) (U := UU) (Lvl := ℕ) c (V0 m c), unscopedSems0_eq]
  unfold plain
  iintro ⟨Hh, Hus, HO, Hcr, Hp, HG⟩
  ihave Hc := (creds_of (F := F) c) $$ Hcr
  isplitl [Hh Hc HO Hp]
  · isplitl [Hh]; · iexact Hh
    isplitl [Hp]; · iexists (ρ c); iexact Hp
    isplitl [Hc]; · iexact Hc
    iexists _; iexact HO
  · isplitl [Hus] <;> iassumption

theorem cores_split : (bigSep Finset.univ fun c : Dev nD => iprop(unscopedBufs c (fun b => m ((c.tc : Thread nD τ).loc b)) ∗ unscopedSems0 c
      ∗ owes (c : Thread nD τ) (O₀ c) ∅ ∗ Pipeline.launchCred O₀ c ∗ prngReg c (ρ c) ∗ G c))
    ⊢ (bigSep Finset.univ fun c : Dev nD => iprop(plain m c ∗ (semVal (barCell c) 0 ∗ G c)) : sProp 𝕄) := bigSep_mono fun c _ => core_split m ρ c

theorem cells_core {Φ : GSem nD τ sig → sProp 𝕄} : bigSep barCells Φ = bigSep Finset.univ (fun c : Dev nD => Φ (barCell c)) :=
  bigSep_map (s := Finset.univ) barEmb (Φ := Φ)

theorem cells_own {Φ : GSem nD τ sig → sProp 𝕄} :
    bigSep scCells Φ = bigSep Finset.univ (fun c : Dev nD => bigSep Finset.univ fun k : Fin 26 => Φ ((c : Thread nD τ), osem0 k)) := by
  rw [bigSep_map, bigSep_univ_prod]; rfl

theorem apart {Φ Ψ : Dev nD → sProp 𝕄} : (bigSep Finset.univ fun c => iprop(Φ c ∗ Ψ c)) ⊢ iprop(bigSep Finset.univ Φ ∗ bigSep Finset.univ Ψ) :=
  BIBase.Entails.of_eq (bigSep_sep' _ _ _)
theorem beside {Φ Ψ : Dev nD → sProp 𝕄} : iprop(bigSep Finset.univ Φ ∗ bigSep Finset.univ Ψ) ⊢ bigSep Finset.univ fun c => iprop(Φ c ∗ Ψ c) :=
  BIBase.Entails.of_eq (bigSep_sep' _ _ _).symm

theorem init : iprop((bigSep Finset.univ fun c : Dev nD => iprop(unscopedBufs c (fun b => m ((c.tc : Thread nD τ).loc b)) ∗ unscopedSems0 c
        ∗ owes (c : Thread nD τ) (O₀ c) ∅ ∗ Pipeline.launchCred O₀ c ∗ prngReg c (ρ c) ∗ G c)) ∗ levAts L lv)
    ⊢ (|={Set.univ}=> bigSep Finset.univ fun c : Dev nD => iprop(StableHlo.held (c : Thread nD τ) (Pipeline.ucRefs τ sig) (V0 m c) ∗ rest m 0 c) : sProp 𝕄) := by
  iintro ⟨H, -⟩
  ihave H' := (cores_split m ρ) $$ H
  ihave H2 := apart $$ H'; icases H2 with ⟨HB, H3⟩
  ihave H4 := apart $$ H3; icases H4 with ⟨Hv, HG⟩
  ihave Hu := (BIBase.Entails.of_eq (bigSep_lone (F := F) 0 (BI.own (ER (launchOf barCells scCells unitToks)))) :
    bigSep Finset.univ (G (F := F)) ⊢ BI.own (ER (launchOf barCells scCells unitToks))) $$ HG
  ihave Hw := (BIBase.Entails.of_eq (cells_core (F := F) (Φ := fun g => semVal g 0)).symm) $$ Hv
  imod (Rounds.fund_launch ER (rd (fam (V7 m))) cells_disjoint (fun g _ h => h) unitToks) $$ [Hw Hu] with ⟨%κ, -, #Hinv, #Hr, Hat, Hopen, Htok⟩
  · isplitl [Hw] <;> iassumption
  imodintro
  iapply (bigSep_with_persistent (R := records m κ) (Φ := fun c => iprop(dealt c ∗ plain m c)) fun c _ => start m κ c)
  isplitr
  · unfold records bars
    isplitr; · iexact Hinv
    iexact Hr
  iapply beside
  isplitr [HB]
  · unfold dealt
    iapply beside
    isplitl [Hat]; · iapply (BIBase.Entails.of_eq (cells_core (F := F) (Φ := fun g => atPos ER g 0 ∅ 0))) $$ Hat
    iapply beside
    isplitl [Hopen]; · iapply (BIBase.Entails.of_eq (cells_own (F := F) (Φ := fun g => openTok ER g))) $$ Hopen
    iapply (toks_around (F := F))
    iapply (BIBase.Entails.of_eq (toks_eq (F := F))) $$ Htok
  · iexact HB

/-! ## Into the exchange and out of it -/

theorem sub_uc : (Pipeline.arrRefs (τ := τ) spec0) ⊆ Pipeline.ucRefs τ sig := by decide

theorem into (W : Dev nD → Valuation τ sig (Elt F)) (c : Dev nD) :
    iprop(StableHlo.held (c : Thread nD τ) (Pipeline.ucRefs τ sig) (W c) ∗ ((∃ r, prngReg c r) ∗ Tk W c ∗ ∃ Wd, owes (c : Thread nD τ) (O₀ c) Wd)) ⊢ (reg0 W).pre c := by
  show _ ⊢ iprop(StableHlo.held (c : Thread nD τ) (Pipeline.arrRefs spec0) (W c) ∗ (∃ r, prngReg c r)
    ∗ (StableHlo.held (c : Thread nD τ) Sr (W c) ∗ emp) ∗ Tk W c ∗ ∃ Wd, owes (c : Thread nD τ) (0 + O₀ c) Wd)
  rw [StableHlo.held_sub_split (c : Thread nD τ) sub_uc (W c), zero_add]
  unfold Sr
  iintro ⟨⟨Ha, Hs⟩, Hp, HT, HO⟩
  isplitl [Ha]; · iexact Ha
  isplitl [Hp]; · iexact Hp
  isplitl [Hs]
  · isplitl [Hs]; · iexact Hs
    iempintro
  isplitl [HT] <;> iassumption

theorem outof (W : Dev nD → Valuation τ sig (Elt F)) (c : Dev nD) :
    (reg0 W).post c ⊢ iprop((StableHlo.held (c : Thread nD τ) (Pipeline.ucRefs τ sig) (V₈ W c) ∗ Yk (F := F) c) ∗ ∃ Wd, owes (c : Thread nD τ) (0 : CellTallies nD τ sig Unit) Wd) := by
  show iprop(StableHlo.held (c : Thread nD τ) (Pipeline.arrRefs spec0) (V₈ W c) ∗ (∃ r, prngReg c r)
    ∗ (StableHlo.held (c : Thread nD τ) Sr (V₈ W c) ∗ emp) ∗ Yk c ∗ ∃ Wd, owes (c : Thread nD τ) 0 Wd) ⊢ _
  rw [StableHlo.held_sub_split (c : Thread nD τ) sub_uc (V₈ W c)]
  unfold Sr
  iintro ⟨Ha, -, ⟨Hs, -⟩, HY, HO⟩
  isplitr [HO]
  · isplitr [HY]
    · isplitl [Ha] <;> iassumption
    · iexact HY
  · iexact HO

/-! ## The run -/

theorem kept (c : Dev nD) (r : Ref sig .tc) (h1 : (Proc.devRef .tc r : DevRef τ sig) ≠ Proc.devRef .tc main_v45) (h2 : V7 m c (Proc.devRef .tc r) = m ((c.tc : Thread nD τ).loc r)) :
    V₈ (V7 m) c (Proc.devRef .tc r) = m ((c.tc : Thread nD τ).loc r) := (V₈_of (V7 m) c _ h1).trans h2

theorem unscoped_eq : ∀ sm : SemLoc sig, sm.isScoped .tc = false → sm = semB := by decide

/-- What a device's memory and barrier end as. -/
def ends (c : Dev nD) (s : MemSt nD τ sig (Elt F)) : Prop :=
  (∀ b ∈ Pipeline.ucRefs τ sig, s.mem (c, b) = V₈ (V7 m) c b) ∧ s.sem (barCell c) = 0

set_option backward.isDefEq.respectTransparency.types false in
theorem run_ends : θ_run defs (onTc (τ := τ) (main (F := F))) ⟨m, fun _ => 0, ρ⟩ (fun r => (∀ c : Dev nD, ends m c r.2) ∧ r.2.sem = fun _ => 0) := by
  refine Pipeline.θ_run_regions_kit_dev_sems (pcfgs (F := F)) adm (dats (V7 m)) () cellOf_inj EP defs₀ 𝒱₀ L lv m ρ main
    (segs m 𝒱₀ L lv (rest m) () (dats (V7 m)) (reg0 (V7 m)))
    (fun c Q => by
      rewrite [main_chain c, Seg.run_eq_chain,
        show (segs m 𝒱₀ L lv (rest m) () (dats (V7 m)) (reg0 (V7 m)) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_lone]; iexact HX)
    (T₀ := fun c => iprop(StableHlo.held (c : Thread nD τ) (Pipeline.ucRefs τ sig) (V0 m c) ∗ rest m 0 c))
    (Tₙ := fun c => iprop(StableHlo.held (c : Thread nD τ) (Pipeline.ucRefs τ sig) (V₈ (V7 m) c) ∗ Yk (F := F) c))
    (hch := fun c => ⟨.rfl, .rfl, .rfl, .rfl, .rfl, .rfl, .rfl, into (V7 m) c, outof (V7 m) c⟩)
    (hinit := init m ρ) (QY := ends m)
    (hfin := fun c s' => ?_)
    (hQ := fun s h hs => ⟨h, sem_eq_zero hs fun c sm hsm => by
      obtain rfl := unscoped_eq sm hsm
      exact (h c).2⟩)
  unfold StableHlo.held Yk ends
  iintro ⟨⟨Hh, Hb⟩, HSI⟩
  icombine HSI Hb gives %hb
  ihave Hr := (pointsTo_read_all (Pipeline.ucRefs τ sig) (fun b => ((c : Thread nD τ).1, b)) (V₈ (V7 m) c) s') $$ [Hh HSI]
  · isplitl [Hh] <;> iassumption
  icases Hr with ⟨%h, HSI⟩
  imodintro
  isplitr
  · ipureintro
    exact ⟨h, by simpa using hb⟩
  · iexact HSI

end Cert.KernelIdeal.Moe

end
-- ==== Proof.Same.lean ====
/-
The kernel at machine floats and the kernel at the reals have the same text: over any float values they are the same program.
-/
module

public import proofs.«01_k».proof.Proof.Gen.KernelIdeal.Regions
public import proofs.«01_k».proof.Proof.Gen.Kernel.Regions

@[expose] public section
noncomputable section
namespace Cert.KernelIdeal.Moe.Same
open Idealize.ShloMosaic
variable {F : FTy → Type} [FloatOps F]
theorem defs₀_eq : Cert.Kernel.defs₀ (F := F) = Cert.KernelIdeal.defs₀ (F := F) := by
  unfold Cert.Kernel.defs₀ Cert.KernelIdeal.defs₀
  refine congrArg _ (funext fun l => funext fun x => ?_)
  match l, x with
  | 0, (t, s) => rfl
theorem defs_eq : Cert.Kernel.defs (F := F) = Cert.KernelIdeal.defs (F := F) := by
  unfold Cert.Kernel.defs Cert.KernelIdeal.defs
  rw [defs₀_eq]; rfl
theorem h0 (c : Dev Cert.KernelIdeal.nD) : Cert.Kernel.Gen.hostOps0 (F := F) c = Cert.KernelIdeal.Gen.hostOps0 (F := F) c := rfl
theorem h1 : Cert.Kernel.Gen.hostOps0_1 (F := F) = Cert.KernelIdeal.Gen.hostOps0_1 (F := F) := rfl
theorem h2 : Cert.Kernel.Gen.hostOps0_2 (F := F) = Cert.KernelIdeal.Gen.hostOps0_2 (F := F) := rfl
theorem h3 : Cert.Kernel.Gen.hostOps0_3 (F := F) = Cert.KernelIdeal.Gen.hostOps0_3 (F := F) := rfl
theorem h4 : Cert.Kernel.Gen.hostOps0_4 (F := F) = Cert.KernelIdeal.Gen.hostOps0_4 (F := F) := rfl
theorem h5 : Cert.Kernel.Gen.hostOps0_5 (F := F) = Cert.KernelIdeal.Gen.hostOps0_5 (F := F) := rfl
theorem h6 : Cert.Kernel.Gen.hostOps0_6 (F := F) = Cert.KernelIdeal.Gen.hostOps0_6 (F := F) := rfl
theorem main_eq : Cert.Kernel.main (F := F) = Cert.KernelIdeal.main (F := F) := by
  funext c
  rw [Cert.Kernel.Gen.main_chain, Cert.KernelIdeal.Gen.main_chain, h0, h1, h2, h3, h4, h5, h6]
end Cert.KernelIdeal.Moe.Same
end
-- ==== Proof.Frames.lean ====
/-
The frames: what a run leaves unchanged, of the kernel at machine floats, of the kernel at the reals, and of the reference.
-/
module

public import proofs.«01_k».proof.Defs
public import proofs.«01_k».proof.Proof.Run
public import proofs.«01_k».proof.Proof.Same
public import proofs.«01_k».proof.Proof.Gen.ReferenceIdeal
public import proofs.«01_k».proof.Proof.Gen.ReferenceIdeal.Run

@[expose] public section

noncomputable section

namespace Cert.KernelIdeal.Moe

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- A buffer no host stretch writes is as launched when the exchange begins. -/
theorem before (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) : V7 m c (Proc.devRef .tc r) = m ((c.tc : Thread nD τ).loc r) :=
  (V7_of m c r h6).trans <| (V6_of m c r h5).trans <| (V5_of m c r h4).trans <| (V4_of m c r h3).trans <| (V3_of m c r h2).trans <|
    (V2_of m c r h1).trans <| (V1_of m c r h0).trans rfl

theorem before_arg0 (c : Dev nD) : V7 m c (Proc.devRef .tc main_arg0) = m ((c.tc : Thread nD τ).loc main_arg0) :=
  before m c main_arg0 (by decide) (by decide) (by decide) (by decide) (by decide) (by decide) (by decide)
theorem before_arg1 (c : Dev nD) : V7 m c (Proc.devRef .tc main_arg1) = m ((c.tc : Thread nD τ).loc main_arg1) :=
  before m c main_arg1 (by decide) (by decide) (by decide) (by decide) (by decide) (by decide) (by decide)
theorem before_arg2 (c : Dev nD) : V7 m c (Proc.devRef .tc main_arg2) = m ((c.tc : Thread nD τ).loc main_arg2) :=
  before m c main_arg2 (by decide) (by decide) (by decide) (by decide) (by decide) (by decide) (by decide)
theorem before_arg3 (c : Dev nD) : V7 m c (Proc.devRef .tc main_arg3) = m ((c.tc : Thread nD τ).loc main_arg3) :=
  before m c main_arg3 (by decide) (by decide) (by decide) (by decide) (by decide) (by decide) (by decide)
theorem before_arg4 (c : Dev nD) : V7 m c (Proc.devRef .tc main_arg4) = m ((c.tc : Thread nD τ).loc main_arg4) :=
  before m c main_arg4 (by decide) (by decide) (by decide) (by decide) (by decide) (by decide) (by decide)

theorem uc (r : Ref sig .tc) (h : r.isScoped = false) : (Proc.devRef .tc r : DevRef τ sig) ∈ Pipeline.ucRefs τ sig :=
  Finset.mem_filter.mpr ⟨StableHlo.devRef_mem_tcRefs r, by simpa using h⟩

/-- From any memory with zero counters: the result is what the exchange leaves, the arguments are unchanged, every counter is zero. -/
theorem run_main : θ_run defs (onTc (τ := τ) (main (F := F))) ⟨m, fun _ => 0, ρ⟩ (fun r =>
    (∀ c : Dev nD, r.2.mem ((c.tc : Thread nD τ).loc main_v45) = (dats (V7 m) 0 c).arrAt (5 : Fin 6) cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨((h.1 c).1 _ (uc main_v45 (by decide))).trans (V₈_v45 (V7 m) c),
    ((h.1 c).1 _ (uc main_arg0 (by decide))).trans (kept m c main_arg0 (by decide) (before_arg0 m c)),
    ((h.1 c).1 _ (uc main_arg1 (by decide))).trans (kept m c main_arg1 (by decide) (before_arg1 m c)),
    ((h.1 c).1 _ (uc main_arg2 (by decide))).trans (kept m c main_arg2 (by decide) (before_arg2 m c)),
    ((h.1 c).1 _ (uc main_arg3 (by decide))).trans (kept m c main_arg3 (by decide) (before_arg3 m c)),
    ((h.1 c).1 _ (uc main_arg4 (by decide))).trans (kept m c main_arg4 (by decide) (before_arg4 m c))⟩, h.2⟩) (run_ends m ρ)

attribute [local instance] Cert.Kernel.Gen.facts Cert.KernelIdeal.Gen.facts Cert.ReferenceIdeal.Gen.facts

theorem frame_kernelIdeal : Cert.quiescent_KernelIdeal := fun m ρ _ =>
  (θ_run defs _ _).mono (fun _ h => ⟨fun c => (h.1 c).2, h.2⟩) (run_main (F := Ideal) m ρ)

theorem frame_kernel : Cert.quiescent_Kernel := fun m ρ _ => by
  rw [Same.defs_eq, Same.main_eq]
  exact (θ_run defs _ _).mono (fun _ h => ⟨fun c => (h.1 c).2, h.2⟩) (run_main (F := Bits) m ρ)

theorem no_counter : IsEmpty (SemLoc Cert.ReferenceIdeal.sig) := ⟨by decide⟩

theorem frame_reference : Cert.quiescent_ReferenceIdeal := fun m ρ _ =>
  (θ_run Cert.ReferenceIdeal.defs _ _).mono (fun r h => ⟨fun c => (h c).2, funext fun g => (no_counter.false g.2).elim⟩)
    (Cert.ReferenceIdeal.Value.run (F := Ideal) m ρ)

end Cert.KernelIdeal.Moe

end
-- ==== Proof.Pay.lean ====
/-
The kernel's vector expressions at an index, over the extended reals.
-/
module

public import proofs.«01_k».proof.Proof.Values
public import Idealize.ShloMosaic.Lib.Pointwise

@[expose] public section

noncomputable section

namespace Cert.KernelIdeal.Moe

open Cert.KernelIdeal Cert.KernelIdeal.Gen
open Idealize.ShloMosaic
open Idealize.ShloMosaic.TcCoe

/-- A choice by an equality of words. -/
theorem select_eq_word {α : Type} {n : ℕ} (a b : BitVec n) (u v : α) : Scalar.select (IntOp.cmpi .eq a b) u v = if a = b then u else v := by
  by_cases h : a = b
  · simp [Scalar.select, IntOp.cmpi, h]
  · simp [Scalar.select, IntOp.cmpi, h, show (a == b) = false by simpa using h]

/-- An equality of words as a number. -/
theorem sitofp_eq_word (a b : BitVec 32) :
    (FloatOps.sitofp (F := Ideal) .f32 (BitVec.setWidth 32 (IntOp.cmpi .eq a b)) : EReal) = if a = b then 1 else 0 := by
  by_cases h : a = b
  · rw [if_pos h]
    show (((BitVec.setWidth 32 (IntOp.cmpi .eq a b)).toInt : ℝ) : EReal) = 1
    simp [IntOp.cmpi, h]
  · rw [if_neg h]
    show (((BitVec.setWidth 32 (IntOp.cmpi .eq a b)).toInt : ℝ) : EReal) = 0
    simp [IntOp.cmpi, h, show (a == b) = false by simpa using h]

/-- The row of `ys` that column `k` names, weighted: a sum over the columns in which only column `k` counts. -/
def mixE (ys : FVec Ideal S1024x1024 .bf16) (k : BitVec 32) (p : EReal) (h : Fin 1024) : EReal :=
  ∑ s : Fin 1024, if BitVec.ofNat 32 s.val = k then p * (ys (ix2 s h) : EReal) else 0

/-- Column `k` of the left half, and of the right. -/
def lcol (k : Fin 512) : Fin 1024 := ⟨k.val, by omega⟩
def rcol (k : Fin 512) : Fin 1024 := ⟨512 + k.val, by omega⟩

/-! ## The products -/

variable (ys : FVec Ideal S1024x1024 .bf16) (col : IVec S512x1 32) (pw : FVec Ideal S512x1 .f32)

theorem pay14_apply (x : FVec Ideal S512x1024 .f32) (sw : FVec Ideal S1024x1024 .f32) (i : Fin 512) (h : Fin 1024) :
    k0_pay14 (F := Ideal) ys col pw x sw (ix2 i h)
      = mixE ys (col (ix2 i 0)) (pw (ix2 i 0)) h + ∑ d : Fin 1024, (x (ix2 i d) : EReal) * (sw (ix2 d h) : EReal) := by
  unfold mixE
  pointwise [k0_pay14]
  simp only [select_eq_word]

theorem pay28_apply (i : Fin 512) (h : Fin 1024) :
    k0_pay28 (F := Ideal) ys col pw (ix2 i h) = mixE ys (col (ix2 i 0)) (pw (ix2 i 0)) h := by
  unfold mixE
  pointwise [k0_pay28]
  simp only [select_eq_word]

theorem pay20_apply (i k : Fin 512) :
    k0_pay20 (F := Ideal) ys (k0_pay18 (F := Ideal) col) (k0_pay19 (F := Ideal) pw) (ix2 i k) = mixE ys (col (ix2 i 0)) (pw (ix2 i 0)) (lcol k) := by
  unfold mixE lcol
  pointwise [k0_pay20, k0_pay18, k0_pay19]
  simp only [select_eq_word]

theorem pay21_apply (i k : Fin 512) :
    k0_pay21 (F := Ideal) ys col pw (ix2 i k) = mixE ys (col (ix2 i 0)) (pw (ix2 i 0)) (rcol k) := by
  unfold mixE rcol
  pointwise [k0_pay21]
  simp only [select_eq_word]

theorem pay34_apply (i k : Fin 512) :
    k0_pay34 (F := Ideal) ys (iota .tc S512x1024 32 [1] iota_S512x1024_d1_w32) (k0_pay33 (F := Ideal) col) pw (ix2 i k)
      = mixE ys (col (ix2 i 0)) (pw (ix2 i 0)) (lcol k) := by
  unfold mixE lcol
  pointwise [k0_pay34, k0_pay33]
  simp only [select_eq_word]

theorem pay35_apply (i k : Fin 512) :
    k0_pay35 (F := Ideal) ys col pw (ix2 i k) = mixE ys (col (ix2 i 0)) (pw (ix2 i 0)) (rcol k) := by
  unfold mixE rcol
  pointwise [k0_pay35]
  simp only [select_eq_word]

theorem pay4_apply (x : FVec Ideal S2048x1024 .f32) (crow : IVec S1x2048 32) (s d : Fin 1024) :
    (k0_pay4 (F := Ideal) (k0_pay2 x) (k0_pay3 crow) (ix2 s d) : EReal)
      = ∑ i : Fin 2048, (if BitVec.ofNat 32 s.val = crow (ix2 0 i) then (1 : EReal) else 0) * (x (ix2 i d) : EReal) := by
  pointwise [k0_pay4, k0_pay2, k0_pay3]
  simp only [sitofp_eq_word]

/-! ## The expert products -/

theorem pay5_apply (x : FVec Ideal S2048x1024 .f32) (crow : IVec S1x2048 32) (w : FVec Ideal S1x1024x1024 .f32) (r : Fin 128) (h : Fin 1024) :
    (k0_pay5 (F := Ideal) (k0_pay2 x) (k0_pay3 crow) w (ix2 r h) : EReal)
      = ∑ d : Fin 1024, (k0_pay4 (F := Ideal) (k0_pay2 x) (k0_pay3 crow) (ix2 ⟨0 + r.val, by omega⟩ d) : EReal) * (w (ix3 0 d h) : EReal) := by
  generalize hg : k0_pay4 (F := Ideal) (k0_pay2 x) (k0_pay3 crow) = g
  unfold k0_pay5
  rw [hg]
  pointwise []

theorem pay6_apply (v : FVec Ideal S1024x1024 .bf16) (w : FVec Ideal S1x1024x1024 .f32) (r : Fin 128) (h : Fin 1024) :
    (k0_pay6 (F := Ideal) v w (ix2 r h) : EReal) = ∑ d : Fin 1024, (v (ix2 ⟨128 + r.val, by omega⟩ d) : EReal) * (w (ix3 0 d h) : EReal) := by
  pointwise [k0_pay6]

theorem pay7_apply (v : FVec Ideal S1024x1024 .bf16) (w : FVec Ideal S1x1024x1024 .f32) (r : Fin 128) (h : Fin 1024) :
    (k0_pay7 (F := Ideal) v w (ix2 r h) : EReal) = ∑ d : Fin 1024, (v (ix2 ⟨256 + r.val, by omega⟩ d) : EReal) * (w (ix3 0 d h) : EReal) := by
  pointwise [k0_pay7]

theorem pay8_apply (v : FVec Ideal S1024x1024 .bf16) (w : FVec Ideal S1x1024x1024 .f32) (r : Fin 128) (h : Fin 1024) :
    (k0_pay8 (F := Ideal) v w (ix2 r h) : EReal) = ∑ d : Fin 1024, (v (ix2 ⟨384 + r.val, by omega⟩ d) : EReal) * (w (ix3 0 d h) : EReal) := by
  pointwise [k0_pay8]

theorem pay9_apply (v : FVec Ideal S1024x1024 .bf16) (w : FVec Ideal S1x1024x1024 .f32) (r : Fin 128) (h : Fin 1024) :
    (k0_pay9 (F := Ideal) v w (ix2 r h) : EReal) = ∑ d : Fin 1024, (v (ix2 ⟨512 + r.val, by omega⟩ d) : EReal) * (w (ix3 0 d h) : EReal) := by
  pointwise [k0_pay9]

theorem pay10_apply (v : FVec Ideal S1024x1024 .bf16) (w : FVec Ideal S1x1024x1024 .f32) (r : Fin 128) (h : Fin 1024) :
    (k0_pay10 (F := Ideal) v w (ix2 r h) : EReal) = ∑ d : Fin 1024, (v (ix2 ⟨640 + r.val, by omega⟩ d) : EReal) * (w (ix3 0 d h) : EReal) := by
  pointwise [k0_pay10]

theorem pay13_apply (v : FVec Ideal S1024x1024 .bf16) (w : FVec Ideal S1x1024x1024 .f32) (r : Fin 128) (h : Fin 1024) :
    (k0_pay13 (F := Ideal) v w (ix2 r h) : EReal) = ∑ d : Fin 1024, (v (ix2 ⟨896 + r.val, by omega⟩ d) : EReal) * (w (ix3 0 d h) : EReal) := by
  pointwise [k0_pay13]

theorem pay12_apply (v : FVec Ideal S1024x1024 .bf16) (w : FVec Ideal S1x1024x1024 .f32) (r : Fin 128) (h : Fin 1024) :
    (k0_pay12 (F := Ideal) (k0_pay11 v) w (ix2 r h) : EReal) = ∑ d : Fin 1024, (v (ix2 ⟨768 + r.val, by omega⟩ d) : EReal) * (w (ix3 0 d h) : EReal) := by
  pointwise [k0_pay12, k0_pay11]

/-! ## Casts and sums -/

theorem pay15_apply (v : FVec Ideal S512x512 .f32) (i k : Fin 512) : (k0_pay15 (F := Ideal) v (ix3 0 i k) : EReal) = v (ix2 i k) := by
  pointwise [k0_pay15]

theorem pay26_apply (v : FVec Ideal S512x512 .f32) (i k : Fin 512) : (k0_pay26 (F := Ideal) v (ix3 0 i k) : EReal) = v (ix2 i k) := by
  pointwise [k0_pay26]

theorem pay27_apply (v : FVec Ideal S512x512 .f32) (i k : Fin 512) : (k0_pay27 (F := Ideal) v (ix3 0 i k) : EReal) = v (ix2 i k) := by
  pointwise [k0_pay27]

theorem pay31_apply (v : FVec Ideal S512x512 .f32) (i k : Fin 512) : (k0_pay31 (F := Ideal) v (ix3 0 i k) : EReal) = v (ix2 i k) := by
  pointwise [k0_pay31]

theorem pay32_apply (v : FVec Ideal S512x512 .f32) (i k : Fin 512) : (k0_pay32 (F := Ideal) v (ix3 0 i k) : EReal) = v (ix2 i k) := by
  pointwise [k0_pay32]

theorem pay39_apply (v : FVec Ideal S512x512 .f32) (i k : Fin 512) : (k0_pay39 (F := Ideal) v (ix3 0 i k) : EReal) = v (ix2 i k) := by
  pointwise [k0_pay39]

theorem pay40_apply (v : FVec Ideal S512x512 .f32) (i k : Fin 512) : (k0_pay40 (F := Ideal) v (ix3 0 i k) : EReal) = v (ix2 i k) := by
  pointwise [k0_pay40]

theorem pay17_apply (v : FVec Ideal S512x512 .f32) (i k : Fin 512) : (k0_pay17 (F := Ideal) (k0_pay16 v) (ix3 0 i k) : EReal) = v (ix2 i k) := by
  pointwise [k0_pay17, k0_pay16]

theorem pay1_apply (v : FVec Ideal S1x512x512 .bf16) (i k : Fin 512) : (k0_pay1 (F := Ideal) v (ix2 i k) : EReal) = v (ix3 0 i k) := by
  pointwise [k0_pay1]

theorem pay41_apply (v : FVec Ideal S1x512x512 .bf16) (i k : Fin 512) : (k0_pay41 (F := Ideal) v (ix2 i k) : EReal) = v (ix3 0 i k) := by
  pointwise [k0_pay41]

theorem pay42_apply (v : FVec Ideal S1x512x512 .bf16) (i k : Fin 512) : (k0_pay42 (F := Ideal) v (ix2 i k) : EReal) = v (ix3 0 i k) := by
  pointwise [k0_pay42]

theorem pay43_apply (v : FVec Ideal S1x512x512 .bf16) (i k : Fin 512) : (k0_pay43 (F := Ideal) v (ix2 i k) : EReal) = v (ix3 0 i k) := by
  pointwise [k0_pay43]

theorem pay44_apply (v : FVec Ideal S1x512x512 .bf16) (i k : Fin 512) : (k0_pay44 (F := Ideal) v (ix2 i k) : EReal) = v (ix3 0 i k) := by
  pointwise [k0_pay44]

theorem pay45_apply (v : FVec Ideal S1x512x512 .bf16) (i k : Fin 512) : (k0_pay45 (F := Ideal) v (ix2 i k) : EReal) = v (ix3 0 i k) := by
  pointwise [k0_pay45]

theorem pay25_apply (u : FVec Ideal S512x512 .f32) (v : FVec Ideal S1x512x512 .bf16) (i k : Fin 512) :
    (k0_pay25 (F := Ideal) u v (ix2 i k) : EReal) = (u (ix2 i k) : EReal) + (v (ix3 0 i k) : EReal) := by
  pointwise [k0_pay25]

theorem pay29_apply (u : FVec Ideal S512x512 .f32) (v : FVec Ideal S1x512x512 .bf16) (i k : Fin 512) :
    (k0_pay29 (F := Ideal) u v (ix2 i k) : EReal) = (u (ix2 i k) : EReal) + (v (ix3 0 i k) : EReal) := by
  pointwise [k0_pay29]

theorem pay30_apply (u : FVec Ideal S512x512 .f32) (v : FVec Ideal S1x512x512 .bf16) (i k : Fin 512) :
    (k0_pay30 (F := Ideal) u v (ix2 i k) : EReal) = (u (ix2 i k) : EReal) + (v (ix3 0 i k) : EReal) := by
  pointwise [k0_pay30]

theorem pay38_apply (u : FVec Ideal S512x512 .f32) (v : FVec Ideal S1x512x512 .bf16) (i k : Fin 512) :
    (k0_pay38 (F := Ideal) u v (ix2 i k) : EReal) = (u (ix2 i k) : EReal) + (v (ix3 0 i k) : EReal) := by
  pointwise [k0_pay38]

theorem pay24_apply (u : FVec Ideal S512x512 .f32) (v : FVec Ideal S1x512x512 .bf16) (i k : Fin 512) :
    (k0_pay24 (F := Ideal) (k0_pay22 u) (k0_pay23 v) (ix2 i k) : EReal) = (u (ix2 i k) : EReal) + (v (ix3 0 i k) : EReal) := by
  pointwise [k0_pay24, k0_pay22, k0_pay23]

theorem pay37_apply (u : FVec Ideal S512x512 .f32) (v : FVec Ideal S1x512x512 .bf16) (i k : Fin 512) :
    (k0_pay37 (F := Ideal) (k0_pay36 u) v (ix2 i k) : EReal) = (u (ix2 i k) : EReal) + (v (ix3 0 i k) : EReal) := by
  pointwise [k0_pay37, k0_pay36]

end Cert.KernelIdeal.Moe

end
-- ==== Proof.Ring.lean ====
/-
What the two rings add up: every half chunk of the result is the sum of the four devices' contributions and the shared
product, over the extended reals.
-/
module

public import proofs.«01_k».proof.Proof.Pay
public import proofs.«01_k».proof.Proof.Slots

@[expose] public section

noncomputable section

namespace Cert.KernelIdeal.Moe

open Cert.KernelIdeal Cert.KernelIdeal.Gen
open Idealize.ShloMosaic
open Idealize.ShloMosaic.TcCoe

variable (I : Fam Ideal)

/-- Token `i` of chunk `j`. -/
def row (j : Fin 4) (i : Fin 512) : Fin 2048 := ⟨512 * j.val + i.val, by omega⟩

/-- What device `c` contributes to token `n`, column `h`. -/
def pE (c : Dev nD) (n : Fin 2048) (h : Fin 1024) : EReal := mixE (ysAll (I c)) ((I c).col (ix2 n 0)) ((I c).pw (ix2 n 0)) h
/-- The shared product of token `n`, column `h`, as device `c` computes it. -/
def shE (c : Dev nD) (n : Fin 2048) (h : Fin 1024) : EReal := ∑ d : Fin 1024, ((I c).x (ix2 n d) : EReal) * ((I c).sw (ix2 d h) : EReal)

theorem colAt_apply (A : Ins Ideal) (j : Fin 4) (i : Fin 512) : colAt A j (ix2 i 0) = A.col (ix2 (row j i) 0) :=
  congrArg A.col (funext fun a => match a with
    | ⟨0, _⟩ => Fin.ext (by show 512 * j.val + 1 * i.val = 512 * j.val + i.val; omega)
    | ⟨1, _⟩ => rfl)
theorem pwAt_apply (A : Ins Ideal) (j : Fin 4) (i : Fin 512) : pwAt A j (ix2 i 0) = A.pw (ix2 (row j i) 0) :=
  congrArg A.pw (funext fun a => match a with
    | ⟨0, _⟩ => Fin.ext (by show 512 * j.val + 1 * i.val = 512 * j.val + i.val; omega)
    | ⟨1, _⟩ => rfl)
theorem xAt_apply (A : Ins Ideal) (j : Fin 4) (i : Fin 512) (d : Fin 1024) : xAt A j (ix2 i d) = A.x (ix2 (row j i) d) :=
  congrArg A.x (funext fun a => match a with
    | ⟨0, _⟩ => Fin.ext (by show 512 * j.val + 1 * i.val = 512 * j.val + i.val; omega)
    | ⟨1, _⟩ => Fin.ext (by show 0 + 1 * d.val = d.val; omega))
theorem half0_apply (v : Vec Ideal S512x1024 .f32) (i k : Fin 512) : half 0 v (ix2 i k) = v (ix2 i (lcol k)) :=
  congrArg v (funext fun a => match a with
    | ⟨0, _⟩ => Fin.ext (by show 0 + 1 * i.val = i.val; omega)
    | ⟨1, _⟩ => Fin.ext (by show 512 * 0 + 1 * k.val = k.val; omega))
theorem half1_apply (v : Vec Ideal S512x1024 .f32) (i k : Fin 512) : half 1 v (ix2 i k) = v (ix2 i (rcol k)) :=
  congrArg v (funext fun a => match a with
    | ⟨0, _⟩ => Fin.ext (by show 0 + 1 * i.val = i.val; omega)
    | ⟨1, _⟩ => Fin.ext (by show 512 * 1 + 1 * k.val = 512 + k.val; omega))

theorem own0_apply (c : Dev nD) (i : Fin 512) (h : Fin 1024) : (own0 I c (ix2 i h) : EReal) = pE I c (row c i) h + shE I c (row c i) h := by
  unfold own0 pE shE
  rw [pay14_apply, colAt_apply, pwAt_apply]
  simp only [xAt_apply]

theorem sR0_apply (c : Dev nD) (i k : Fin 512) : (sR0 I c (ix3 0 i k) : EReal) = pE I c (row c i) (lcol k) + shE I c (row c i) (lcol k) := by
  unfold sR0
  rw [pay15_apply, half0_apply, own0_apply]
theorem sL0_apply (c : Dev nD) (i k : Fin 512) : (sL0 I c (ix3 0 i k) : EReal) = pE I c (row c i) (rcol k) + shE I c (row c i) (rcol k) := by
  unfold sL0
  rw [pay17_apply, half1_apply, own0_apply]

theorem own1R_apply (c : Dev nD) (i k : Fin 512) : (own1R I c (ix2 i k) : EReal) = pE I c (row (lf c) i) (lcol k) := by
  unfold own1R pE
  rw [pay20_apply, colAt_apply, pwAt_apply]
theorem own1L_apply (c : Dev nD) (i k : Fin 512) : (own1L I c (ix2 i k) : EReal) = pE I c (row (rt c) i) (rcol k) := by
  unfold own1L pE
  rw [pay21_apply, colAt_apply, pwAt_apply]
theorem own2_apply (c : Dev nD) (i : Fin 512) (h : Fin 1024) : (own2 I c (ix2 i h) : EReal) = pE I c (row (opp c) i) h := by
  unfold own2 pE
  rw [pay28_apply, colAt_apply, pwAt_apply]
theorem own3R_apply (c : Dev nD) (i k : Fin 512) : (own3R I c (ix2 i k) : EReal) = pE I c (row (rt c) i) (lcol k) := by
  unfold own3R pE
  rw [pay34_apply, colAt_apply, pwAt_apply]
theorem own3L_apply (c : Dev nD) (i k : Fin 512) : (own3L I c (ix2 i k) : EReal) = pE I c (row (lf c) i) (rcol k) := by
  unfold own3L pE
  rw [pay35_apply, colAt_apply, pwAt_apply]

theorem sR1_apply (c : Dev nD) (i k : Fin 512) : (sR1 I c (ix3 0 i k) : EReal)
    = pE I c (row (lf c) i) (lcol k) + (pE I (lf c) (row (lf c) i) (lcol k) + shE I (lf c) (row (lf c) i) (lcol k)) := by
  unfold sR1 acc1R
  rw [pay26_apply, pay24_apply, own1R_apply, sR0_apply]
theorem sL1_apply (c : Dev nD) (i k : Fin 512) : (sL1 I c (ix3 0 i k) : EReal)
    = pE I c (row (rt c) i) (rcol k) + (pE I (rt c) (row (rt c) i) (rcol k) + shE I (rt c) (row (rt c) i) (rcol k)) := by
  unfold sL1 acc1L
  rw [pay27_apply, pay25_apply, own1L_apply, sL0_apply]

theorem opp_eq_lf (c : Dev nD) : opp c = lf (lf c) := by revert c; decide
theorem rt_eq_lf (c : Dev nD) : rt c = lf (lf (lf c)) := by revert c; decide
theorem lf_eq_rt (c : Dev nD) : lf c = rt (rt (rt c)) := by revert c; decide

theorem sR2_apply (c : Dev nD) (i k : Fin 512) : (sR2 I c (ix3 0 i k) : EReal)
    = pE I c (row (lf (lf c)) i) (lcol k) + (pE I (lf c) (row (lf (lf c)) i) (lcol k)
      + (pE I (lf (lf c)) (row (lf (lf c)) i) (lcol k) + shE I (lf (lf c)) (row (lf (lf c)) i) (lcol k))) := by
  unfold sR2 acc2R
  rw [pay31_apply, pay29_apply, half0_apply, own2_apply, sR1_apply, opp_eq_lf]
theorem sL2_apply (c : Dev nD) (i k : Fin 512) : (sL2 I c (ix3 0 i k) : EReal)
    = pE I c (row (rt (rt c)) i) (rcol k) + (pE I (rt c) (row (rt (rt c)) i) (rcol k)
      + (pE I (rt (rt c)) (row (rt (rt c)) i) (rcol k) + shE I (rt (rt c)) (row (rt (rt c)) i) (rcol k))) := by
  unfold sL2 acc2L
  rw [pay32_apply, pay30_apply, half1_apply, own2_apply, sL1_apply]

/-- Round the ring to the left from `c` are all the devices; -/
theorem sum_lf (f : Dev nD → EReal) (c : Dev nD) (s : EReal) : f c + (f (lf c) + (f (lf (lf c)) + (f (lf (lf (lf c))) + s))) = (∑ d, f d) + s := by
  have h : ∑ d, f d = f c + (f (lf c) + (f (lf (lf c)) + f (lf (lf (lf c))))) := by
    rw [show (∑ d, f d) = f 0 + f 1 + f 2 + f 3 from Fin.sum_univ_four f]
    match c with
    | 0 => show _ = f 0 + (f 3 + (f 2 + f 1)); abel
    | 1 => show _ = f 1 + (f 0 + (f 3 + f 2)); abel
    | 2 => show _ = f 2 + (f 1 + (f 0 + f 3)); abel
    | 3 => show _ = f 3 + (f 2 + (f 1 + f 0)); abel
  rw [h]
  abel
/-- so round it to the right. -/
theorem sum_rt (f : Dev nD → EReal) (c : Dev nD) (s : EReal) : f c + (f (rt c) + (f (rt (rt c)) + (f (rt (rt (rt c))) + s))) = (∑ d, f d) + s := by
  have h : ∑ d, f d = f c + (f (rt c) + (f (rt (rt c)) + f (rt (rt (rt c))))) := by
    rw [show (∑ d, f d) = f 0 + f 1 + f 2 + f 3 from Fin.sum_univ_four f]
    match c with
    | 0 => show _ = f 0 + (f 1 + (f 2 + f 3)); abel
    | 1 => show _ = f 1 + (f 2 + (f 3 + f 0)); abel
    | 2 => show _ = f 2 + (f 3 + (f 0 + f 1)); abel
    | 3 => show _ = f 3 + (f 0 + (f 1 + f 2)); abel
  rw [h]
  abel

/-- Token `n`, column `h` of the result: the shared product, as device `c` computes it, and what all devices contribute. -/
def total (c : Dev nD) (n : Fin 2048) (h : Fin 1024) : EReal := (∑ d, pE I d n h) + shE I c n h

/-- What device `c` finishes going right is the left half of the next chunk; -/
theorem acc3R_apply (c : Dev nD) (i k : Fin 512) : (acc3R I c (ix2 i k) : EReal) = total I (rt c) (row (rt c) i) (lcol k) := by
  unfold acc3R total
  rw [pay37_apply, own3R_apply, sR2_apply, ← sum_lf (fun d => pE I d (row (rt c) i) (lcol k)) c, ← rt_eq_lf]
/-- and going left the right half of the chunk before. -/
theorem acc3L_apply (c : Dev nD) (i k : Fin 512) : (acc3L I c (ix2 i k) : EReal) = total I (lf c) (row (lf c) i) (rcol k) := by
  unfold acc3L total
  rw [pay38_apply, own3L_apply, sL2_apply, ← sum_rt (fun d => pE I d (row (lf c) i) (rcol k)) c, ← lf_eq_rt]

theorem gR_apply (c : Dev nD) (i k : Fin 512) : (gR I c (ix3 0 i k) : EReal) = total I (rt c) (row (rt c) i) (lcol k) := by
  unfold gR
  rw [pay39_apply, acc3R_apply]
theorem gL_apply (c : Dev nD) (i k : Fin 512) : (gL I c (ix3 0 i k) : EReal) = total I (lf c) (row (lf c) i) (rcol k) := by
  unfold gL
  rw [pay40_apply, acc3L_apply]

/-- The chunk `t` places after `c`. -/
def chunk (c : Dev nD) (t : Fin 8) : Dev nD := ⟨(c.val + t.val / 2) % 4, Nat.mod_lt _ (by decide)⟩
/-- Column `k` of half `t % 2`. -/
def hcol (t : Fin 8) (k : Fin 512) : Fin 1024 := ⟨512 * (t.val % 2) + k.val, by omega⟩

theorem hcol_even (t : Fin 8) (h : t.val % 2 = 0) (k : Fin 512) : lcol k = hcol t k := Fin.ext (by show k.val = 512 * (t.val % 2) + k.val; omega)
theorem hcol_odd (t : Fin 8) (h : t.val % 2 = 1) (k : Fin 512) : rcol k = hcol t k := Fin.ext (by show 512 + k.val = 512 * (t.val % 2) + k.val; omega)

theorem chunk0 (c : Dev nD) : rt (lf c) = chunk c 0 := by revert c; decide
theorem chunk1 (c : Dev nD) : lf (rt c) = chunk c 1 := by revert c; decide
theorem chunk2 (c : Dev nD) : rt c = chunk c 2 := by revert c; decide
theorem chunk3 (c : Dev nD) : lf (rt (rt c)) = chunk c 3 := by revert c; decide
theorem chunk4 (c : Dev nD) : rt (lf (lf (lf c))) = chunk c 4 := by revert c; decide
theorem chunk5 (c : Dev nD) : lf (rt (rt (rt c))) = chunk c 5 := by revert c; decide
theorem chunk6 (c : Dev nD) : rt (lf (lf c)) = chunk c 6 := by revert c; decide
theorem chunk7 (c : Dev nD) : lf c = chunk c 7 := by revert c; decide

/-- Each half chunk of a device's result holds the totals of its place. -/
theorem outB_apply (c : Dev nD) (t : Fin 8) (i k : Fin 512) : (outB I c t (ix2 i k) : EReal) = total I (chunk c t) (row (chunk c t) i) (hcol t k) := by
  match t with
  | 0 => exact (pay41_apply _ i k).trans ((gR_apply I (lf c) i k).trans (by rw [chunk0, hcol_even 0 rfl]))
  | 1 => exact (pay42_apply _ i k).trans ((gL_apply I (rt c) i k).trans (by rw [chunk1, hcol_odd 1 rfl]))
  | 2 => exact (acc3R_apply I c i k).trans (by rw [chunk2, hcol_even 2 rfl])
  | 3 => exact (pay44_apply _ i k).trans ((gL_apply I (rt (rt c)) i k).trans (by rw [chunk3, hcol_odd 3 rfl]))
  | 4 => exact (pay45_apply _ i k).trans ((gR_apply I (lf (lf (lf c))) i k).trans (by rw [chunk4, hcol_even 4 rfl]))
  | 5 => exact (pay1_apply _ i k).trans ((gL_apply I (rt (rt (rt c))) i k).trans (by rw [chunk5, hcol_odd 5 rfl]))
  | 6 => exact (pay43_apply _ i k).trans ((gR_apply I (lf (lf c)) i k).trans (by rw [chunk6, hcol_even 6 rfl]))
  | 7 => exact (acc3L_apply I c i k).trans (by rw [chunk7, hcol_odd 7 rfl])

theorem posOf_ix2 (n : Fin 2048) (h : Fin 1024) : posOf (ix2 n h) = ix2 ⟨n.val % 512, Nat.mod_lt _ (by decide)⟩ ⟨h.val % 512, Nat.mod_lt _ (by decide)⟩ :=
  funext fun a => match a with
    | ⟨0, _⟩ => rfl
    | ⟨1, _⟩ => rfl

/-- A device's result at token `n`, column `h`, is the total there, the shared product computed by some device. -/
theorem outAll_apply (c : Dev nD) (n : Fin 2048) (h : Fin 1024) : ∃ d, (outAll I c (ix2 n h) : EReal) = total I d n h := by
  refine ⟨chunk c (tileOf c (ix2 n h)), ?_⟩
  unfold outAll
  rw [posOf_ix2, outB_apply]
  have hc : c.val < 4 := c.isLt
  have ht : (tileOf c (ix2 n h)).val = 2 * ((n.val / 512 + 4 - c.val) % 4) + h.val / 512 := rfl
  have hn := n.isLt
  have hh := h.isLt
  have e0 : row (chunk c (tileOf c (ix2 n h))) ⟨n.val % 512, Nat.mod_lt _ (by decide)⟩ = n :=
    Fin.ext (by show 512 * ((c.val + (tileOf c (ix2 n h)).val / 2) % 4) + n.val % 512 = n.val; rw [ht]; omega)
  have e1 : hcol (tileOf c (ix2 n h)) ⟨h.val % 512, Nat.mod_lt _ (by decide)⟩ = h :=
    Fin.ext (by show 512 * ((tileOf c (ix2 n h)).val % 2) + h.val % 512 = h.val; rw [ht]; omega)
  rw [e0, e1]

end Cert.KernelIdeal.Moe

end
-- ==== Proof.Dispatch.lean ====
/-
What one device contributes to one token: the weighted product of the token with the expert whose block its column names,
or nothing.
-/
module

public import proofs.«01_k».proof.Proof.Ring

@[expose] public section

noncomputable section

namespace Cert.KernelIdeal.Moe

open Cert.KernelIdeal Cert.KernelIdeal.Gen
open Idealize.ShloMosaic
open Idealize.ShloMosaic.TcCoe

variable (A : Ins Ideal)

theorem ewAt_apply (e : Fin 8) (d h : Fin 1024) : ewAt A e (ix3 0 d h) = A.ew (ix3 e d h) :=
  congrArg A.ew (funext fun a => match a with
    | ⟨0, _⟩ => Fin.ext (by show e.val + 1 * 0 = e.val; omega)
    | ⟨1, _⟩ => Fin.ext (by show 0 + 1 * d.val = d.val; omega)
    | ⟨2, _⟩ => Fin.ext (by show 0 + 1 * h.val = h.val; omega))

/-- Row `r` of block `e`. -/
def brow (e : Fin 8) (r : Fin 128) : Fin 1024 := ⟨128 * e.val + r.val, by omega⟩

theorem ysB_apply (e : Fin 8) (r : Fin 128) (h : Fin 1024) :
    (ysB A e (ix2 r h) : EReal) = ∑ d : Fin 1024, (xg A (ix2 (brow e r) d) : EReal) * (A.ew (ix3 e d h) : EReal) := by
  match e with
  | 0 => exact (pay5_apply _ _ _ r h).trans (Finset.sum_congr rfl fun d _ => by rw [ewAt_apply]; rfl)
  | 1 => exact (pay6_apply _ _ r h).trans (Finset.sum_congr rfl fun d _ => by rw [ewAt_apply]; rfl)
  | 2 => exact (pay7_apply _ _ r h).trans (Finset.sum_congr rfl fun d _ => by rw [ewAt_apply]; rfl)
  | 3 => exact (pay8_apply _ _ r h).trans (Finset.sum_congr rfl fun d _ => by rw [ewAt_apply]; rfl)
  | 4 => exact (pay9_apply _ _ r h).trans (Finset.sum_congr rfl fun d _ => by rw [ewAt_apply]; rfl)
  | 5 => exact (pay10_apply _ _ r h).trans (Finset.sum_congr rfl fun d _ => by rw [ewAt_apply]; rfl)
  | 6 => exact (pay12_apply _ _ r h).trans (Finset.sum_congr rfl fun d _ => by rw [ewAt_apply]; rfl)
  | 7 => exact (pay13_apply _ _ r h).trans (Finset.sum_congr rfl fun d _ => by rw [ewAt_apply]; rfl)

/-- The expert whose block row `s` lies in. -/
def expertOf (s : Fin 1024) : Fin 8 := ⟨s.val / 128, by omega⟩

theorem ysAll_apply (s h : Fin 1024) :
    (ysAll A (ix2 s h) : EReal) = ∑ d : Fin 1024, (xg A (ix2 s d) : EReal) * (A.ew (ix3 (expertOf s) d h) : EReal) := by
  have e : ysAll A (ix2 s h) = ysB A (expertOf s) (ix2 ⟨s.val % 128, Nat.mod_lt _ (by decide)⟩ h) :=
    congrArg (ysB A (expertOf s)) (funext fun a => match a with | ⟨0, _⟩ => rfl | ⟨1, _⟩ => rfl)
  have b : brow (expertOf s) ⟨s.val % 128, Nat.mod_lt _ (by decide)⟩ = s := Fin.ext (by show 128 * (s.val / 128) + s.val % 128 = s.val; omega)
  rw [e, ysB_apply, b]

theorem word_inj (s s' : Fin 1024) : BitVec.ofNat 32 s.val = BitVec.ofNat 32 s'.val ↔ s = s' := by
  constructor
  · intro h
    have := congrArg BitVec.toNat h
    simp only [BitVec.toNat_ofNat] at this
    exact Fin.ext (by omega)
  · rintro rfl; rfl

/-- A row that exactly one token's column names holds that token. -/
theorem xg_apply (n : Fin 2048) (s d : Fin 1024) (hn : A.crow (ix2 0 n) = BitVec.ofNat 32 s.val)
    (ho : ∀ n' : Fin 2048, n' ≠ n → A.crow (ix2 0 n') ≠ BitVec.ofNat 32 s.val) : (xg A (ix2 s d) : EReal) = (A.x (ix2 n d) : EReal) := by
  refine (pay4_apply A.x A.crow s d).trans ?_
  rw [Finset.sum_eq_single n]
  · rw [if_pos hn.symm, one_mul]
  · intro n' _ h
    rw [if_neg fun e => ho n' h e.symm, zero_mul]
  · intro h
    exact absurd (Finset.mem_univ n) h

/-- A column among the rows picks its row, -/
theorem mixE_hit (ys : FVec Ideal S1024x1024 .bf16) (s : Fin 1024) (p : EReal) (h : Fin 1024) :
    mixE ys (BitVec.ofNat 32 s.val) p h = p * (ys (ix2 s h) : EReal) := by
  unfold mixE
  rw [Finset.sum_eq_single s]
  · rw [if_pos rfl]
  · intro s' _ h'
    rw [if_neg fun e => h' ((word_inj s' s).1 e)]
  · intro h'
    exact absurd (Finset.mem_univ s) h'
/-- and one past them picks none. -/
theorem mixE_miss (ys : FVec Ideal S1024x1024 .bf16) (p : EReal) (h : Fin 1024) : mixE ys 1024#32 p h = 0 := by
  unfold mixE
  refine Finset.sum_eq_zero fun s _ => if_neg fun e => ?_
  have := congrArg BitVec.toNat e
  have hs := s.isLt
  simp only [BitVec.toNat_ofNat] at this
  omega

variable (I : Fam Ideal)

/-- A device that does not own the token's expert contributes nothing; -/
theorem pE_miss (c : Dev nD) (n : Fin 2048) (h : Fin 1024) (hn : (I c).col (ix2 n 0) = 1024#32) : pE I c n h = 0 := by
  unfold pE
  rw [hn, mixE_miss]
/-- the owner, where the token has a row to itself, contributes the weighted product with the expert of that row. -/
theorem pE_hit (c : Dev nD) (n : Fin 2048) (s h : Fin 1024) (hr : ∀ n' : Fin 2048, (I c).crow (ix2 0 n') = (I c).col (ix2 n' 0))
    (hn : (I c).col (ix2 n 0) = BitVec.ofNat 32 s.val) (ho : ∀ n' : Fin 2048, n' ≠ n → (I c).col (ix2 n' 0) ≠ BitVec.ofNat 32 s.val) :
    pE I c n h = ((I c).pw (ix2 n 0) : EReal) * ∑ d : Fin 1024, ((I c).x (ix2 n d) : EReal) * ((I c).ew (ix3 (expertOf s) d h) : EReal) := by
  unfold pE
  rw [hn, mixE_hit, ysAll_apply]
  refine congrArg _ (Finset.sum_congr rfl fun d _ => ?_)
  rw [xg_apply (I c) n s d ((hr n).trans hn) fun n' h' e => ho n' h' ((hr n').symm.trans e)]

end Cert.KernelIdeal.Moe

end
-- ==== Proof.Count.lean ====
/-
Counting with words: a sum of zeros and ones holds a count, and the running sum down a column holds the count of a prefix.
-/
module

public import proofs.«01_k».proof.Proof.Dispatch
public import Idealize.ShloMosaic.Lib.Routing.Count
public import Mathlib.Data.BitVec

@[expose] public section

noncomputable section

namespace Cert.KernelIdeal.Moe

open Cert.KernelIdeal Cert.KernelIdeal.Gen
open Idealize.ShloMosaic
open Idealize.ShloMosaic.TcCoe

/-- Naturals as words, additively. -/
def asWord : ℕ →+ BitVec 32 where
  toFun k := BitVec.ofNat 32 k
  map_zero' := rfl
  map_add' a b := BitVec.ofNat_add a b

/-- A sum of ones over the positions with `Q`, and zeros, is the number of those positions. -/
theorem sum_bits (N : ℕ) (Q : ℕ → Prop) [DecidablePred Q] : (∑ a : Fin N, if Q a.val then 1#32 else 0#32) = BitVec.ofNat 32 (Nat.count Q N) := by
  have h : (∑ a : Fin N, if Q a.val then 1#32 else 0#32) = asWord (∑ a : Fin N, if Q a.val then 1 else 0) := by
    rw [map_sum]
    refine Finset.sum_congr rfl fun a _ => ?_
    split <;> rfl
  rw [h, Finset.sum_boole, ← Routing.card_filter_fin N Q]
  rfl

theorem fold_addi {ι : Type} [Fintype ι] (f : ι → BitVec 32) : Finset.fold IntOp.addi 0#32 f Finset.univ = ∑ a, f a :=
  (Finset.sum_eq_fold _ _).symm

/-- Adding along a list is adding its sum. -/
theorem foldl_addi {ι : Type} (l : List ι) (g : ι → BitVec 32) (v : BitVec 32) : l.foldl (fun r n => IntOp.addi r (g n)) v = v + (l.map g).sum := by
  induction l generalizing v with
  | nil => simp
  | cons a l ih =>
    rw [List.foldl_cons, ih, List.map_cons, List.sum_cons, ← add_assoc]
    rfl

/-- The positions of a window that ends at `n` and reaches `M` back are those up to `n`. -/
theorem count_window (Q : ℕ → Prop) [DecidablePred Q] (M n : ℕ) (h : n ≤ M) :
    Nat.count (fun a => M ≤ n + a ∧ Q (n + a - M)) (M + 1) = Nat.count Q (n + 1) := by
  rw [show M + 1 = (M - n) + (n + 1) by omega, Nat.count_add]
  have h0 : Nat.count (fun a => M ≤ n + a ∧ Q (n + a - M)) (M - n) = 0 := by
    rw [Nat.count_eq_card_filter_range, Finset.card_eq_zero, Finset.filter_eq_empty_iff]
    intro a ha
    have := Finset.mem_range.1 ha
    omega
  rw [h0, zero_add]
  have e : (fun k => M ≤ n + (M - n + k) ∧ Q (n + (M - n + k) - M)) = Q := funext fun k => by
    rw [show n + (M - n + k) - M = k by omega]
    exact propext ⟨fun h => h.2, fun h' => ⟨by omega, h'⟩⟩
  simp only [e]

/-- A windowed sum of words at a position: the initial word and the sum over the window's places. -/
theorem window_sum {s t u : Shape} (window strides lo hi : Fin s.rank → ℕ) (x : s.Idx → BitVec 32) (init : u.Idx → BitVec 32)
    (h : s.ReduceWindows window strides lo hi t) (hu : 0 < u.numel) (j : t.Idx) :
    Host.reduceWindow IntOp.addi window strides lo hi x init h hu j
      = init (Shape.Idx.first hu) + ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else init (Shape.Idx.first hu) := by
  unfold Host.reduceWindow
  dsimp only
  rw [foldl_addi, ← Fin.sum_univ_def]
  refine congrArg (init (Shape.Idx.first hu) + ·) ?_
  refine Eq.trans (Finset.sum_congr rfl fun i _ => ?_) (Equiv.sum_comp (Shape.rowMajor ⟨s.rank, window⟩).symm fun w : (⟨s.rank, window⟩ : Shape).Idx =>
    if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else init (Shape.Idx.first hu))
  congr

/-- The running sum down a column of zeros and ones holds the count of the prefix. -/
theorem column_count (x : IVec S2048x8 32) (e : Fin 8) (Q : ℕ → Prop) [DecidablePred Q]
    (hx : ∀ i : Fin 2048, x (ix2 i e) = if Q i.val then 1#32 else 0#32) (init : IVec S_ 32) (h0 : init ix0 = 0#32)
    (h : S2048x8.ReduceWindows (![2048, 1] : Fin 2 → ℕ) ![1, 1] ![2047, 0] ![0, 0] S2048x8) (hu : 0 < S_.numel) (n : Fin 2048) :
    Host.reduceWindow IntOp.addi ![2048, 1] ![1, 1] ![2047, 0] ![0, 0] x init h hu (ix2 n e) = BitVec.ofNat 32 (Nat.count Q (n.val + 1)) := by
  have hv : init (Shape.Idx.first hu) = 0#32 := (congrArg init (funext fun a => a.elim0)).trans h0
  have hn := n.isLt
  refine (window_sum _ _ _ _ x init h hu _).trans ?_
  rw [hv, BitVec.zero_add]
  refine (sum_idx2 (n0 := 2048) (n1 := 1) _).trans ?_
  rw [← count_window Q 2047 n.val (by omega), ← sum_bits]
  refine Finset.sum_congr rfl fun a _ => ?_
  rw [Fin.sum_univ_one]
  have ha := a.isLt
  split
  · next hin =>
    have h1 : 2047 ≤ n.val * 1 + a.val ∧ n.val * 1 + a.val - 2047 < 2048 := hin 0
    have e1 : (fun a' : Fin 2 => (⟨(ix2 n e (a'.cast h.1.symm)).val * (![1, 1] : Fin 2 → ℕ) a' + (ix2 a (0 : Fin 1) a').val - (![2047, 0] : Fin 2 → ℕ) a', (hin a').2⟩ : Fin (S2048x8.size a')))
        = ix2 ⟨n.val + a.val - 2047, by omega⟩ e := funext fun a' => match a' with
      | ⟨0, _⟩ => Fin.ext (by show n.val * 1 + a.val - 2047 = n.val + a.val - 2047; omega)
      | ⟨1, _⟩ => Fin.ext (by show e.val * 1 + 0 - 0 = e.val; omega)
    refine (congrArg x e1).trans ((hx _).trans ?_)
    exact if_congr ⟨fun q => ⟨by omega, q⟩, fun q => q.2⟩ rfl rfl
  · next hin =>
    refine (if_neg fun hq => hin fun a' => ?_).symm
    match a' with
    | ⟨0, _⟩ =>
      show 2047 ≤ n.val * 1 + a.val ∧ n.val * 1 + a.val - 2047 < 2048
      omega
    | ⟨1, _⟩ =>
      have he := e.isLt
      show 0 ≤ e.val * 1 + 0 ∧ e.val * 1 + 0 - 0 < 8
      omega

end Cert.KernelIdeal.Moe

end
-- ==== Proof.Pre.lean ====
/-
What the precondition says of one device's operands: every route names an expert, that expert's score is the row's largest, the largest
score is finite, and no expert gets more than 128 tokens.
-/
module

public import proofs.«01_k».proof.Pre_routed_to_argmax_KernelIdeal
public import proofs.«01_k».proof.Proof.Count
public import Idealize.ShloMosaic.Lib.Pointwise
public import Idealize.ShloMosaic.Lib.ReduceAll
public import Idealize.ShloMosaic.Lib.WordArith

@[expose] public section

noncomputable section

namespace Cert.KernelIdeal.Moe

open Idealize.ShloMosaic
open Cert.Pre_routed_to_argmax_KernelIdeal

/-- The shape relations of the printed precondition hold. -/
theorem facts_pre : Cert.Pre_routed_to_argmax_KernelIdeal.Facts where
  reducesTo_S2048x32_S2048_d1 := by decide
  h_S_ := by decide
  bcast_S2048_S2048x1_0 := by decide
  bcast_S32_S1x32_1 := by decide
  bcast_S2048x1_S2048x32_0_1 := by decide
  bcast_S1x32_S2048x32_0_1 := by decide
  bcast_S_S2048x1 := by decide
  reducesTo_S2048x1_S_d0_1 := by decide
  reducesTo_S2048x32_S_d0_1 := by decide
  natLt_1_32 := by decide
  reducesTo_S2048x32_S32_d0 := by decide
  bcast_S_S32 := by decide
  reducesTo_S32_S_d0 := by decide
  dot_S2048x1024_S1024x32_S2048x32_1_0_0_1_n_n_wf := by decide

/-- Token `n`'s score with expert `e`. -/
abbrev score (x : FVec Ideal S2048x1024 .f32) (rw : FVec Ideal S1024x32 .f32) (n : Fin 2048) (e : Fin 32) : EReal :=
  ∑ d : Fin 1024, x (ix2 n d) * rw (ix2 d e)

/-- Token `n`'s largest score. -/
abbrev smax (x : FVec Ideal S2048x1024 .f32) (rw : FVec Ideal S1024x32 .f32) (n : Fin 2048) : EReal :=
  Finset.fold max (Ideal.ofBits .f32 4286578688#32) (fun e => score x rw n e) Finset.univ

/-- The expert that the table names for token `i`; past the table, none. -/
def routeAt (r : IVec S2048x1 32) (i : ℕ) : ℕ := if h : i < 2048 then (r (ix2 ⟨i, h⟩ 0)).toNat else 32

theorem routeAt_val (r : IVec S2048x1 32) (n : Fin 2048) : routeAt r n.val = (r (ix2 n 0)).toNat := dif_pos n.isLt

/-- Every route names an expert, of the row's largest score, which is finite; an expert gets at most 128 tokens. -/
structure Routed (x : FVec Ideal S2048x1024 .f32) (rw : FVec Ideal S1024x32 .f32) (r : IVec S2048x1 32) : Prop where
  range : ∀ n : Fin 2048, (r (ix2 n 0)).toNat < 32
  best : ∀ (n : Fin 2048) (e : Fin 32), (r (ix2 n 0)).toNat = e.val → score x rw n e = smax x rw n
  finite : ∀ n : Fin 2048, smax x rw n ≠ ⊤ ∧ smax x rw n ≠ ⊥
  fits : ∀ e : Fin 32, Nat.count (fun i => routeAt r i = e.val) 2048 ≤ 128

/-- A word between 0 and a small bound as a signed number is below that bound. -/
theorem range_of_word (v w : BitVec 32) (hw : w.toNat < 2 ^ 31) (h : IntOp.andi (IntOp.cmpi .sge v 0#32) (IntOp.cmpi .slt v w) = 1#1) : v.toNat < w.toNat := by
  obtain ⟨h1, h2⟩ := IntOp.andi_eq_one.1 h
  have a := IntOp.cmpi_sge.1 h1
  have b := IntOp.cmpi_slt.1 h2
  rw [show (0#32 : BitVec 32).toInt = 0 by decide] at a
  rw [BitVec.toInt_eq_toNat_of_lt (x := w) (by omega)] at b
  rw [BitVec.toInt_eq_toNat_cond] at a b
  split at a <;> omega

/-- The bit of an equality of words, widened. -/
theorem bit_eq_word (v : BitVec 32) (e : Fin 32) :
    BitVec.setWidth 32 (IntOp.cmpi .eq v (BitVec.ofNat 32 e.val)) = if v.toNat = e.val then 1#32 else 0#32 := by
  have he := e.isLt
  have hv := v.isLt
  have q : v = BitVec.ofNat 32 e.val ↔ v.toNat = e.val := by
    rw [BitVec.toNat_eq, BitVec.toNat_ofNat, Nat.mod_eq_of_lt (by omega)]
  by_cases h : v.toNat = e.val
  · rw [if_pos h, IntOp.cmpi_eq.2 (q.2 h)]
    rfl
  · rw [if_neg h, (BitVec.eq_zero_or_eq_one _).resolve_right fun c => h (q.1 (IntOp.cmpi_eq.1 c))]
    rfl

theorem finite_of_abs (v : EReal) (t : EReal) (h : FloatOps.absf (F := Ideal) (φ := .f32) v < t) : v ≠ ⊤ ∧ v ≠ ⊥ := by
  have h' : max v (-v) < ⊤ := lt_of_lt_of_le h le_top
  constructor
  · rintro rfl
    simp at h'
  · rintro rfl
    simp at h'

variable [Cert.Pre_routed_to_argmax_KernelIdeal.Facts]
  (x : FVec Ideal S2048x1024 .f32) (rw : FVec Ideal S1024x32 .f32) (r : IVec S2048x1 32) (ew : FVec Ideal S8x1024x1024 .f32)
  (sw : FVec Ideal S1024x1024 .f32)

/-- The printed precondition says that the tokens are so routed. -/
theorem routed_of_pre (h : fn (F := Ideal) x rw r ew sw = fun _ => 1#1) : Routed x rw r := by
  have h0 := congrFun h ix0
  unfold fn fn_part1 at h0
  dsimp only at h0
  obtain ⟨h1, hcount⟩ := IntOp.andi_eq_one.1 h0
  obtain ⟨h2, hfin⟩ := IntOp.andi_eq_one.1 h1
  obtain ⟨hrange, hbest⟩ := IntOp.andi_eq_one.1 h2
  have a1 := fun n : Fin 2048 => Host.reduce_andi_all _ _ _ _ _ hrange (ix2 n 0)
  have a2 := fun (n : Fin 2048) (e : Fin 32) => Host.reduce_andi_all _ _ _ _ _ hbest (ix2 n e)
  have a3 := fun n : Fin 2048 => Host.reduce_andi_all _ _ _ _ _ hfin (ix2 n 0)
  have a4 := fun e : Fin 32 => Host.reduce_andi_all _ _ _ _ _ hcount (ix1 e)
  clear h h0 h1 h2 hcount hfin hrange hbest
  pointwise at a1
  pointwise at a2
  pointwise at a3
  pointwise at a4
  refine ⟨fun n => range_of_word _ _ (by decide) (a1 n), fun n e he => ?_, fun n => finite_of_abs _ _ (of_decide_eq_true ((WordArith.ofBool_eq_one_iff _).1 (a3 n))), fun e => ?_⟩
  · have hv : IntOp.cmpi .eq (r (ix2 n 0)) (BitVec.ofNat 32 e.val) = 1#1 := IntOp.cmpi_eq.2 (by rw [← he, BitVec.ofNat_toNat, BitVec.setWidth_eq])
    rcases IntOp.ori_eq_one.1 (a2 n e) with h | h
    · rw [hv] at h
      exact absurd h (by decide)
    · exact of_decide_eq_true ((WordArith.ofBool_eq_one_iff _).1 h)
  · have h := IntOp.cmpi_sle.1 (a4 e)
    rw [fold_addi, Finset.sum_congr rfl fun n _ => (bit_eq_word (r (ix2 n 0)) e).trans (by rw [← routeAt_val r n]),
      sum_bits 2048 fun i => routeAt r i = e.val] at h
    have hle := Nat.count_le (p := fun i => routeAt r i = e.val) (n := 2048)
    rw [show (128#32 : BitVec 32).toInt = 128 by decide, BitVec.toInt_eq_toNat_of_lt (by rw [BitVec.toNat_ofNat]; omega), BitVec.toNat_ofNat] at h
    omega

end Cert.KernelIdeal.Moe

end
-- ==== Proof.Routes.lean ====
/-
The word arithmetic of a token's slot: the place that the running counts of a device's eight experts give it, or the place past the end.
-/
module

public import proofs.«01_k».proof.Proof.Pre
public import Idealize.ShloMosaic.Lib.WordCmp

@[expose] public section

noncomputable section

namespace Cert.KernelIdeal.Moe

open Idealize.ShloMosaic

/-- A route less the first of a device's eight experts. -/
def lej (v : BitVec 32) (c : Fin 4) : BitVec 32 := IntOp.subi v (IntOp.muli (BitVec.ofNat 32 c.val) 8#32)

/-- The sum over the eight experts of the place that the matching one gives. -/
def place (l : BitVec 32) (cum : Fin 8 → BitVec 32) : BitVec 32 :=
  Finset.fold IntOp.addi (0#32) (fun e : Fin 8 => Scalar.select (IntOp.cmpi .eq l (BitVec.ofNat 32 e.val)) (IntOp.subi (cum e) 1#32) 0#32) Finset.univ

/-- The slot: 128 per expert and the place in it, where the route is the device's and the place below 128; else 1024. -/
def slotW (l : BitVec 32) (cum : Fin 8 → BitVec 32) : BitVec 32 :=
  Scalar.select (IntOp.andi (IntOp.andi (IntOp.cmpi .sge l 0#32) (IntOp.cmpi .slt l 8#32)) (IntOp.cmpi .slt (place l cum) 128#32))
    (IntOp.addi (IntOp.muli l 128#32) (place l cum)) 1024#32

theorem lej_eq (v : BitVec 32) (c : Fin 4) (e : ℕ) (h : v.toNat = 8 * c.val + e) : lej v c = BitVec.ofNat 32 e := by
  have hc := c.isLt
  have hv := v.isLt
  refine BitVec.eq_of_toNat_eq ?_
  show (v - BitVec.ofNat 32 c.val * 8#32).toNat = _
  rw [BitVec.toNat_sub, BitVec.toNat_mul, BitVec.toNat_ofNat, BitVec.toNat_ofNat, BitVec.toNat_ofNat]
  omega

theorem lej_toNat (v : BitVec 32) (c : Fin 4) (h : v.toNat < 32) (hlt : v.toNat < 8 * c.val) : (lej v c).toNat = 2 ^ 32 + v.toNat - 8 * c.val := by
  have hc := c.isLt
  show (v - BitVec.ofNat 32 c.val * 8#32).toNat = _
  rw [BitVec.toNat_sub, BitVec.toNat_mul, BitVec.toNat_ofNat, BitVec.toNat_ofNat]
  omega

/-- The route less the first expert is expert `e`'s number exactly when the route is that expert. -/
theorem lej_iff (v : BitVec 32) (c : Fin 4) (e : Fin 8) (h : v.toNat < 32) : lej v c = BitVec.ofNat 32 e.val ↔ v.toNat = 8 * c.val + e.val := by
  have hc := c.isLt
  have he := e.isLt
  refine ⟨fun q => ?_, lej_eq v c e.val⟩
  have q' := congrArg BitVec.toNat q
  rw [BitVec.toNat_ofNat] at q'
  by_cases hlt : v.toNat < 8 * c.val
  · rw [lej_toNat v c h hlt] at q'
    omega
  · rw [lej_eq v c (v.toNat - 8 * c.val) (by omega), BitVec.toNat_ofNat] at q'
    omega

/-- A token that another device owns has the place past the end. -/
theorem slotW_other (v : BitVec 32) (c : Fin 4) (cum : Fin 8 → BitVec 32) (h : v.toNat < 32) (ho : v.toNat < 8 * c.val ∨ 8 * c.val + 8 ≤ v.toNat) :
    slotW (lej v c) cum = 1024#32 := by
  have hc := c.isLt
  refine if_neg fun q => ?_
  obtain ⟨q1, -⟩ := IntOp.andi_eq_one.1 q
  have a : _ < 8 := range_of_word _ _ (by decide) q1
  rcases ho with ho | ho
  · rw [lej_toNat v c h ho] at a
    omega
  · rw [lej_eq v c (v.toNat - 8 * c.val) (by omega), BitVec.toNat_ofNat] at a
    omega

/-- A token of expert `e` of the device has the place that this expert's running count gives it, less one. -/
theorem place_own (e : Fin 8) (cum : Fin 8 → BitVec 32) (k : ℕ) (hk : cum e = BitVec.ofNat 32 (k + 1)) :
    place (BitVec.ofNat 32 e.val) cum = BitVec.ofNat 32 k := by
  unfold place
  rw [fold_addi, Finset.sum_eq_single e]
  · rw [IntOp.cmpi_eq.2 rfl, hk]
    show BitVec.ofNat 32 (k + 1) - 1#32 = _
    rw [BitVec.ofNat_add]
    exact BitVec.add_sub_cancel _ _
  · intro e' _ hne
    refine if_neg fun q => hne ?_
    have q' := congrArg BitVec.toNat (IntOp.cmpi_eq.1 q)
    have h1 := e.isLt
    have h2 := e'.isLt
    rw [BitVec.toNat_ofNat, BitVec.toNat_ofNat] at q'
    exact Fin.ext (by omega)
  · exact fun q => absurd (Finset.mem_univ e) q

/-- A token of expert `e` of the device, with `k < 128` before it, has slot `128 e + k`. -/
theorem slotW_own (v : BitVec 32) (c : Fin 4) (e : Fin 8) (cum : Fin 8 → BitVec 32) (k : ℕ) (h : v.toNat = 8 * c.val + e.val)
    (hk : cum e = BitVec.ofNat 32 (k + 1)) (hlt : k < 128) : slotW (lej v c) cum = BitVec.ofNat 32 (128 * e.val + k) := by
  have he := e.isLt
  unfold slotW
  rw [lej_eq v c e.val h, place_own e cum k hk]
  have c1 : IntOp.cmpi .sge (BitVec.ofNat 32 e.val) 0#32 = 1#1 := (WordCmp.cmpi_sge_ofNat_eq_one_iff (a := e.val) (b := 0) (by omega) (by omega)).2 (by omega)
  have c2 : IntOp.cmpi .slt (BitVec.ofNat 32 e.val) 8#32 = 1#1 := (WordCmp.cmpi_slt_ofNat_eq_one_iff (a := e.val) (b := 8) (by omega) (by omega)).2 (by omega)
  have c3 : IntOp.cmpi .slt (BitVec.ofNat 32 k) 128#32 = 1#1 := (WordCmp.cmpi_slt_ofNat_eq_one_iff (a := k) (b := 128) (by omega) (by omega)).2 (by omega)
  rw [c1, c2, c3]
  show BitVec.ofNat 32 e.val * 128#32 + BitVec.ofNat 32 k = _
  rw [show (128#32 : BitVec 32) = BitVec.ofNat 32 128 from rfl, ← BitVec.ofNat_mul, ← BitVec.ofNat_add, Nat.mul_comm]

end Cert.KernelIdeal.Moe

end
-- ==== Proof.Host.lean ====
/-
What the host lines before the launch compute on each device: the slot of each token, as a column and as a row, and the weight of its
best expert.
-/
module

public import proofs.«01_k».proof.Proof.Routes
public import proofs.«01_k».proof.Proof.Gen.KernelIdeal.Regions
public import Idealize.ShloMosaic.Lib.StableHlo.ReadAt

@[expose] public section

noncomputable section

namespace Cert.KernelIdeal.Moe

open Cert.KernelIdeal Cert.KernelIdeal.Gen
open Idealize.ShloMosaic
open Idealize.ShloMosaic.TcCoe

variable (m : (ℓ : Loc nD τ sig) → Buf (Elt Ideal) ℓ)

/-- Device `c`'s copy of the route table. -/
abbrev routes (c : Dev nD) : IVec S2048x1 32 := V0 m c (Proc.devRef .tc main_arg2)

theorem v42_apply (c : Dev nD) (n : Fin 2048) : V7 m c (Proc.devRef .tc main_v42) (ix2 n 0) = V6 m c (Proc.devRef .tc main_v41) (ix1 n) := by
  unfold V7
  generalize V6 m c = V
  after_reads_at

theorem v43_apply (c : Dev nD) (n : Fin 2048) : V7 m c (Proc.devRef .tc main_v43) (ix2 0 n) = V6 m c (Proc.devRef .tc main_v41) (ix1 n) := by
  unfold V7
  generalize V6 m c = V
  after_reads_at

theorem v44_apply (c : Dev nD) (n : Fin 2048) : V7 m c (Proc.devRef .tc main_v44) (ix2 n 0) = V1 m c (Proc.devRef .tc main_v14) (ix1 n) := by
  unfold V7 V6 V5 V4 V3 V2
  generalize V1 m c = V
  after_reads_at

/-- The weight: one over the sum of the exponentials of the scores less the largest. -/
theorem v14_apply (c : Dev nD) (n : Fin 2048) :
    V1 m c (Proc.devRef .tc main_v14) (ix1 n)
      = Ideal.div 1 (∑ e : Fin 32, Ideal.exp (score (V0 m c (Proc.devRef .tc main_arg0)) (V0 m c (Proc.devRef .tc main_arg1)) n e
          - smax (V0 m c (Proc.devRef .tc main_arg0)) (V0 m c (Proc.devRef .tc main_arg1)) n)) := by
  unfold V1
  after_reads_at

/-- The device's number as the host lines compute it. -/
theorem device_word (c : Dev nD) :
    (id (Host.remui (Host.divui (constantI S_ 32 c.word) (constantI S_ 32 1#32)) (constantI S_ 32 4#32)) : IVec S_ 32) ix0 = BitVec.ofNat 32 c.val := by
  match c with
  | 0 => rfl
  | 1 => rfl
  | 2 => rfl
  | 3 => rfl

theorem v17_apply (c : Dev nD) (n : Fin 2048) : V1 m c (Proc.devRef .tc main_v17) (ix1 n) = lej (routes m c (ix2 n 0)) c := by
  have hd := device_word c
  unfold V1
  after_reads_at
  rw [hd]
  rfl

theorem v22_apply (c : Dev nD) (n : Fin 2048) : V1 m c (Proc.devRef .tc main_v22) (ix1 n)
    = IntOp.andi (IntOp.cmpi .sge (lej (routes m c (ix2 n 0)) c) 0#32) (IntOp.cmpi .slt (lej (routes m c (ix2 n 0)) c) 8#32) := by
  have hd := device_word c
  unfold V1
  after_reads_at
  rw [hd]
  rfl

theorem v28_apply (c : Dev nD) (n : Fin 2048) (e : Fin 8) : V1 m c (Proc.devRef .tc main_v28) (ix2 n e)
    = IntOp.cmpi .eq (lej (routes m c (ix2 n 0)) c) (BitVec.ofNat 32 e.val) := by
  have hd := device_word c
  unfold V1
  after_reads_at
  rw [hd]
  rfl

theorem v29_apply (c : Dev nD) (n : Fin 2048) (e : Fin 8) : V1 m c (Proc.devRef .tc main_v29) (ix2 n e)
    = BitVec.setWidth 32 (IntOp.cmpi .eq (lej (routes m c (ix2 n 0)) c) (BitVec.ofNat 32 e.val)) := by
  have hd := device_word c
  unfold V1
  after_reads_at
  rw [hd]
  rfl

/-- The column of widened matches, at expert `e`: one where the route is that expert of the device. -/
theorem v29_bit (c : Dev nD) (hr : ∀ n : Fin 2048, (routes m c (ix2 n 0)).toNat < 32) (e : Fin 8) (n : Fin 2048) :
    V1 m c (Proc.devRef .tc main_v29) (ix2 n e) = if routeAt (routes m c) n.val = 8 * c.val + e.val then 1#32 else 0#32 := by
  rw [v29_apply]
  by_cases h : (routes m c (ix2 n 0)).toNat = 8 * c.val + e.val
  · rw [if_pos ((routeAt_val _ n).trans h), IntOp.cmpi_eq.2 ((lej_iff _ c e (hr n)).2 h)]
    rfl
  · rw [if_neg (fun q => h ((routeAt_val _ n).symm.trans q)),
      (BitVec.eq_zero_or_eq_one _).resolve_right fun q => h ((lej_iff _ c e (hr n)).1 (IntOp.cmpi_eq.1 q))]
    rfl

/-- The tokens before and at `n` of expert `e` of the device, as a word. -/
def cumW (c : Dev nD) (n : Fin 2048) (e : Fin 8) : BitVec 32 :=
  BitVec.ofNat 32 (Nat.count (fun i => routeAt (routes m c) i = 8 * c.val + e.val) (n.val + 1))

theorem v41_apply (c : Dev nD) (hr : ∀ n : Fin 2048, (routes m c (ix2 n 0)).toNat < 32) (n : Fin 2048) :
    V6 m c (Proc.devRef .tc main_v41) (ix1 n) = slotW (lej (routes m c (ix2 n 0)) c) (cumW m c n) := by
  have e17 := v17_apply m c n
  have e22 := v22_apply m c n
  have e28 := v28_apply m c n
  have e29 := v29_bit m c hr
  unfold V6 V5 V4 V3 V2
  generalize V1 m c = V at *
  after_reads_at
  have hw : ∀ e : Fin 8, Host.reduceWindow IntOp.addi ![2048, 1] ![1, 1] ![2047, 0] ![0, 0] (V (Proc.devRef .tc main_v29))
      (broadcastInDim S_ ![] bcast_S_S_ (constantI S_ 32 0#32)) reduceWindows_S2048x8_S2048x8_w2048s1p2047_0_w1s1p0_0 h_S_ (ix2 n e) = cumW m c n e :=
    fun e => column_count _ e _ (e29 e) _ rfl _ _ n
  simp only [hw, e17, e22, e28]
  rfl

end Cert.KernelIdeal.Moe

end
-- ==== Proof.Result.lean ====
/-
What the launch leaves in the result array, and what its windows read: whole arrays, unchanged.
-/
module

public import proofs.«01_k».proof.Proof.Host
public import proofs.«01_k».proof.Proof.Frames
public import Idealize.ShloMosaic.Lib.Pipeline.ValueKit

@[expose] public section

noncomputable section

namespace Cert.KernelIdeal.Moe

open Cert.KernelIdeal Cert.KernelIdeal.Gen
open Idealize.ShloMosaic
open Idealize.ShloMosaic.TcCoe

variable (W : (c : Dev nD) → Valuation τ sig (Elt Ideal))

theorem result_whole (c : Dev nD) : (dats W 0 c).arrAt (5 : Fin 6) cfg0.N = outAll (fam W) c := by
  refine (dats W 0 c).arrAt_eq_of_after_last (5 : Fin 6) t0_0 (by decide +kernel) _ fun j => ?_
  blk_simp
  rfl

theorem emb_0 (i : S2048x1024.Idx) : (win0_0.blk (0 : Fin 1)).view.emb i = i := funext fun a => match a with
  | ⟨0, _⟩ => Fin.ext (by show 0 * 2048 + 1 * (i 0).val = (i 0).val; omega)
  | ⟨1, _⟩ => Fin.ext (by show 0 * 1024 + 1 * (i 1).val = (i 1).val; omega)
theorem emb_1 (i : S2048x1.Idx) : (win0_1.blk (0 : Fin 1)).view.emb i = i := funext fun a => match a with
  | ⟨0, _⟩ => Fin.ext (by show 0 * 2048 + 1 * (i 0).val = (i 0).val; omega)
  | ⟨1, _⟩ => Fin.ext (by show 0 * 1 + 1 * (i 1).val = (i 1).val; omega)
theorem emb_2 (i : S1x2048.Idx) : (win0_2.blk (0 : Fin 1)).view.emb i = i := funext fun a => match a with
  | ⟨0, _⟩ => Fin.ext (by show 0 * 1 + 1 * (i 0).val = (i 0).val; omega)
  | ⟨1, _⟩ => Fin.ext (by show 0 * 2048 + 1 * (i 1).val = (i 1).val; omega)
theorem emb_3 (i : S2048x1.Idx) : (win0_3.blk (0 : Fin 1)).view.emb i = i := funext fun a => match a with
  | ⟨0, _⟩ => Fin.ext (by show 0 * 2048 + 1 * (i 0).val = (i 0).val; omega)
  | ⟨1, _⟩ => Fin.ext (by show 0 * 1 + 1 * (i 1).val = (i 1).val; omega)
theorem emb_4 (i : S1024x1024.Idx) : (win0_4.blk (0 : Fin 1)).view.emb i = i := funext fun a => match a with
  | ⟨0, _⟩ => Fin.ext (by show 0 * 1024 + 1 * (i 0).val = (i 0).val; omega)
  | ⟨1, _⟩ => Fin.ext (by show 0 * 1024 + 1 * (i 1).val = (i 1).val; omega)

theorem fam_x (c : Dev nD) (i : S2048x1024.Idx) : (fam W c).x i = W c (Proc.devRef .tc main_arg0) i :=
  congrArg (W c (Proc.devRef .tc main_arg0)) (emb_0 i)
theorem fam_col (c : Dev nD) (i : S2048x1.Idx) : (fam W c).col i = W c (Proc.devRef .tc main_v42) i :=
  congrArg (W c (Proc.devRef .tc main_v42)) (emb_1 i)
theorem fam_crow (c : Dev nD) (i : S1x2048.Idx) : (fam W c).crow i = W c (Proc.devRef .tc main_v43) i :=
  congrArg (W c (Proc.devRef .tc main_v43)) (emb_2 i)
theorem fam_pw (c : Dev nD) (i : S2048x1.Idx) : (fam W c).pw i = W c (Proc.devRef .tc main_v44) i :=
  congrArg (W c (Proc.devRef .tc main_v44)) (emb_3 i)
theorem fam_sw (c : Dev nD) (i : S1024x1024.Idx) : (fam W c).sw i = W c (Proc.devRef .tc main_arg4) i :=
  congrArg (W c (Proc.devRef .tc main_arg4)) (emb_4 i)

end Cert.KernelIdeal.Moe

end
-- ==== Proof.Gather.lean ====
/-
The reference's two table look-ups read at an index: the entry of a row that an in-range number names, and the expert that it names.
-/
module

public import proofs.«01_k».proof.Proof.Gen.ReferenceIdeal
public import Idealize.ShloMosaic.Lib.Pointwise
public import Idealize.ShloMosaic.Lib.StableHlo.Predicate

@[expose] public section

noncomputable section

namespace Cert.KernelIdeal.Moe

open Cert.ReferenceIdeal Cert.ReferenceIdeal.Gen
open Idealize.ShloMosaic

abbrev gEntry : GatherDims S2048x32 S2048x1x1 S2048x1 := gather_S2048x32_S2048x1x1_S2048x1_n_1_0_0_1_2_11
abbrev gExpert : GatherDims S32x1024x1024 S2048x1 S2048x1024x1024 := gather_S32x1024x1024_S2048x1_S2048x1024x1024_12_0_n_n_0_1_110241024

theorem entry_si (n : Fin 2048) (k : Fin gEntry.startIndexMap.length) : gEntry.siIdx (ix2 n (0 : Fin 1)) k = ix3 n (0 : Fin 1) (0 : Fin 1) :=
  funext fun a => match a with
  | ⟨0, _⟩ => rfl
  | ⟨1, _⟩ => rfl
  | ⟨2, _⟩ => Fin.ext (by have h : k.val < 1 := k.isLt; show k.val = 0; omega)

/-- The entry of row `n` that the number at `n` names. -/
theorem gather_entry {α : Type} (x : S2048x32.Idx → α) (idx : IVec S2048x1x1 32) (n : Fin 2048) (e : Fin 32)
    (h : idx (ix3 n 0 0) = BitVec.ofNat 32 e.val) : Host.gather gEntry x idx (ix2 n (0 : Fin 1)) = x (ix2 n e) := by
  refine congrArg x (funext fun a => Fin.ext ?_)
  match a with
  | ⟨0, _⟩ =>
    show gEntry.start (ix2 n 0) idx 0 + gEntry.batchCoord (ix2 n 0) 0 + gEntry.offCoord (ix2 n 0) 0 = n.val
    have h1 : gEntry.start (ix2 n 0) idx 0 = 0 := by unfold GatherDims.start; rw [dif_neg (by decide)]
    have h2 : gEntry.batchCoord (ix2 n 0) 0 = n.val := rfl
    have h3 : gEntry.offCoord (ix2 n 0) 0 = 0 := rfl
    omega
  | ⟨1, _⟩ =>
    show gEntry.start (ix2 n 0) idx 1 + gEntry.batchCoord (ix2 n 0) 1 + gEntry.offCoord (ix2 n 0) 1 = e.val
    have h1 : gEntry.start (ix2 n 0) idx 1 = e.val := by
      have he := e.isLt
      unfold GatherDims.start
      rw [dif_pos (by decide), entry_si, h, StableHlo.Predicate.toInt_ofNat_small _ (by omega)]
      show min ((e.val : Int)).toNat (32 - 1) = e.val
      omega
    have h2 : gEntry.batchCoord (ix2 n 0) 1 = 0 := rfl
    have h3 : gEntry.offCoord (ix2 n 0) 1 = 0 := rfl
    omega

theorem expert_si (n : Fin 2048) (d h : Fin 1024) (k : Fin gExpert.startIndexMap.length) : gExpert.siIdx (ix3 n d h) k = ix2 n (0 : Fin 1) :=
  funext fun a => match a with
  | ⟨0, _⟩ => rfl
  | ⟨1, _⟩ => Fin.ext (by have h : k.val < 1 := k.isLt; show k.val = 0; omega)

/-- The entry of the expert that the number at `n` names. -/
theorem gather_expert {α : Type} (x : S32x1024x1024.Idx → α) (idx : IVec S2048x1 32) (n : Fin 2048) (d h : Fin 1024) (e : Fin 32)
    (hi : idx (ix2 n 0) = BitVec.ofNat 32 e.val) : Host.gather gExpert x idx (ix3 n d h) = x (ix3 e d h) := by
  refine congrArg x (funext fun a => Fin.ext ?_)
  match a with
  | ⟨0, _⟩ =>
    show gExpert.start (ix3 n d h) idx 0 + gExpert.batchCoord (ix3 n d h) 0 + gExpert.offCoord (ix3 n d h) 0 = e.val
    have h1 : gExpert.start (ix3 n d h) idx 0 = e.val := by
      have he := e.isLt
      unfold GatherDims.start
      rw [dif_pos (by decide), expert_si, hi, StableHlo.Predicate.toInt_ofNat_small _ (by omega)]
      show min ((e.val : Int)).toNat (32 - 1) = e.val
      omega
    have h2 : gExpert.batchCoord (ix3 n d h) 0 = 0 := rfl
    have h3 : gExpert.offCoord (ix3 n d h) 0 = 0 := rfl
    omega
  | ⟨1, _⟩ =>
    show gExpert.start (ix3 n d h) idx 1 + gExpert.batchCoord (ix3 n d h) 1 + gExpert.offCoord (ix3 n d h) 1 = d.val
    have h1 : gExpert.start (ix3 n d h) idx 1 = 0 := by unfold GatherDims.start; rw [dif_neg (by decide)]
    have h2 : gExpert.batchCoord (ix3 n d h) 1 = 0 := rfl
    have h3 : gExpert.offCoord (ix3 n d h) 1 = d.val := rfl
    omega
  | ⟨2, _⟩ =>
    show gExpert.start (ix3 n d h) idx 2 + gExpert.batchCoord (ix3 n d h) 2 + gExpert.offCoord (ix3 n d h) 2 = h.val
    have h1 : gExpert.start (ix3 n d h) idx 2 = 0 := by unfold GatherDims.start; rw [dif_neg (by decide)]
    have h2 : gExpert.batchCoord (ix3 n d h) 2 = 0 := rfl
    have h3 : gExpert.offCoord (ix3 n d h) 2 = h.val := rfl
    omega

end Cert.KernelIdeal.Moe

end
-- ==== Proof.Ref.lean ====
/-
The reference's result at an index.
-/
module

public import proofs.«01_k».proof.Proof.Gather
public import proofs.«01_k».proof.Proof.Pre
public import proofs.«01_k».proof.Proof.Gen.ReferenceIdeal.Run
public import Idealize.ShloMosaic.Lib.StableHlo.ReadAt

@[expose] public section

noncomputable section

namespace Cert.ReferenceIdeal.Moe

open Cert.ReferenceIdeal Cert.ReferenceIdeal.Gen Cert.KernelIdeal.Moe
open Idealize.ShloMosaic
open Idealize.ShloMosaic.TcCoe

/-- A word that holds a number below 32 is not taken for a negative index. -/
theorem wrap_eq (v : BitVec 32) (h : v.toNat < 32) : Scalar.select (IntOp.cmpi .slt v 0#32) (IntOp.addi v 32#32) v = v := by
  refine if_neg fun q => ?_
  have a := IntOp.cmpi_slt.1 q
  rw [show (0#32 : BitVec 32).toInt = 0 by decide, BitVec.toInt_eq_toNat_of_lt (by omega)] at a
  omega

/-- and passes the test for being in range. -/
theorem in_range (v : BitVec 32) (h : v.toNat < 32) : IntOp.andi (IntOp.cmpi .sge v 0#32) (IntOp.cmpi .sle v 31#32) = 1#1 := by
  refine IntOp.andi_eq_one.2 ⟨IntOp.cmpi_sge.2 ?_, IntOp.cmpi_sle.2 ?_⟩
  · rw [show (0#32 : BitVec 32).toInt = 0 by decide, BitVec.toInt_eq_toNat_of_lt (by omega)]
    omega
  · rw [show (31#32 : BitVec 32).toInt = 31 by decide, BitVec.toInt_eq_toNat_of_lt (by omega)]
    omega

theorem exp_zero_ideal : Ideal.exp 0 = 1 := by
  rw [← EReal.coe_zero]
  show ((Real.exp 0 : ℝ) : EReal) = 1
  rw [Real.exp_zero, EReal.coe_one]

/-- The share that token `n` gives its best expert: one over the sum of the exponentials. -/
abbrev share (x : FVec Ideal ⟨2, ![2048, 1024]⟩ .f32) (rw : FVec Ideal ⟨2, ![1024, 32]⟩ .f32) (n : Fin 2048) : EReal :=
  Ideal.div 1 (∑ e : Fin 32, Ideal.exp (score x rw n e - smax x rw n))

/-- The layer's value for token `n`, column `h`, when `e` is the token's expert. -/
abbrev answer (x : FVec Ideal ⟨2, ![2048, 1024]⟩ .f32) (rw : FVec Ideal ⟨2, ![1024, 32]⟩ .f32) (ew : FVec Ideal ⟨3, ![32, 1024, 1024]⟩ .f32)
    (sw : FVec Ideal ⟨2, ![1024, 1024]⟩ .f32) (n : Fin 2048) (h : Fin 1024) (e : Fin 32) : EReal :=
  (∑ d : Fin 1024, x (ix2 n d) * sw (ix2 d h)) + share x rw n * ∑ d : Fin 1024, x (ix2 n d) * ew (ix3 e d h)

variable (V : Valuation τ sig (Elt Ideal))

/-- Token `n`'s result in column `h`: the shared product and the weighted product with the expert `e` that the table names. -/
theorem ref_apply (hr : Routed (V (Proc.devRef .tc main_arg0)) (V (Proc.devRef .tc main_arg1)) (V (Proc.devRef .tc main_arg2)))
    (n : Fin 2048) (h : Fin 1024) (e : Fin 32) (he : ((V (Proc.devRef .tc main_arg2) : IVec S2048x1 32) (ix2 n 0)).toNat = e.val) :
    StableHlo.after Cert.ReferenceIdeal.Value.ops V (Proc.devRef .tc main_v23) (ix2 n h)
      = answer (V (Proc.devRef .tc main_arg0)) (V (Proc.devRef .tc main_arg1)) (V (Proc.devRef .tc main_arg3)) (V (Proc.devRef .tc main_arg4)) n h e := by
  have hlt := hr.range n
  have hw := wrap_eq _ hlt
  have hin := in_range _ hlt
  have hv : (V (Proc.devRef .tc main_arg2) : IVec S2048x1 32) (ix2 n 0) = BitVec.ofNat 32 e.val := by
    rw [← he, BitVec.ofNat_toNat, BitVec.setWidth_eq]
  after_reads_at
  refine congrArg₂ (· + ·) rfl (congrArg₂ (· * ·) ?_ (Finset.sum_congr rfl fun d _ => congrArg _ ?_))
  · rw [hw, hin]
    have h1 : Finset.fold IntOp.andi (1#1) (fun _ : Fin 1 => (1#1 : BitVec 1)) Finset.univ = 1#1 := by decide
    refine (if_pos h1).trans ?_
    refine (gather_entry _ _ n e (hw.trans hv)).trans ?_
    pointwise
    have hE : Ideal.exp (score (V (Proc.devRef .tc main_arg0)) (V (Proc.devRef .tc main_arg1)) n e
        - smax (V (Proc.devRef .tc main_arg0)) (V (Proc.devRef .tc main_arg1)) n) = 1 := by
      rw [hr.best n e he, EReal.sub_self (hr.finite n).1 (hr.finite n).2, exp_zero_ideal]
    exact congrArg (fun t => Ideal.div t _) hE
  · exact gather_expert _ _ n d h e (hw.trans hv)

end Cert.ReferenceIdeal.Moe

end
-- ==== Proof.Value.lean ====
/-
The two values compared: on every device the launch leaves, for each token, the shared product plus the weighted product with the
token's expert. Exactly one device owns that expert; there the token has a row to itself, elsewhere it has none.
-/
module

public import proofs.«01_k».proof.Proof.Result
public import proofs.«01_k».proof.Proof.Dispatch
public import proofs.«01_k».proof.Proof.Ref

@[expose] public section

noncomputable section

namespace Cert.KernelIdeal.Moe

open Cert.KernelIdeal Cert.KernelIdeal.Gen
open Idealize.ShloMosaic
open Idealize.ShloMosaic.TcCoe
open Cert.ReferenceIdeal.Moe (share answer)

variable (m : (ℓ : Loc nD τ sig) → Buf (Elt Ideal) ℓ)

/-- Token `i` goes to expert `e` of device `c`. -/
abbrev Goes (c : Dev nD) (e : Fin 8) (i : ℕ) : Prop := routeAt (routes m c) i = 8 * c.val + e.val

/-- A device's slots as the launch reads them, as a column; -/
theorem col_apply (c : Dev nD) (hr : ∀ n : Fin 2048, (routes m c (ix2 n 0)).toNat < 32) (n : Fin 2048) :
    (fam (V7 m) c).col (ix2 n 0) = slotW (lej (routes m c (ix2 n 0)) c) (cumW m c n) :=
  (fam_col (V7 m) c (ix2 n 0)).trans ((v42_apply m c n).trans (v41_apply m c hr n))

/-- the row holds the same. -/
theorem crow_apply (c : Dev nD) (n : Fin 2048) : (fam (V7 m) c).crow (ix2 0 n) = (fam (V7 m) c).col (ix2 n 0) :=
  (fam_crow (V7 m) c (ix2 0 n)).trans ((v43_apply m c n).trans ((v42_apply m c n).symm.trans (fam_col (V7 m) c (ix2 n 0)).symm))

/-- Where an expert gets at most 128 tokens, fewer than 128 come before any of its tokens. -/
theorem count_lt (c : Dev nD) (e : Fin 8) (n : Fin 2048) (hf : Nat.count (Goes m c e) 2048 ≤ 128) (h : Goes m c e n.val) :
    Nat.count (Goes m c e) n.val < 128 :=
  calc Nat.count (Goes m c e) n.val < Nat.count (Goes m c e) (n.val + 1) := by rw [Nat.count_succ, if_pos h]; omega
    _ ≤ Nat.count (Goes m c e) 2048 := Nat.count_monotone _ n.isLt
    _ ≤ 128 := hf

/-- The slot of a token of the device: its expert's rows, at the number of that expert's tokens before it. -/
theorem col_own (c : Dev nD) (hr : ∀ n : Fin 2048, (routes m c (ix2 n 0)).toNat < 32) (e : Fin 8) (n : Fin 2048)
    (hf : Nat.count (Goes m c e) 2048 ≤ 128) (h : Goes m c e n.val) :
    (fam (V7 m) c).col (ix2 n 0) = BitVec.ofNat 32 (128 * e.val + Nat.count (Goes m c e) n.val) := by
  rw [col_apply m c hr n]
  refine slotW_own _ c e _ _ ((routeAt_val _ n).symm.trans h) ?_ (count_lt m c e n hf h)
  show BitVec.ofNat 32 (Nat.count (Goes m c e) (n.val + 1)) = _
  rw [Nat.count_succ, if_pos h]

/-- A token of another device has the slot that no row matches. -/
theorem col_other (c : Dev nD) (hr : ∀ n : Fin 2048, (routes m c (ix2 n 0)).toNat < 32) (n : Fin 2048) (h : ∀ e : Fin 8, ¬ Goes m c e n.val) :
    (fam (V7 m) c).col (ix2 n 0) = 1024#32 := by
  rw [col_apply m c hr n]
  refine slotW_other _ c _ (hr n) ?_
  by_contra q
  refine h ⟨(routes m c (ix2 n 0)).toNat - 8 * c.val, by omega⟩ ?_
  show routeAt (routes m c) n.val = 8 * c.val + ((routes m c (ix2 n 0)).toNat - 8 * c.val)
  rw [routeAt_val]
  omega

/-- Two tokens of a device never share a slot. -/
theorem col_ne (c : Dev nD) (hr : ∀ n : Fin 2048, (routes m c (ix2 n 0)).toNat < 32) (hf : ∀ e : Fin 8, Nat.count (Goes m c e) 2048 ≤ 128)
    (e : Fin 8) (n n' : Fin 2048) (h : Goes m c e n.val) (hn : n' ≠ n) :
    (fam (V7 m) c).col (ix2 n' 0) ≠ BitVec.ofNat 32 (128 * e.val + Nat.count (Goes m c e) n.val) := by
  have hk := count_lt m c e n (hf e) h
  have he := e.isLt
  intro q
  by_cases h' : ∃ e' : Fin 8, Goes m c e' n'.val
  · obtain ⟨e', h'⟩ := h'
    have hk' := count_lt m c e' n' (hf e') h'
    have he' := e'.isLt
    rw [col_own m c hr e' n' (hf e') h'] at q
    have q' := congrArg BitVec.toNat q
    rw [BitVec.toNat_ofNat, BitVec.toNat_ofNat, Nat.mod_eq_of_lt (by omega), Nat.mod_eq_of_lt (by omega)] at q'
    obtain rfl : e' = e := Fin.ext (by omega)
    exact hn (Fin.ext (Nat.count_injective h' h (by omega)))
  · rw [col_other m c hr n' (not_exists.1 h')] at q
    have q' := congrArg BitVec.toNat q
    rw [BitVec.toNat_ofNat, BitVec.toNat_ofNat, Nat.mod_eq_of_lt (by omega), Nat.mod_eq_of_lt (by omega)] at q'
    omega

/-- The owner's contribution for a token is the weighted product with the token's expert. -/
theorem pE_own (c : Dev nD) (hr : ∀ n : Fin 2048, (routes m c (ix2 n 0)).toNat < 32) (hf : ∀ e : Fin 8, Nat.count (Goes m c e) 2048 ≤ 128)
    (e : Fin 8) (n : Fin 2048) (h : Fin 1024) (hg : Goes m c e n.val) :
    pE (fam (V7 m)) c n h = ((fam (V7 m) c).pw (ix2 n 0) : EReal)
      * ∑ d : Fin 1024, ((fam (V7 m) c).x (ix2 n d) : EReal) * ((fam (V7 m) c).ew (ix3 e d h) : EReal) := by
  have hk := count_lt m c e n (hf e) hg
  have he := e.isLt
  have hs := pE_hit (fam (V7 m)) c n ⟨128 * e.val + Nat.count (Goes m c e) n.val, by omega⟩ h (crow_apply m c) (col_own m c hr e n (hf e) hg)
    fun n' hn => col_ne m c hr hf e n n' hg hn
  have hx : expertOf ⟨128 * e.val + Nat.count (Goes m c e) n.val, by omega⟩ = e :=
    Fin.ext (by show (128 * e.val + Nat.count (Goes m c e) n.val) / 128 = e.val; omega)
  rw [hx] at hs
  exact hs

/-- Any other device contributes nothing. -/
theorem pE_other (c : Dev nD) (hr : ∀ n : Fin 2048, (routes m c (ix2 n 0)).toNat < 32) (n : Fin 2048) (h : Fin 1024)
    (hg : ∀ e : Fin 8, ¬ Goes m c e n.val) : pE (fam (V7 m)) c n h = 0 :=
  pE_miss (fam (V7 m)) c n h (col_other m c hr n hg)

section
variable (x : FVec Ideal S2048x1024 .f32) (rw : FVec Ideal S1024x32 .f32) (r : IVec S2048x1 32)
  (ew : FVec Ideal ⟨3, ![32, 1024, 1024]⟩ .f32) (sw : FVec Ideal S1024x1024 .f32)

/-- Every device holds the tokens, the router, the route table and the shared weights whole, and its block of the experts. -/
structure Holds : Prop where
  x : ∀ c : Dev nD, m ((c.tc : Thread nD τ).loc main_arg0) = x
  rw : ∀ c : Dev nD, m ((c.tc : Thread nD τ).loc main_arg1) = rw
  r : ∀ c : Dev nD, m ((c.tc : Thread nD τ).loc main_arg2) = r
  ew : ∀ c : Dev nD, m ((c.tc : Thread nD τ).loc main_arg3) = Layout.block ⟨3, ![8, 1024, 1024]⟩ ⟨3, ![32, 1024, 1024]⟩ 0 4 c ew
  sw : ∀ c : Dev nD, m ((c.tc : Thread nD τ).loc main_arg4) = sw

variable {m x rw r ew sw} (H : Holds m x rw r ew sw)
include H

theorem Holds.x_apply (c : Dev nD) (i : S2048x1024.Idx) : (fam (V7 m) c).x i = x i :=
  (fam_x (V7 m) c i).trans (congrFun ((before_arg0 m c).trans (H.x c)) i)
theorem Holds.sw_apply (c : Dev nD) (i : S1024x1024.Idx) : (fam (V7 m) c).sw i = sw i :=
  (fam_sw (V7 m) c i).trans (congrFun ((before_arg4 m c).trans (H.sw c)) i)
theorem Holds.pw_apply (c : Dev nD) (n : Fin 2048) : (fam (V7 m) c).pw (ix2 n 0) = share x rw n := by
  refine (fam_pw (V7 m) c (ix2 n 0)).trans ((v44_apply m c n).trans ((v14_apply m c n).trans ?_))
  rw [show V0 m c (Proc.devRef .tc main_arg0) = x from H.x c, show V0 m c (Proc.devRef .tc main_arg1) = rw from H.rw c]
/-- Expert `e` of device `c` is expert `8 c + e` of the whole. -/
theorem Holds.ew_apply (c : Dev nD) (e : Fin 8) (E : Fin 32) (hE : E.val = 8 * c.val + e.val) (d h : Fin 1024) :
    (fam (V7 m) c).ew (ix3 e d h) = ew (ix3 E d h) := by
  have hb : (fam (V7 m) c).ew = Layout.block ⟨3, ![8, 1024, 1024]⟩ ⟨3, ![32, 1024, 1024]⟩ 0 4 c ew := (before_arg3 m c).trans (H.ew c)
  rw [hb, Layout.block_apply]
  refine congrArg ew (funext fun a => ?_)
  match a with
  | ⟨0, _⟩ => exact Fin.ext (by show c.val * 8 + e.val = E.val; omega)
  | ⟨1, _⟩ => exact Fin.ext rfl
  | ⟨2, _⟩ => exact Fin.ext rfl

/-- What any device finishes for token `n`, column `h` is the layer's value there. -/
theorem Holds.total_eq (R : Routed x rw r) (c : Dev nD) (n : Fin 2048) (h : Fin 1024) (E : Fin 32) (hE : (r (ix2 n 0)).toNat = E.val) :
    total (fam (V7 m)) c n h = answer x rw ew sw n h E := by
  have hEl := E.isLt
  have hroutes : ∀ c : Dev nD, routes m c = r := H.r
  have hr : ∀ (c : Dev nD) (n : Fin 2048), (routes m c (ix2 n 0)).toNat < 32 := fun c n => by rw [hroutes c]; exact R.range n
  have hat : ∀ c : Dev nD, routeAt (routes m c) n.val = E.val := fun c => by rw [hroutes c, routeAt_val, hE]
  have hf : ∀ (c : Dev nD) (e : Fin 8), Nat.count (Goes m c e) 2048 ≤ 128 := fun c e => by
    have hc : c.val < 4 := c.isLt
    have := R.fits ⟨8 * c.val + e.val, by omega⟩
    show Nat.count (fun i => routeAt (routes m c) i = 8 * c.val + e.val) 2048 ≤ 128
    rw [hroutes c]
    exact this
  have hsum : ∑ d, pE (fam (V7 m)) d n h = share x rw n * ∑ d : Fin 1024, (x (ix2 n d) : EReal) * (ew (ix3 E d h) : EReal) := by
    rw [Finset.sum_eq_single (⟨E.val / 8, by show E.val / 8 < 4; omega⟩ : Dev nD)]
    · rw [pE_own m _ (hr _) (hf _) ⟨E.val % 8, by omega⟩ n h ((hat _).trans (by show E.val = 8 * (E.val / 8) + E.val % 8; omega)), H.pw_apply]
      refine congrArg _ (Finset.sum_congr rfl fun d _ => ?_)
      rw [H.x_apply, H.ew_apply _ _ E (by show E.val = 8 * (E.val / 8) + E.val % 8; omega)]
    · intro d _ hd
      refine pE_other m d (hr d) n h fun e he => hd (Fin.ext ?_)
      have hq : E.val = 8 * d.val + e.val := (hat d).symm.trans he
      show d.val = E.val / 8
      omega
    · exact fun q => absurd (Finset.mem_univ _) q
  have hsh : shE (fam (V7 m)) c n h = ∑ d : Fin 1024, (x (ix2 n d) : EReal) * (sw (ix2 d h) : EReal) := by
    unfold shE
    exact Finset.sum_congr rfl fun d _ => by rw [H.x_apply, H.sw_apply]
  unfold total
  rw [hsum, hsh, add_comm]

/-- So the launch leaves the layer's value on every device. -/
theorem Holds.result (R : Routed x rw r) (c : Dev nD) (n : Fin 2048) (h : Fin 1024) (E : Fin 32) (hE : (r (ix2 n 0)).toNat = E.val) :
    (dats (V7 m) 0 c).arrAt (5 : Fin 6) cfg0.N (ix2 n h) = answer x rw ew sw n h E := by
  rw [result_whole]
  obtain ⟨d, hd⟩ := outAll_apply (fam (V7 m)) c n h
  exact hd.trans (H.total_eq R d n h E hE)

end

end Cert.KernelIdeal.Moe

end
-- ==== Proof.Algebraic.lean ====
/-
The value claim: from memories that hold the layer's operands as the mesh cuts them, every device's result is the reference's.
-/
module

public import proofs.«01_k».proof.Defs
public import proofs.«01_k».proof.Proof.Value

@[expose] public section

noncomputable section

namespace Cert.ReferenceIdeal.Moe

open Cert.ReferenceIdeal Cert.ReferenceIdeal.Gen
open Idealize.ShloMosaic
open Idealize.ShloMosaic.TcCoe
open Idealize.SL.Sem
open Idealize.ShloMosaic.StableHlo

variable (m : (ℓ : Loc nD τ sig) → Buf (Elt Ideal) ℓ) (g : Dev nD → PrngReg)

attribute [local instance] Cert.ReferenceIdeal.Gen.facts

/-- What the reference leaves in its result array. -/
def result : FVec Ideal S2048x1024 .f32 := after Cert.ReferenceIdeal.Value.ops (fun b => m ((0 : Dev nD), b)) (Proc.devRef .tc main_v23)

set_option maxRecDepth 8192 in
set_option maxHeartbeats 2000000 in
/-- The reference ends with that in its result array and its arguments unchanged. -/
theorem run_result : θ_run defs (onTc (τ := τ) (main (F := Ideal))) ⟨m, fun _ => 0, g⟩ (fun r =>
    r.2.mem (((0 : Dev nD).tc : Thread nD τ).loc main_v23) = result m
    ∧ r.2.mem (((0 : Dev nD).tc : Thread nD τ).loc main_arg0) = m (((0 : Dev nD).tc : Thread nD τ).loc main_arg0)
    ∧ r.2.mem (((0 : Dev nD).tc : Thread nD τ).loc main_arg1) = m (((0 : Dev nD).tc : Thread nD τ).loc main_arg1)
    ∧ r.2.mem (((0 : Dev nD).tc : Thread nD τ).loc main_arg2) = m (((0 : Dev nD).tc : Thread nD τ).loc main_arg2)
    ∧ r.2.mem (((0 : Dev nD).tc : Thread nD τ).loc main_arg3) = m (((0 : Dev nD).tc : Thread nD τ).loc main_arg3)
    ∧ r.2.mem (((0 : Dev nD).tc : Thread nD τ).loc main_arg4) = m (((0 : Dev nD).tc : Thread nD τ).loc main_arg4)) :=
  (θ_run defs _ _).mono (fun r h => ⟨(h 0).1.trans (Eq.symm (by
    unfold result
    simp only [Cert.ReferenceIdeal.Value.ops, TRef.binary, TRef.nullary, TRef.reshape, TRef.ternary, TRef.unary, TRef.toBuf, TRef.ofBuf, cast_eq]
    after_results_simp <;> rfl)), (h 0).2⟩) (Cert.ReferenceIdeal.Value.run (F := Ideal) m g)

end Cert.ReferenceIdeal.Moe

namespace Cert.KernelIdeal.Moe

open Idealize.ShloMosaic
open Idealize.ShloMosaic.TcCoe
open Idealize.SL.Sem

attribute [local instance] Cert.Kernel.Gen.facts Cert.KernelIdeal.Gen.facts Cert.ReferenceIdeal.Gen.facts facts_pre

/-- The shape relations of the same precondition of the whole arrays hold. -/
theorem facts_pre_whole : Cert.Pre_routed_to_argmax_ReferenceIdeal.Facts where
  reducesTo_S2048x32_S2048_d1 := by decide
  h_S_ := by decide
  bcast_S2048_S2048x1_0 := by decide
  bcast_S32_S1x32_1 := by decide
  bcast_S2048x1_S2048x32_0_1 := by decide
  bcast_S1x32_S2048x32_0_1 := by decide
  bcast_S_S2048x1 := by decide
  reducesTo_S2048x1_S_d0_1 := by decide
  reducesTo_S2048x32_S_d0_1 := by decide
  natLt_1_32 := by decide
  reducesTo_S2048x32_S32_d0 := by decide
  bcast_S_S32 := by decide
  reducesTo_S32_S_d0 := by decide
  dot_S2048x1024_S1024x32_S2048x32_1_0_0_1_n_n_wf := by decide

/-- Under the precondition every device ends with the reference's result. -/
theorem algebraic : Cert.algebraic_KernelIdeal_ReferenceIdeal_pre_routed_to_argmax_KernelIdeal := by
  intro m g m' g' hpre hin
  have H : Holds m _ _ _ _ _ := ⟨fun c => (hin c).1, fun c => (hin c).2.1, fun c => (hin c).2.2.1, fun c => (hin c).2.2.2.1, fun c => (hin c).2.2.2.2⟩
  have R := routed_of_pre _ _ _ _ _ (hpre 0)
  rw [H.x 0, H.rw 0, H.r 0] at R
  refine ⟨Cert.ReferenceIdeal.Moe.result m', (θ_run _ _ _).mono (fun r h c => ⟨((h.1 c).1).trans ?_, (h.1 c).2⟩) (run_main (F := Ideal) m g),
    Cert.ReferenceIdeal.Moe.run_result m' g'⟩
  funext i
  have hi : i = ix2 (i 0) (i 1) := funext fun a => match a with | ⟨0, _⟩ => rfl | ⟨1, _⟩ => rfl
  rw [hi]
  exact (H.result R c (i 0) (i 1) ⟨_, R.range (i 0)⟩ rfl).trans
    (Cert.ReferenceIdeal.Moe.ref_apply (fun b => m' ((0 : Dev Cert.ReferenceIdeal.nD), b)) R (i 0) (i 1) ⟨_, R.range (i 0)⟩ rfl).symm

end Cert.KernelIdeal.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.KernelIdeal.Moe.facts_pre,
  Cert.KernelIdeal.Moe.facts_pre_whole, Cert.KernelIdeal.Moe.frame_kernel, Cert.KernelIdeal.Moe.frame_kernelIdeal,
  fun m g _ => Cert.KernelIdeal.Moe.frame_kernelIdeal m g trivial, Cert.KernelIdeal.Moe.frame_reference,
  fun m g _ => Cert.KernelIdeal.Moe.frame_reference m g trivial, trivial, Cert.KernelIdeal.Moe.algebraic⟩

end Cert.Proof

end
